-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_meta_finite [hPre_meta_finite : Cert.Pre_meta_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_meta_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_meta_finite [hPre_meta_finite : Cert.Pre_meta_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_meta_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_meta_finite [hKernel2Ideal : Cert.Kernel2Ideal.Facts] [hPre_meta_finite : Cert.Pre_meta_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_meta_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_meta_finite [hReference2Ideal : Cert.Reference2Ideal.Facts] [hPre_meta_finite : Cert.Pre_meta_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_meta_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  IdealRules.named_const.Statement Cert.Kernel2Ideal.κ "ortho" .f32 0x3AB450FC#32 (((Real.sqrt 528384)⁻¹ : ℝ) : EReal)

def algebraic_Kernel2Ideal_Reference2Ideal_pre_meta_finite [hKernel2Ideal : Cert.Kernel2Ideal.Facts] [hReference2Ideal : Cert.Reference2Ideal.Facts] [hPre_meta_finite : Cert.Pre_meta_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_meta_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v63)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v63) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v21) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v126) = v0 c
          ∧ r.2.mem ((c.tc : Thread Cert.Reference3Ideal.nD Cert.Reference3Ideal.τ).loc Cert.Reference3Ideal.main_v127) = v1 c
          ∧ r.2.mem ((c.tc : Thread Cert.Reference3Ideal.nD Cert.Reference3Ideal.τ).loc Cert.Reference3Ideal.main_v128) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_meta_finite : Cert.Pre_meta_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_meta_finite (hKernel2Ideal := hKernel2Ideal) (hPre_meta_finite := hPre_meta_finite)
    ∧ quiescent_Reference2Ideal (hReference2Ideal := hReference2Ideal)
    ∧ quiescent_Reference2Ideal_pre_meta_finite (hReference2Ideal := hReference2Ideal) (hPre_meta_finite := hPre_meta_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_meta_finite (hKernel2Ideal := hKernel2Ideal) (hReference2Ideal := hReference2Ideal) (hPre_meta_finite := hPre_meta_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_meta_finite.lean ====
abbrev S8192x6144 : Shape := ⟨2, ![8192, 6144]⟩
abbrev S16x6144 : Shape := ⟨2, ![16, 6144]⟩
abbrev S_ : Shape := ⟨0, ![]⟩

class Facts : Prop where
  bitsLt_bf16_f32 : FTy.bits .bf16 < FTy.bits .f32
  bcast_S_S16x6144 : S_.BroadcastsInDim S16x6144 (![] : Fin 0 → Fin S16x6144.rank)
  reducesTo_S16x6144_S_d0_1 : S16x6144.ReducesTo [0, 1] S_
  h_S_ : 0 < S_.numel

variable [Facts]

def fn {F : FTy → Type} [FloatOps F] (main_arg0 : FVec F S8192x6144 .bf16) (main_arg1 : FVec F S16x6144 .bf16) : IVec S_ 1 :=
  let main_v0 : FVec F S16x6144 .f32 := (extf .f32 · bitsLt_bf16_f32) main_arg1
  let main_v1 : FVec F S16x6144 .f32 := Host.absf main_v0
  let main_cst : FVec F S_ .f32 := constant S_ .f32 0x7F800000#32
  let main_v2 : FVec F S16x6144 .f32 := broadcastInDim S16x6144 ![] bcast_S_S16x6144 main_cst
  let main_v3 : IVec S16x6144 1 := cmpf .olt main_v1 main_v2
  let main_c : IVec S_ 1 := constantI S_ 1 1#1
  let main_v4 : IVec S_ 1 := (fun x v => Host.reduce IntOp.andi x v reducesTo_S16x6144_S_d0_1 h_S_) main_v3 main_c
  main_v4
-- ==== Kernel.lean ====
abbrev S1x16384x2048 : Shape := ⟨3, ![1, 16384, 2048]⟩
abbrev S16384x1024 : Shape := ⟨2, ![16384, 1024]⟩
abbrev S2048 : Shape := ⟨1, ![2048]⟩
abbrev S1x2048x10272 : Shape := ⟨3, ![1, 2048, 10272]⟩
abbrev S1x4096 : Shape := ⟨2, ![1, 4096]⟩
abbrev S1x128 : Shape := ⟨2, ![1, 128]⟩
abbrev S1x1024x2048 : Shape := ⟨3, ![1, 1024, 2048]⟩
abbrev S1x2048x2048 : Shape := ⟨3, ![1, 2048, 2048]⟩
abbrev S1x2048 : Shape := ⟨2, ![1, 2048]⟩
abbrev S2048x10272 : Shape := ⟨2, ![2048, 10272]⟩
abbrev S10272x2048 : Shape := ⟨2, ![10272, 2048]⟩
abbrev S128 : Shape := ⟨1, ![128]⟩
abbrev S4096 : Shape := ⟨1, ![4096]⟩
abbrev S1024x2048 : Shape := ⟨2, ![1024, 2048]⟩
abbrev S2048x2048 : Shape := ⟨2, ![2048, 2048]⟩
abbrev S16384x2048 : Shape := ⟨2, ![16384, 2048]⟩
abbrev S16384x6144 : Shape := ⟨2, ![16384, 6144]⟩
abbrev S16384x128 : Shape := ⟨2, ![16384, 128]⟩
abbrev S512x2048 : Shape := ⟨2, ![512, 2048]⟩
abbrev S4096x2048 : Shape := ⟨2, ![4096, 2048]⟩
abbrev S128x2048 : Shape := ⟨2, ![128, 2048]⟩
abbrev S512x6144 : Shape := ⟨2, ![512, 6144]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩
abbrev S256x2048 : Shape := ⟨2, ![256, 2048]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1x512 : Shape := ⟨2, ![1, 512]⟩
abbrev S1024x512 : Shape := ⟨2, ![1024, 512]⟩

abbrev nBuf : Space → Nat
  | .hbm => 38
  | .vmem => 44
  | .smem => 0
  | _ => 0

abbrev bufTy : (tb : Table) → Fin (tcTables nBuf tb) → BufTy
  | .hbm, ⟨0, _⟩ => ⟨S1x16384x2048, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S2048, .f32⟩
  | .hbm, ⟨5, _⟩ => ⟨S2048, .f32⟩
  | .hbm, ⟨6, _⟩ => ⟨S1x2048x10272, .f32⟩
  | .hbm, ⟨7, _⟩ => ⟨S1x4096, .f32⟩
  | .hbm, ⟨8, _⟩ => ⟨S1x128, .f32⟩
  | .hbm, ⟨9, _⟩ => ⟨S1x1024x2048, .f32⟩
  | .hbm, ⟨10, _⟩ => ⟨S1x1024x2048, .f32⟩
  | .hbm, ⟨11, _⟩ => ⟨S1x2048x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S2048x10272, .f32⟩
  | .hbm, ⟨17, _⟩ => ⟨S10272x2048, .f32⟩
  | .hbm, ⟨18, _⟩ => ⟨S10272x2048, .bf16⟩
  | .hbm, ⟨19, _⟩ => ⟨S128, .f32⟩
  | .hbm, ⟨20, _⟩ => ⟨S1x128, .f32⟩
  | .hbm, ⟨21, _⟩ => ⟨S4096, .f32⟩
  | .hbm, ⟨22, _⟩ => ⟨S1x4096, .f32⟩
  | .hbm, ⟨23, _⟩ => ⟨S1024x2048, .f32⟩
  | .hbm, ⟨24, _⟩ => ⟨S1024x2048, .bf16⟩
  | .hbm, ⟨25, _⟩ => ⟨S1024x2048, .f32⟩
  | .hbm, ⟨26, _⟩ => ⟨S1024x2048, .bf16⟩
  | .hbm, ⟨27, _⟩ => ⟨S2048x2048, .f32⟩
  | .hbm, ⟨28, _⟩ => ⟨S2048x2048, .bf16⟩
  | .hbm, ⟨29, _⟩ => ⟨S2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S16384x2048, .f32⟩
  | .hbm, ⟨34, _⟩ => ⟨S16384x6144, .bf16⟩
  | .hbm, ⟨35, _⟩ => ⟨S16384x128, .f32⟩
  | .hbm, ⟨36, _⟩ => ⟨S16384x2048, .bf16⟩
  | .hbm, ⟨37, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S4096x2048, .bf16⟩
  | .local _ .vmem, ⟨5, _⟩ => ⟨S2048x2048, .bf16⟩
  | .local _ .vmem, ⟨6, _⟩ => ⟨S128x2048, .bf16⟩
  | .local _ .vmem, ⟨7, _⟩ => ⟨S512x6144, .bf16⟩
  | .local _ .vmem, ⟨8, _⟩ => ⟨S512x6144, .bf16⟩
  | .local _ .vmem, ⟨9, _⟩ => ⟨S512x128, .f32⟩
  | .local _ .vmem, ⟨10, _⟩ => ⟨S512x128, .f32⟩
  | .local _ .vmem, ⟨11, _⟩ => ⟨S512x2048, .bf16⟩
  | .local _ .vmem, ⟨12, _⟩ => ⟨S512x2048, .bf16⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S256x128, .f32⟩
  | .local _ .vmem, ⟨18, _⟩ => ⟨S256x128, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S1x2048, .f32⟩
  | .local _ .vmem, ⟨30, _⟩ => ⟨S1x2048, .f32⟩
  | .local _ .vmem, ⟨31, _⟩ => ⟨S1x128, .f32⟩
  | .local _ .vmem, ⟨32, _⟩ => ⟨S4096x2048, .bf16⟩
  | .local _ .vmem, ⟨33, _⟩ => ⟨S1x4096, .f32⟩
  | .local _ .vmem, ⟨34, _⟩ => ⟨S1024x2048, .bf16⟩
  | .local _ .vmem, ⟨35, _⟩ => ⟨S1024x2048, .bf16⟩
  | .local _ .vmem, ⟨36, _⟩ => ⟨S2048x2048, .bf16⟩
  | .local _ .vmem, ⟨37, _⟩ => ⟨S1x2048, .f32⟩
  | .local _ .vmem, ⟨38, _⟩ => ⟨S1x2048, .f32⟩
  | .local _ .vmem, ⟨39, _⟩ => ⟨S256x2048, .f32⟩
  | .local _ .vmem, ⟨40, _⟩ => ⟨S256x2048, .f32⟩
  | .local _ .vmem, ⟨41, _⟩ => ⟨S256x1024, .bf16⟩
  | .local _ .vmem, ⟨42, _⟩ => ⟨S256x1024, .bf16⟩
  | .local _ .vmem, ⟨43, _⟩ => ⟨S256x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_stg14_0 : Ref sig .tc := ⟨.vmem, 35, rfl⟩
abbrev cc1_stg15_0 : Ref sig .tc := ⟨.vmem, 36, rfl⟩
abbrev cc1_stg16_0 : Ref sig .tc := ⟨.vmem, 37, rfl⟩
abbrev cc1_stg17_0 : Ref sig .tc := ⟨.vmem, 38, rfl⟩
abbrev cc1_stg18_0 : Ref sig .tc := ⟨.vmem, 39, rfl⟩
abbrev cc1_stg18_1 : Ref sig .tc := ⟨.vmem, 40, rfl⟩
abbrev cc1_scratch0 : Ref sig .tc := ⟨.vmem, 41, rfl⟩
abbrev cc1_scratch1 : Ref sig .tc := ⟨.vmem, 42, rfl⟩
abbrev cc1_scratch2 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem13_0 : DmaSem sig := 34
abbrev cc1_sem14_0 : DmaSem sig := 35
abbrev cc1_sem15_0 : DmaSem sig := 36
abbrev cc1_sem16_0 : DmaSem sig := 37
abbrev cc1_sem17_0 : DmaSem sig := 38
abbrev cc1_sem18_0 : DmaSem sig := 39
abbrev cc1_sem18_1 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4128_i32 : BitVec 32 := 4128#32
  let c0_i32 : BitVec 32 := 0#32
  let c0_i32_0 : BitVec 32 := 0#32
  ![c4128_i32.toNat, c0_i32.toNat]

def cc0_transform_5 (i : grid0.Coords) : Fin 2 → Nat :=
  let arg0 : BitVec 32 := BitVec.ofNat 32 (i 0).val
  let c4096_i32 : BitVec 32 := 4096#32
  let c0_i32 : BitVec 32 := 0#32
  let c0_i32_0 : BitVec 32 := 0#32
  ![c4096_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_6 (i : grid1.Coords) : Fin 2 → Nat :=
  let arg0 : BitVec 32 := BitVec.ofNat 32 (i 0).val
  let c5_i32 : BitVec 32 := 5#32
  let c0_i32 : BitVec 32 := 0#32
  ![arg0.toNat, c5_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c6176_i32 : BitVec 32 := 6176#32
  let c0_i32 : BitVec 32 := 0#32
  let c0_i32_0 : BitVec 32 := 0#32
  ![c6176_i32.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4096x2048 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x4096 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1024x2048 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1024x2048 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S2048x2048 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x2048 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x2048 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S256x2048 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]
-- ==== KernelIdeal.lean ====
abbrev S1x16384x2048 : Shape := ⟨3, ![1, 16384, 2048]⟩
abbrev S16384x1024 : Shape := ⟨2, ![16384, 1024]⟩
abbrev S2048 : Shape := ⟨1, ![2048]⟩
abbrev S1x2048x10272 : Shape := ⟨3, ![1, 2048, 10272]⟩
abbrev S1x4096 : Shape := ⟨2, ![1, 4096]⟩
abbrev S1x128 : Shape := ⟨2, ![1, 128]⟩
abbrev S1x1024x2048 : Shape := ⟨3, ![1, 1024, 2048]⟩
abbrev S1x2048x2048 : Shape := ⟨3, ![1, 2048, 2048]⟩
abbrev S1x2048 : Shape := ⟨2, ![1, 2048]⟩
abbrev S2048x10272 : Shape := ⟨2, ![2048, 10272]⟩
abbrev S10272x2048 : Shape := ⟨2, ![10272, 2048]⟩
abbrev S128 : Shape := ⟨1, ![128]⟩
abbrev S4096 : Shape := ⟨1, ![4096]⟩
abbrev S1024x2048 : Shape := ⟨2, ![1024, 2048]⟩
abbrev S2048x2048 : Shape := ⟨2, ![2048, 2048]⟩
abbrev S16384x2048 : Shape := ⟨2, ![16384, 2048]⟩
abbrev S16384x6144 : Shape := ⟨2, ![16384, 6144]⟩
abbrev S16384x128 : Shape := ⟨2, ![16384, 128]⟩
abbrev S512x2048 : Shape := ⟨2, ![512, 2048]⟩
abbrev S4096x2048 : Shape := ⟨2, ![4096, 2048]⟩
abbrev S128x2048 : Shape := ⟨2, ![128, 2048]⟩
abbrev S512x6144 : Shape := ⟨2, ![512, 6144]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩
abbrev S256x2048 : Shape := ⟨2, ![256, 2048]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1x512 : Shape := ⟨2, ![1, 512]⟩
abbrev S1024x512 : Shape := ⟨2, ![1024, 512]⟩

abbrev nBuf : Space → Nat
  | .hbm => 38
  | .vmem => 44
  | .smem => 0
  | _ => 0

abbrev bufTy : (tb : Table) → Fin (tcTables nBuf tb) → BufTy
  | .hbm, ⟨0, _⟩ => ⟨S1x16384x2048, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S2048, .f32⟩
  | .hbm, ⟨5, _⟩ => ⟨S2048, .f32⟩
  | .hbm, ⟨6, _⟩ => ⟨S1x2048x10272, .f32⟩
  | .hbm, ⟨7, _⟩ => ⟨S1x4096, .f32⟩
  | .hbm, ⟨8, _⟩ => ⟨S1x128, .f32⟩
  | .hbm, ⟨9, _⟩ => ⟨S1x1024x2048, .f32⟩
  | .hbm, ⟨10, _⟩ => ⟨S1x1024x2048, .f32⟩
  | .hbm, ⟨11, _⟩ => ⟨S1x2048x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S2048x10272, .f32⟩
  | .hbm, ⟨17, _⟩ => ⟨S10272x2048, .f32⟩
  | .hbm, ⟨18, _⟩ => ⟨S10272x2048, .bf16⟩
  | .hbm, ⟨19, _⟩ => ⟨S128, .f32⟩
  | .hbm, ⟨20, _⟩ => ⟨S1x128, .f32⟩
  | .hbm, ⟨21, _⟩ => ⟨S4096, .f32⟩
  | .hbm, ⟨22, _⟩ => ⟨S1x4096, .f32⟩
  | .hbm, ⟨23, _⟩ => ⟨S1024x2048, .f32⟩
  | .hbm, ⟨24, _⟩ => ⟨S1024x2048, .bf16⟩
  | .hbm, ⟨25, _⟩ => ⟨S1024x2048, .f32⟩
  | .hbm, ⟨26, _⟩ => ⟨S1024x2048, .bf16⟩
  | .hbm, ⟨27, _⟩ => ⟨S2048x2048, .f32⟩
  | .hbm, ⟨28, _⟩ => ⟨S2048x2048, .bf16⟩
  | .hbm, ⟨29, _⟩ => ⟨S2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S16384x2048, .f32⟩
  | .hbm, ⟨34, _⟩ => ⟨S16384x6144, .bf16⟩
  | .hbm, ⟨35, _⟩ => ⟨S16384x128, .f32⟩
  | .hbm, ⟨36, _⟩ => ⟨S16384x2048, .bf16⟩
  | .hbm, ⟨37, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S4096x2048, .bf16⟩
  | .local _ .vmem, ⟨5, _⟩ => ⟨S2048x2048, .bf16⟩
  | .local _ .vmem, ⟨6, _⟩ => ⟨S128x2048, .bf16⟩
  | .local _ .vmem, ⟨7, _⟩ => ⟨S512x6144, .bf16⟩
  | .local _ .vmem, ⟨8, _⟩ => ⟨S512x6144, .bf16⟩
  | .local _ .vmem, ⟨9, _⟩ => ⟨S512x128, .f32⟩
  | .local _ .vmem, ⟨10, _⟩ => ⟨S512x128, .f32⟩
  | .local _ .vmem, ⟨11, _⟩ => ⟨S512x2048, .bf16⟩
  | .local _ .vmem, ⟨12, _⟩ => ⟨S512x2048, .bf16⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S256x128, .f32⟩
  | .local _ .vmem, ⟨18, _⟩ => ⟨S256x128, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S1x2048, .f32⟩
  | .local _ .vmem, ⟨30, _⟩ => ⟨S1x2048, .f32⟩
  | .local _ .vmem, ⟨31, _⟩ => ⟨S1x128, .f32⟩
  | .local _ .vmem, ⟨32, _⟩ => ⟨S4096x2048, .bf16⟩
  | .local _ .vmem, ⟨33, _⟩ => ⟨S1x4096, .f32⟩
  | .local _ .vmem, ⟨34, _⟩ => ⟨S1024x2048, .bf16⟩
  | .local _ .vmem, ⟨35, _⟩ => ⟨S1024x2048, .bf16⟩
  | .local _ .vmem, ⟨36, _⟩ => ⟨S2048x2048, .bf16⟩
  | .local _ .vmem, ⟨37, _⟩ => ⟨S1x2048, .f32⟩
  | .local _ .vmem, ⟨38, _⟩ => ⟨S1x2048, .f32⟩
  | .local _ .vmem, ⟨39, _⟩ => ⟨S256x2048, .f32⟩
  | .local _ .vmem, ⟨40, _⟩ => ⟨S256x2048, .f32⟩
  | .local _ .vmem, ⟨41, _⟩ => ⟨S256x1024, .bf16⟩
  | .local _ .vmem, ⟨42, _⟩ => ⟨S256x1024, .bf16⟩
  | .local _ .vmem, ⟨43, _⟩ => ⟨S256x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_stg14_0 : Ref sig .tc := ⟨.vmem, 35, rfl⟩
abbrev cc1_stg15_0 : Ref sig .tc := ⟨.vmem, 36, rfl⟩
abbrev cc1_stg16_0 : Ref sig .tc := ⟨.vmem, 37, rfl⟩
abbrev cc1_stg17_0 : Ref sig .tc := ⟨.vmem, 38, rfl⟩
abbrev cc1_stg18_0 : Ref sig .tc := ⟨.vmem, 39, rfl⟩
abbrev cc1_stg18_1 : Ref sig .tc := ⟨.vmem, 40, rfl⟩
abbrev cc1_scratch0 : Ref sig .tc := ⟨.vmem, 41, rfl⟩
abbrev cc1_scratch1 : Ref sig .tc := ⟨.vmem, 42, rfl⟩
abbrev cc1_scratch2 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem13_0 : DmaSem sig := 34
abbrev cc1_sem14_0 : DmaSem sig := 35
abbrev cc1_sem15_0 : DmaSem sig := 36
abbrev cc1_sem16_0 : DmaSem sig := 37
abbrev cc1_sem17_0 : DmaSem sig := 38
abbrev cc1_sem18_0 : DmaSem sig := 39
abbrev cc1_sem18_1 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4128_i32 : BitVec 32 := 4128#32
  let c0_i32 : BitVec 32 := 0#32
  let c0_i32_0 : BitVec 32 := 0#32
  ![c4128_i32.toNat, c0_i32.toNat]

def cc0_transform_5 (i : grid0.Coords) : Fin 2 → Nat :=
  let arg0 : BitVec 32 := BitVec.ofNat 32 (i 0).val
  let c4096_i32 : BitVec 32 := 4096#32
  let c0_i32 : BitVec 32 := 0#32
  let c0_i32_0 : BitVec 32 := 0#32
  ![c4096_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_6 (i : grid1.Coords) : Fin 2 → Nat :=
  let arg0 : BitVec 32 := BitVec.ofNat 32 (i 0).val
  let c5_i32 : BitVec 32 := 5#32
  let c0_i32 : BitVec 32 := 0#32
  ![arg0.toNat, c5_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c6176_i32 : BitVec 32 := 6176#32
  let c0_i32 : BitVec 32 := 0#32
  let c0_i32_0 : BitVec 32 := 0#32
  ![c6176_i32.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4096x2048 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x4096 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1024x2048 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1024x2048 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S2048x2048 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x2048 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x2048 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S256x2048 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]
-- ==== ReferenceIdeal.lean ====
abbrev S1x16384x2048 : Shape := ⟨3, ![1, 16384, 2048]⟩
abbrev S16384x1024 : Shape := ⟨2, ![16384, 1024]⟩
abbrev S2048 : Shape := ⟨1, ![2048]⟩
abbrev S1x2048x10272 : Shape := ⟨3, ![1, 2048, 10272]⟩
abbrev S1x4096 : Shape := ⟨2, ![1, 4096]⟩
abbrev S1x128 : Shape := ⟨2, ![1, 128]⟩
abbrev S1x1024x2048 : Shape := ⟨3, ![1, 1024, 2048]⟩
abbrev S1x2048x2048 : Shape := ⟨3, ![1, 2048, 2048]⟩
abbrev S1x2048 : Shape := ⟨2, ![1, 2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S2048x10272 : Shape := ⟨2, ![2048, 10272]⟩
abbrev S1x16384x10272 : Shape := ⟨3, ![1, 16384, 10272]⟩
abbrev S1x16384x8x128 : Shape := ⟨4, ![1, 16384, 8, 128]⟩
abbrev S1x16384x8 : Shape := ⟨3, ![1, 16384, 8]⟩
abbrev S1x16384x8x1 : Shape := ⟨4, ![1, 16384, 8, 1]⟩
abbrev S128 : Shape := ⟨1, ![128]⟩
abbrev S1x1x1x128 : Shape := ⟨4, ![1, 1, 1, 128]⟩
abbrev S1x16384x1024 : Shape := ⟨3, ![1, 16384, 1024]⟩
abbrev S1x16384x4096 : Shape := ⟨3, ![1, 16384, 4096]⟩
abbrev S4096 : Shape := ⟨1, ![4096]⟩
abbrev S1x1x4096 : Shape := ⟨3, ![1, 1, 4096]⟩
abbrev S1024x2048 : Shape := ⟨2, ![1024, 2048]⟩
abbrev S2048x2048 : Shape := ⟨2, ![2048, 2048]⟩
abbrev S1x16384x6144 : Shape := ⟨3, ![1, 16384, 6144]⟩
abbrev S1x16384x32 : Shape := ⟨3, ![1, 16384, 32]⟩
abbrev S1x16384x94 : Shape := ⟨3, ![1, 16384, 94]⟩
abbrev S1x16384x128 : Shape := ⟨3, ![1, 16384, 128]⟩
abbrev S16384x6144 : Shape := ⟨2, ![16384, 6144]⟩
abbrev S16384x128 : Shape := ⟨2, ![16384, 128]⟩
abbrev S16384x2048 : Shape := ⟨2, ![16384, 2048]⟩

abbrev nBuf : Space → Nat
  | .hbm => 181
  | .vmem => 0
  | .smem => 0
  | _ => 0

abbrev hbmTy0_0 (i : Nat) : BufTy := match i % 128 with
  | 0 => ⟨S1x16384x2048, .f32⟩
  | 1 => ⟨S16384x1024, .bf16⟩
  | 2 => ⟨S16384x1024, .bf16⟩
  | 3 => ⟨S16384x1024, .bf16⟩
  | 4 => ⟨S2048, .f32⟩
  | 5 => ⟨S2048, .f32⟩
  | 6 => ⟨S1x2048x10272, .f32⟩
  | 7 => ⟨S1x4096, .f32⟩
  | 8 => ⟨S1x128, .f32⟩
  | 9 => ⟨S1x1024x2048, .f32⟩
  | 10 => ⟨S1x1024x2048, .f32⟩
  | 11 => ⟨S1x2048x2048, .f32⟩
  | 12 => ⟨S1x2048, .f32⟩
  | 13 => ⟨S1x2048, .f32⟩
  | 14 => ⟨S_, .f32⟩
  | 15 => ⟨S1x16384, .f32⟩
  | 16 => ⟨S1x16384x1, .f32⟩
  | 17 => ⟨S_, .f32⟩
  | 18 => ⟨S1x16384x1, .f32⟩
  | 19 => ⟨S1x16384x1, .f32⟩
  | 20 => ⟨S1x16384x2048, .f32⟩
  | 21 => ⟨S1x16384x2048, .f32⟩
  | 22 => ⟨S1x16384x2048, .f32⟩
  | 23 => ⟨S_, .f32⟩
  | 24 => ⟨S1x16384, .f32⟩
  | 25 => ⟨S1x16384x1, .f32⟩
  | 26 => ⟨S_, .f32⟩
  | 27 => ⟨S1x16384x1, .f32⟩
  | 28 => ⟨S1x16384x1, .f32⟩
  | 29 => ⟨S1x16384x2048, .f32⟩
  | 30 => ⟨S1x16384x2048, .f32⟩
  | 31 => ⟨S_, .f32⟩
  | 32 => ⟨S1x16384x1, .f32⟩
  | 33 => ⟨S1x16384x1, .f32⟩
  | 34 => ⟨S1x16384x1, .f32⟩
  | 35 => ⟨S1x16384x2048, .f32⟩
  | 36 => ⟨S1x16384x2048, .f32⟩
  | 37 => ⟨S1x1x2048, .f32⟩
  | 38 => ⟨S1x16384x2048, .f32⟩
  | 39 => ⟨S1x16384x2048, .f32⟩
  | 40 => ⟨S1x1x2048, .f32⟩
  | 41 => ⟨S1x16384x2048, .f32⟩
  | 42 => ⟨S1x16384x2048, .f32⟩
  | 43 => ⟨S2048x10272, .f32⟩
  | 44 => ⟨S1x16384x10272, .f32⟩
  | 45 => ⟨S16384x1024, .f32⟩
  | 46 => ⟨S16384x1024, .f32⟩
  | 47 => ⟨S16384x1024, .f32⟩
  | 48 => ⟨S1x16384x8x128, .f32⟩
  | 49 => ⟨S1x16384x8x128, .f32⟩
  | 50 => ⟨S_, .f32⟩
  | 51 => ⟨S1x16384x8, .f32⟩
  | 52 => ⟨S1x16384x8x1, .f32⟩
  | 53 => ⟨S_, .f32⟩
  | 54 => ⟨S1x16384x8x1, .f32⟩
  | 55 => ⟨S1x16384x8x1, .f32⟩
  | 56 => ⟨S_, .f32⟩
  | 57 => ⟨S1x16384x8x1, .f32⟩
  | 58 => ⟨S1x16384x8x1, .f32⟩
  | 59 => ⟨S1x16384x8x1, .f32⟩
  | 60 => ⟨S1x16384x8x128, .f32⟩
  | 61 => ⟨S1x16384x8x128, .f32⟩
  | 62 => ⟨S128, .f32⟩
  | 63 => ⟨S1x1x1x128, .f32⟩
  | 64 => ⟨S1x16384x8x128, .f32⟩
  | 65 => ⟨S1x16384x8x128, .f32⟩
  | 66 => ⟨S1x16384x1024, .f32⟩
  | 67 => ⟨S1x16384x8x128, .f32⟩
  | 68 => ⟨S1x16384x8x128, .f32⟩
  | 69 => ⟨S1x16384x8x128, .f32⟩
  | 70 => ⟨S_, .f32⟩
  | 71 => ⟨S1x16384x8x128, .f32⟩
  | 72 => ⟨S1x16384x8x128, .f32⟩
  | 73 => ⟨S_, .f32⟩
  | 74 => ⟨S1x16384x8x128, .f32⟩
  | 75 => ⟨S1x16384x8x128, .f32⟩
  | 76 => ⟨S1x16384x8x128, .f32⟩
  | 77 => ⟨S1x16384x8x128, .f32⟩
  | 78 => ⟨S1x16384x1024, .f32⟩
  | 79 => ⟨S16384x1024, .f32⟩
  | 80 => ⟨S1x16384x1024, .f32⟩
  | 81 => ⟨S1x16384x1024, .f32⟩
  | 82 => ⟨S1x16384x1024, .f32⟩
  | 83 => ⟨S1x16384x1024, .f32⟩
  | 84 => ⟨S_, .f32⟩
  | 85 => ⟨S1x16384x1024, .f32⟩
  | 86 => ⟨S1x16384x1024, .f32⟩
  | 87 => ⟨S_, .f32⟩
  | 88 => ⟨S1x16384x1024, .f32⟩
  | 89 => ⟨S1x16384x1024, .f32⟩
  | 90 => ⟨S1x16384x1024, .f32⟩
  | 91 => ⟨S1x16384x1024, .f32⟩
  | 92 => ⟨S1x16384x4096, .f32⟩
  | 93 => ⟨S4096, .f32⟩
  | 94 => ⟨S1x1x4096, .f32⟩
  | 95 => ⟨S1x16384x4096, .f32⟩
  | 96 => ⟨S1x16384x4096, .f32⟩
  | 97 => ⟨S1x16384x4096, .f32⟩
  | 98 => ⟨S1x16384x4096, .f32⟩
  | 99 => ⟨S_, .f32⟩
  | 100 => ⟨S1x16384x4096, .f32⟩
  | 101 => ⟨S1x16384x4096, .f32⟩
  | 102 => ⟨S_, .f32⟩
  | 103 => ⟨S1x16384x4096, .f32⟩
  | 104 => ⟨S1x16384x4096, .f32⟩
  | 105 => ⟨S1x16384x2048, .f32⟩
  | 106 => ⟨S1024x2048, .f32⟩
  | 107 => ⟨S1x16384x2048, .f32⟩
  | 108 => ⟨S1x16384x2048, .f32⟩
  | 109 => ⟨S1x16384x2048, .f32⟩
  | 110 => ⟨S1024x2048, .f32⟩
  | 111 => ⟨S1x16384x2048, .f32⟩
  | 112 => ⟨S1x16384x2048, .f32⟩
  | 113 => ⟨S1x16384x2048, .f32⟩
  | 114 => ⟨S2048x2048, .f32⟩
  | 115 => ⟨S1x16384x2048, .f32⟩
  | 116 => ⟨S_, .f32⟩
  | 117 => ⟨S1x16384x2048, .f32⟩
  | 118 => ⟨S1x16384x2048, .f32⟩
  | 119 => ⟨S1x16384x2048, .f32⟩
  | 120 => ⟨S2048, .f32⟩
  | 121 => ⟨S2048, .f32⟩
  | 122 => ⟨S_, .f32⟩
  | 123 => ⟨S1x16384, .f32⟩
  | 124 => ⟨S1x16384x1, .f32⟩
  | 125 => ⟨S_, .f32⟩
  | 126 => ⟨S1x16384x1, .f32⟩
  | 127 => ⟨S1x16384x1, .f32⟩
  | _ => ⟨S1x16384x2048, .f32⟩

abbrev hbmTy0_1 (i : Nat) : BufTy := match i % 128 with
  | 0 => ⟨S1x16384x2048, .f32⟩
  | 1 => ⟨S1x16384x2048, .f32⟩
  | 2 => ⟨S1x16384x2048, .f32⟩
  | 3 => ⟨S_, .f32⟩
  | 4 => ⟨S1x16384, .f32⟩
  | 5 => ⟨S1x16384x1, .f32⟩
  | 6 => ⟨S_, .f32⟩
  | 7 => ⟨S1x16384x1, .f32⟩
  | 8 => ⟨S1x16384x1, .f32⟩
  | 9 => ⟨S1x16384x2048, .f32⟩
  | 10 => ⟨S1x16384x2048, .f32⟩
  | 11 => ⟨S_, .f32⟩
  | 12 => ⟨S1x16384x1, .f32⟩
  | 13 => ⟨S1x16384x1, .f32⟩
  | 14 => ⟨S1x16384x1, .f32⟩
  | 15 => ⟨S1x16384x2048, .f32⟩
  | 16 => ⟨S1x16384x2048, .f32⟩
  | 17 => ⟨S1x1x2048, .f32⟩
  | 18 => ⟨S1x16384x2048, .f32⟩
  | 19 => ⟨S1x16384x2048, .f32⟩
  | 20 => ⟨S1x1x2048, .f32⟩
  | 21 => ⟨S1x16384x2048, .f32⟩
  | 22 => ⟨S1x16384x2048, .f32⟩
  | 23 => ⟨S1x16384x4096, .f32⟩
  | 24 => ⟨S1x16384x2048, .f32⟩
  | 25 => ⟨S1x16384x6144, .f32⟩
  | 26 => ⟨S_, .f32⟩
  | 27 => ⟨S1x16384, .f32⟩
  | 28 => ⟨S1x16384x1, .f32⟩
  | 29 => ⟨S_, .f32⟩
  | 30 => ⟨S1x16384x1, .f32⟩
  | 31 => ⟨S1x16384x1, .f32⟩
  | 32 => ⟨S1x16384x2048, .f32⟩
  | 33 => ⟨S1x16384x2048, .f32⟩
  | 34 => ⟨S1x16384x2048, .f32⟩
  | 35 => ⟨S_, .f32⟩
  | 36 => ⟨S1x16384, .f32⟩
  | 37 => ⟨S1x16384x1, .f32⟩
  | 38 => ⟨S_, .f32⟩
  | 39 => ⟨S1x16384x1, .f32⟩
  | 40 => ⟨S1x16384x1, .f32⟩
  | 41 => ⟨S_, .f32⟩
  | 42 => ⟨S1x16384x1, .f32⟩
  | 43 => ⟨S1x16384x1, .f32⟩
  | 44 => ⟨S1x16384x1, .f32⟩
  | 45 => ⟨S1x16384x32, .f32⟩
  | 46 => ⟨S_, .f32⟩
  | 47 => ⟨S1x16384x94, .f32⟩
  | 48 => ⟨S1x16384x128, .f32⟩
  | 49 => ⟨S16384x6144, .f32⟩
  | 50 => ⟨S16384x6144, .bf16⟩
  | 51 => ⟨S16384x128, .f32⟩
  | 52 => ⟨S16384x2048, .f32⟩
  | _ => ⟨S1x16384x2048, .f32⟩

abbrev hbmTy (i : Nat) : BufTy := match i / 128 with
  | 0 => hbmTy0_0 i
  | 1 => hbmTy0_1 i
  | _ => ⟨S1x16384x2048, .f32⟩

abbrev bufTy : (tb : Table) → Fin (tcTables nBuf tb) → BufTy
  | .hbm, ⟨i, _⟩ => hbmTy i
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_7 : Ref sig .tc := ⟨.hbm, 99, rfl⟩
abbrev main_v61 : Ref sig .tc := ⟨.hbm, 100, rfl⟩
abbrev main_v62 : Ref sig .tc := ⟨.hbm, 101, rfl⟩
abbrev main_cst_8 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_9 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_10 : Ref sig .tc := ⟨.hbm, 122, rfl⟩
abbrev main_v81 : Ref sig .tc := ⟨.hbm, 123, rfl⟩
abbrev main_v82 : Ref sig .tc := ⟨.hbm, 124, rfl⟩
abbrev main_cst_11 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_12 : Ref sig .tc := ⟨.hbm, 131, rfl⟩
abbrev main_v88 : Ref sig .tc := ⟨.hbm, 132, rfl⟩
abbrev main_v89 : Ref sig .tc := ⟨.hbm, 133, rfl⟩
abbrev main_cst_13 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_14 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_15 : Ref sig .tc := ⟨.hbm, 154, rfl⟩
abbrev main_v108 : Ref sig .tc := ⟨.hbm, 155, rfl⟩
abbrev main_v109 : Ref sig .tc := ⟨.hbm, 156, rfl⟩
abbrev main_cst_16 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_17 : Ref sig .tc := ⟨.hbm, 163, rfl⟩
abbrev main_v115 : Ref sig .tc := ⟨.hbm, 164, rfl⟩
abbrev main_v116 : Ref sig .tc := ⟨.hbm, 165, rfl⟩
abbrev main_cst_18 : Ref sig .tc := ⟨.hbm, 166, rfl⟩
abbrev main_v117 : Ref sig .tc := ⟨.hbm, 167, rfl⟩
abbrev main_v118 : Ref sig .tc := ⟨.hbm, 168, rfl⟩
abbrev main_cst_19 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_20 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩

abbrev nD : Nat := 1
abbrev τ : Topo := Topo.v7x

variable {F : FTy → Type} [FloatOps F]
-- ==== Kernel2.lean ====
abbrev S8192x6144 : Shape := ⟨2, ![8192, 6144]⟩
abbrev S16x6144 : Shape := ⟨2, ![16, 6144]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S16x1024 : Shape := ⟨2, ![16, 1024]⟩
abbrev S16x256 : Shape := ⟨2, ![16, 256]⟩
abbrev S16x512 : Shape := ⟨2, ![16, 512]⟩
abbrev S8192x1024 : Shape := ⟨2, ![8192, 1024]⟩
abbrev S1024x1024 : Shape := ⟨2, ![1024, 1024]⟩
abbrev S1024x256 : Shape := ⟨2, ![1024, 256]⟩
abbrev S1024x512 : Shape := ⟨2, ![1024, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16 : Shape := ⟨1, ![16]⟩
abbrev S1x16 : Shape := ⟨2, ![1, 16]⟩
abbrev S2048x16 : Shape := ⟨2, ![2048, 16]⟩
abbrev S2048x1024 : Shape := ⟨2, ![2048, 1024]⟩
abbrev S512x2048 : Shape := ⟨2, ![512, 2048]⟩
abbrev S512x16 : Shape := ⟨2, ![512, 16]⟩
abbrev S512x1024 : Shape := ⟨2, ![512, 1024]⟩

abbrev nBuf : Space → Nat
  | .hbm => 82
  | .vmem => 27
  | .smem => 0
  | _ => 0

abbrev bufTy : (tb : Table) → Fin (tcTables nBuf tb) → BufTy
  | .hbm, ⟨0, _⟩ => ⟨S8192x6144, .bf16⟩
  | .hbm, ⟨1, _⟩ => ⟨S16x6144, .bf16⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x512, .f32⟩
  | .hbm, ⟨24, _⟩ => ⟨S256x512, .bf16⟩
  | .hbm, ⟨25, _⟩ => ⟨S16x1024, .bf16⟩
  | .hbm, ⟨26, _⟩ => ⟨S16x1024, .bf16⟩
  | .hbm, ⟨27, _⟩ => ⟨S8192x1024, .bf16⟩
  | .hbm, ⟨28, _⟩ => ⟨S8192x1024, .bf16⟩
  | .hbm, ⟨29, _⟩ => ⟨S2048, .i32⟩
  | .hbm, ⟨30, _⟩ => ⟨S2048x1, .i32⟩
  | .hbm, ⟨31, _⟩ => ⟨S_, .i32⟩
  | .hbm, ⟨32, _⟩ => ⟨S2048x1, .i32⟩
  | .hbm, ⟨33, _⟩ => ⟨S2048x1, .i32⟩
  | .hbm, ⟨34, _⟩ => ⟨S2048, .i32⟩
  | .hbm, ⟨35, _⟩ => ⟨S1x2048, .i32⟩
  | .hbm, ⟨36, _⟩ => ⟨S_, .i32⟩
  | .hbm, ⟨37, _⟩ => ⟨S1x2048, .i32⟩
  | .hbm, ⟨38, _⟩ => ⟨S1x2048, .i32⟩
  | .hbm, ⟨39, _⟩ => ⟨S2048x2048, .i32⟩
  | .hbm, ⟨40, _⟩ => ⟨S2048x2048, .i32⟩
  | .hbm, ⟨41, _⟩ => ⟨S2048x2048, .i32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .i32⟩
  | .hbm, ⟨47, _⟩ => ⟨S2048x2048, .i32⟩
  | .hbm, ⟨48, _⟩ => ⟨S2048x2048, .i32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S16, .i32⟩
  | .hbm, ⟨58, _⟩ => ⟨S1x16, .i32⟩
  | .hbm, ⟨59, _⟩ => ⟨S2048x16, .i32⟩
  | .hbm, ⟨60, _⟩ => ⟨S2048x16, .i32⟩
  | .hbm, ⟨61, _⟩ => ⟨S2048x16, .i32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .i32⟩
  | .hbm, ⟨67, _⟩ => ⟨S2048x16, .i32⟩
  | .hbm, ⟨68, _⟩ => ⟨S2048x16, .i32⟩
  | .hbm, ⟨69, _⟩ => ⟨S2048x16, .f32⟩
  | .hbm, ⟨70, _⟩ => ⟨S2048x16, .f32⟩
  | .hbm, ⟨71, _⟩ => ⟨S2048x16, .f32⟩
  | .hbm, ⟨72, _⟩ => ⟨S_, .f32⟩
  | .hbm, ⟨73, _⟩ => ⟨S2048x16, .f32⟩
  | .hbm, ⟨74, _⟩ => ⟨S2048x16, .f32⟩
  | .hbm, ⟨75, _⟩ => ⟨S2048x16, .f32⟩
  | .hbm, ⟨76, _⟩ => ⟨S2048x16, .f32⟩
  | .hbm, ⟨77, _⟩ => ⟨S2048x2048, .bf16⟩
  | .hbm, ⟨78, _⟩ => ⟨S2048x2048, .bf16⟩
  | .hbm, ⟨79, _⟩ => ⟨S2048x16, .bf16⟩
  | .hbm, ⟨80, _⟩ => ⟨S2048x16, .bf16⟩
  | .hbm, ⟨81, _⟩ => ⟨S8192x1024, .bf16⟩
  | .local _ .vmem, ⟨0, _⟩ => ⟨S16x1024, .bf16⟩
  | .local _ .vmem, ⟨1, _⟩ => ⟨S256x512, .bf16⟩
  | .local _ .vmem, ⟨2, _⟩ => ⟨S16x1024, .bf16⟩
  | .local _ .vmem, ⟨3, _⟩ => ⟨S16x1024, .bf16⟩
  | .local _ .vmem, ⟨4, _⟩ => ⟨S1024x1024, .bf16⟩
  | .local _ .vmem, ⟨5, _⟩ => ⟨S1024x1024, .bf16⟩
  | .local _ .vmem, ⟨6, _⟩ => ⟨S256x512, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S16x1024, .bf16⟩
  | .local _ .vmem, ⟨16, _⟩ => ⟨S16x1024, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x16, .bf16⟩
  | .local _ .vmem, ⟨22, _⟩ => ⟨S512x16, .bf16⟩
  | .local _ .vmem, ⟨23, _⟩ => ⟨S512x16, .bf16⟩
  | .local _ .vmem, ⟨24, _⟩ => ⟨S512x16, .bf16⟩
  | .local _ .vmem, ⟨25, _⟩ => ⟨S512x1024, .bf16⟩
  | .local _ .vmem, ⟨26, _⟩ => ⟨S512x1024, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v20_0 : Ref sig .tc := ⟨.hbm, 27, rfl⟩
abbrev main_v20_1 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_c_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg7_0 : Ref sig .tc := ⟨.vmem, 23, rfl⟩
abbrev cc2_stg7_1 : Ref sig .tc := ⟨.vmem, 24, rfl⟩
abbrev cc2_stg8_0 : Ref sig .tc := ⟨.vmem, 25, rfl⟩
abbrev cc2_stg8_1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem4_1 : DmaSem sig := 18
abbrev cc2_sem5_0 : DmaSem sig := 19
abbrev cc2_sem5_1 : DmaSem sig := 20
abbrev cc2_sem6_0 : DmaSem sig := 21
abbrev cc2_sem6_1 : DmaSem sig := 22
abbrev cc2_sem7_0 : DmaSem sig := 23
abbrev cc2_sem7_1 : DmaSem sig := 24
abbrev cc2_sem8_0 : DmaSem sig := 25
abbrev cc2_sem8_1 : DmaSem sig := 26

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c4_i32 : BitVec 32 := 4#32
  let c0_i32 : BitVec 32 := 0#32
  ![arg0.toNat, c4_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_8 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S16x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S16x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S512x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S512x2048 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S512x16 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S512x16 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S512x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== Kernel2Ideal.lean ====
variable {F : FTy → Type} [FloatOps F] [Named F]
def κ : String → Option EReal := fun
  | "ortho" => some (((Real.sqrt 528384)⁻¹ : ℝ) : EReal)
  | _ => none
-- ==== Reference2Ideal.lean ====
abbrev S8192x6144 : Shape := ⟨2, ![8192, 6144]⟩
abbrev S16x6144 : Shape := ⟨2, ![16, 6144]⟩
abbrev S8192x1024 : Shape := ⟨2, ![8192, 1024]⟩
abbrev S4x2048x1024 : Shape := ⟨3, ![4, 2048, 1024]⟩
abbrev S16x1024 : Shape := ⟨2, ![16, 1024]⟩
abbrev S1x16x1024 : Shape := ⟨3, ![1, 16, 1024]⟩
abbrev S4x16x1024 : Shape := ⟨3, ![4, 16, 1024]⟩
abbrev S4x2064x1024 : Shape := ⟨3, ![4, 2064, 1024]⟩
abbrev S4x2064x4x256 : Shape := ⟨4, ![4, 2064, 4, 256]⟩
abbrev S2064 : Shape := ⟨1, ![2064]⟩
abbrev S_ : Shape := ⟨0, ![]⟩
abbrev S2064x1 : Shape := ⟨2, ![2064, 1]⟩
abbrev S1x2064 : Shape := ⟨2, ![1, 2064]⟩
abbrev S2064x2064 : Shape := ⟨2, ![2064, 2064]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x4x256x2064 : Shape := ⟨4, ![4, 4, 256, 2064]⟩
abbrev S4x2048x4x256 : Shape := ⟨4, ![4, 2048, 4, 256]⟩

abbrev nBuf : Space → Nat
  | .hbm => 61
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S16x6144, .bf16⟩
  | .hbm, ⟨2, _⟩ => ⟨S8192x1024, .bf16⟩
  | .hbm, ⟨3, _⟩ => ⟨S8192x1024, .f32⟩
  | .hbm, ⟨4, _⟩ => ⟨S4x2048x1024, .f32⟩
  | .hbm, ⟨5, _⟩ => ⟨S16x1024, .bf16⟩
  | .hbm, ⟨6, _⟩ => ⟨S1x16x1024, .bf16⟩
  | .hbm, ⟨7, _⟩ => ⟨S1x16x1024, .f32⟩
  | .hbm, ⟨8, _⟩ => ⟨S4x16x1024, .f32⟩
  | .hbm, ⟨9, _⟩ => ⟨S4x2064x1024, .f32⟩
  | .hbm, ⟨10, _⟩ => ⟨S4x2064x4x256, .f32⟩
  | .hbm, ⟨11, _⟩ => ⟨S2064, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2064x1, .i32⟩
  | .hbm, ⟨17, _⟩ => ⟨S1x2064, .i32⟩
  | .hbm, ⟨18, _⟩ => ⟨S2064x2064, .i32⟩
  | .hbm, ⟨19, _⟩ => ⟨S2064x2064, .i32⟩
  | .hbm, ⟨20, _⟩ => ⟨S2064x2064, .i32⟩
  | .hbm, ⟨21, _⟩ => ⟨S2064x2064, .f32⟩
  | .hbm, ⟨22, _⟩ => ⟨S2064x2064, .f32⟩
  | .hbm, ⟨23, _⟩ => ⟨S2064x2064, .f32⟩
  | .hbm, ⟨24, _⟩ => ⟨S_, .f32⟩
  | .hbm, ⟨25, _⟩ => ⟨S2064x2064, .f32⟩
  | .hbm, ⟨26, _⟩ => ⟨S2064x2064, .f32⟩
  | .hbm, ⟨27, _⟩ => ⟨S2064x2064, .f32⟩
  | .hbm, ⟨28, _⟩ => ⟨S2064x2064, .f32⟩
  | .hbm, ⟨29, _⟩ => ⟨S256, .i32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S256x1, .i32⟩
  | .hbm, ⟨35, _⟩ => ⟨S1x256, .i32⟩
  | .hbm, ⟨36, _⟩ => ⟨S256x256, .i32⟩
  | .hbm, ⟨37, _⟩ => ⟨S256x256, .i32⟩
  | .hbm, ⟨38, _⟩ => ⟨S256x256, .i32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S_, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S4x2064x4x256, .f32⟩
  | .hbm, ⟨48, _⟩ => ⟨S4x2064x4x256, .f32⟩
  | .hbm, ⟨49, _⟩ => ⟨S4x4x256x2064, .f32⟩
  | .hbm, ⟨50, _⟩ => ⟨S4x2064x4x256, .f32⟩
  | .hbm, ⟨51, _⟩ => ⟨S4x4x256x2064, .f32⟩
  | .hbm, ⟨52, _⟩ => ⟨S4x2064x4x256, .f32⟩
  | .hbm, ⟨53, _⟩ => ⟨S4x2064x4x256, .f32⟩
  | .hbm, ⟨54, _⟩ => ⟨S_, .f32⟩
  | .hbm, ⟨55, _⟩ => ⟨S_, .f32⟩
  | .hbm, ⟨56, _⟩ => ⟨S4x2064x4x256, .f32⟩
  | .hbm, ⟨57, _⟩ => ⟨S4x2064x4x256, .f32⟩
  | .hbm, ⟨58, _⟩ => ⟨S4x2048x4x256, .f32⟩
  | .hbm, ⟨59, _⟩ => ⟨S8192x1024, .f32⟩
  | .hbm, ⟨60, _⟩ => ⟨S8192x1024, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩

abbrev nD : Nat := 1
abbrev τ : Topo := Topo.v7x

variable {F : FTy → Type} [FloatOps F]
-- ==== Kernel3.lean ====
abbrev S4x2048x2048 : Shape := ⟨3, ![4, 2048, 2048]⟩
abbrev S8192x1024 : Shape := ⟨2, ![8192, 1024]⟩
abbrev S2048 : Shape := ⟨1, ![2048]⟩
abbrev S1x2048x10272 : Shape := ⟨3, ![1, 2048, 10272]⟩
abbrev S1x4096 : Shape := ⟨2, ![1, 4096]⟩
abbrev S1x128 : Shape := ⟨2, ![1, 128]⟩
abbrev S1x1024x2048 : Shape := ⟨3, ![1, 1024, 2048]⟩
abbrev S1x2048x2048 : Shape := ⟨3, ![1, 2048, 2048]⟩
abbrev S1x2048 : Shape := ⟨2, ![1, 2048]⟩
abbrev S2048x10272 : Shape := ⟨2, ![2048, 10272]⟩
abbrev S10272x2048 : Shape := ⟨2, ![10272, 2048]⟩
abbrev S128 : Shape := ⟨1, ![128]⟩
abbrev S4096 : Shape := ⟨1, ![4096]⟩
abbrev S1024x2048 : Shape := ⟨2, ![1024, 2048]⟩
abbrev S2048x2048 : Shape := ⟨2, ![2048, 2048]⟩
abbrev S8192x2048 : Shape := ⟨2, ![8192, 2048]⟩
abbrev S8192x6144 : Shape := ⟨2, ![8192, 6144]⟩
abbrev S8192x128 : Shape := ⟨2, ![8192, 128]⟩
abbrev S512x2048 : Shape := ⟨2, ![512, 2048]⟩
abbrev S4096x2048 : Shape := ⟨2, ![4096, 2048]⟩
abbrev S128x2048 : Shape := ⟨2, ![128, 2048]⟩
abbrev S512x6144 : Shape := ⟨2, ![512, 6144]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩
abbrev S256x2048 : Shape := ⟨2, ![256, 2048]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1x512 : Shape := ⟨2, ![1, 512]⟩
abbrev S1024x512 : Shape := ⟨2, ![1024, 512]⟩

abbrev nBuf : Space → Nat
  | .hbm => 38
  | .vmem => 44
  | .smem => 0
  | _ => 0

abbrev bufTy : (tb : Table) → Fin (tcTables nBuf tb) → BufTy
  | .hbm, ⟨0, _⟩ => ⟨S4x2048x2048, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2048, .f32⟩
  | .hbm, ⟨5, _⟩ => ⟨S2048, .f32⟩
  | .hbm, ⟨6, _⟩ => ⟨S1x2048x10272, .f32⟩
  | .hbm, ⟨7, _⟩ => ⟨S1x4096, .f32⟩
  | .hbm, ⟨8, _⟩ => ⟨S1x128, .f32⟩
  | .hbm, ⟨9, _⟩ => ⟨S1x1024x2048, .f32⟩
  | .hbm, ⟨10, _⟩ => ⟨S1x1024x2048, .f32⟩
  | .hbm, ⟨11, _⟩ => ⟨S1x2048x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S2048x10272, .f32⟩
  | .hbm, ⟨17, _⟩ => ⟨S10272x2048, .f32⟩
  | .hbm, ⟨18, _⟩ => ⟨S10272x2048, .bf16⟩
  | .hbm, ⟨19, _⟩ => ⟨S128, .f32⟩
  | .hbm, ⟨20, _⟩ => ⟨S1x128, .f32⟩
  | .hbm, ⟨21, _⟩ => ⟨S4096, .f32⟩
  | .hbm, ⟨22, _⟩ => ⟨S1x4096, .f32⟩
  | .hbm, ⟨23, _⟩ => ⟨S1024x2048, .f32⟩
  | .hbm, ⟨24, _⟩ => ⟨S1024x2048, .bf16⟩
  | .hbm, ⟨25, _⟩ => ⟨S1024x2048, .f32⟩
  | .hbm, ⟨26, _⟩ => ⟨S1024x2048, .bf16⟩
  | .hbm, ⟨27, _⟩ => ⟨S2048x2048, .f32⟩
  | .hbm, ⟨28, _⟩ => ⟨S2048x2048, .bf16⟩
  | .hbm, ⟨29, _⟩ => ⟨S2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x6144, .bf16⟩
  | .hbm, ⟨35, _⟩ => ⟨S8192x128, .f32⟩
  | .hbm, ⟨36, _⟩ => ⟨S8192x2048, .bf16⟩
  | .hbm, ⟨37, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S4096x2048, .bf16⟩
  | .local _ .vmem, ⟨5, _⟩ => ⟨S2048x2048, .bf16⟩
  | .local _ .vmem, ⟨6, _⟩ => ⟨S128x2048, .bf16⟩
  | .local _ .vmem, ⟨7, _⟩ => ⟨S512x6144, .bf16⟩
  | .local _ .vmem, ⟨8, _⟩ => ⟨S512x6144, .bf16⟩
  | .local _ .vmem, ⟨9, _⟩ => ⟨S512x128, .f32⟩
  | .local _ .vmem, ⟨10, _⟩ => ⟨S512x128, .f32⟩
  | .local _ .vmem, ⟨11, _⟩ => ⟨S512x2048, .bf16⟩
  | .local _ .vmem, ⟨12, _⟩ => ⟨S512x2048, .bf16⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S256x128, .f32⟩
  | .local _ .vmem, ⟨18, _⟩ => ⟨S256x128, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S1x2048, .f32⟩
  | .local _ .vmem, ⟨30, _⟩ => ⟨S1x2048, .f32⟩
  | .local _ .vmem, ⟨31, _⟩ => ⟨S1x128, .f32⟩
  | .local _ .vmem, ⟨32, _⟩ => ⟨S4096x2048, .bf16⟩
  | .local _ .vmem, ⟨33, _⟩ => ⟨S1x4096, .f32⟩
  | .local _ .vmem, ⟨34, _⟩ => ⟨S1024x2048, .bf16⟩
  | .local _ .vmem, ⟨35, _⟩ => ⟨S1024x2048, .bf16⟩
  | .local _ .vmem, ⟨36, _⟩ => ⟨S2048x2048, .bf16⟩
  | .local _ .vmem, ⟨37, _⟩ => ⟨S1x2048, .f32⟩
  | .local _ .vmem, ⟨38, _⟩ => ⟨S1x2048, .f32⟩
  | .local _ .vmem, ⟨39, _⟩ => ⟨S256x2048, .f32⟩
  | .local _ .vmem, ⟨40, _⟩ => ⟨S256x2048, .f32⟩
  | .local _ .vmem, ⟨41, _⟩ => ⟨S256x1024, .bf16⟩
  | .local _ .vmem, ⟨42, _⟩ => ⟨S256x1024, .bf16⟩
  | .local _ .vmem, ⟨43, _⟩ => ⟨S256x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_stg14_0 : Ref sig .tc := ⟨.vmem, 35, rfl⟩
abbrev cc1_stg15_0 : Ref sig .tc := ⟨.vmem, 36, rfl⟩
abbrev cc1_stg16_0 : Ref sig .tc := ⟨.vmem, 37, rfl⟩
abbrev cc1_stg17_0 : Ref sig .tc := ⟨.vmem, 38, rfl⟩
abbrev cc1_stg18_0 : Ref sig .tc := ⟨.vmem, 39, rfl⟩
abbrev cc1_stg18_1 : Ref sig .tc := ⟨.vmem, 40, rfl⟩
abbrev cc1_scratch0 : Ref sig .tc := ⟨.vmem, 41, rfl⟩
abbrev cc1_scratch1 : Ref sig .tc := ⟨.vmem, 42, rfl⟩
abbrev cc1_scratch2 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem13_0 : DmaSem sig := 34
abbrev cc1_sem14_0 : DmaSem sig := 35
abbrev cc1_sem15_0 : DmaSem sig := 36
abbrev cc1_sem16_0 : DmaSem sig := 37
abbrev cc1_sem17_0 : DmaSem sig := 38
abbrev cc1_sem18_0 : DmaSem sig := 39
abbrev cc1_sem18_1 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4128_i32 : BitVec 32 := 4128#32
  let c0_i32 : BitVec 32 := 0#32
  let c0_i32_0 : BitVec 32 := 0#32
  ![c4128_i32.toNat, c0_i32.toNat]

def cc0_transform_5 (i : grid0.Coords) : Fin 2 → Nat :=
  let arg0 : BitVec 32 := BitVec.ofNat 32 (i 0).val
  let c4096_i32 : BitVec 32 := 4096#32
  let c0_i32 : BitVec 32 := 0#32
  let c0_i32_0 : BitVec 32 := 0#32
  ![c4096_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_6 (i : grid1.Coords) : Fin 2 → Nat :=
  let arg0 : BitVec 32 := BitVec.ofNat 32 (i 0).val
  let c5_i32 : BitVec 32 := 5#32
  let c0_i32 : BitVec 32 := 0#32
  ![arg0.toNat, c5_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c6176_i32 : BitVec 32 := 6176#32
  let c0_i32 : BitVec 32 := 0#32
  let c0_i32_0 : BitVec 32 := 0#32
  ![c6176_i32.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4096x2048 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x4096 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1024x2048 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1024x2048 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S2048x2048 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x2048 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x2048 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S256x2048 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]
-- ==== Reference3Ideal.lean ====
abbrev S4x2048x2048 : Shape := ⟨3, ![4, 2048, 2048]⟩
abbrev S8192x1024 : Shape := ⟨2, ![8192, 1024]⟩
abbrev S2048 : Shape := ⟨1, ![2048]⟩
abbrev S1x2048x10272 : Shape := ⟨3, ![1, 2048, 10272]⟩
abbrev S1x4096 : Shape := ⟨2, ![1, 4096]⟩
abbrev S1x128 : Shape := ⟨2, ![1, 128]⟩
abbrev S1x1024x2048 : Shape := ⟨3, ![1, 1024, 2048]⟩
abbrev S1x2048x2048 : Shape := ⟨3, ![1, 2048, 2048]⟩
abbrev S1x2048 : Shape := ⟨2, ![1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x10272 : Shape := ⟨2, ![2048, 10272]⟩
abbrev S4x2048x10272 : Shape := ⟨3, ![4, 2048, 10272]⟩
abbrev S4x2048x8x128 : Shape := ⟨4, ![4, 2048, 8, 128]⟩
abbrev S4x2048x8 : Shape := ⟨3, ![4, 2048, 8]⟩
abbrev S4x2048x8x1 : Shape := ⟨4, ![4, 2048, 8, 1]⟩
abbrev S128 : Shape := ⟨1, ![128]⟩
abbrev S1x1x1x128 : Shape := ⟨4, ![1, 1, 1, 128]⟩
abbrev S4x2048x1024 : Shape := ⟨3, ![4, 2048, 1024]⟩
abbrev S4x2048x4096 : Shape := ⟨3, ![4, 2048, 4096]⟩
abbrev S4096 : Shape := ⟨1, ![4096]⟩
abbrev S1x1x4096 : Shape := ⟨3, ![1, 1, 4096]⟩
abbrev S1024x2048 : Shape := ⟨2, ![1024, 2048]⟩
abbrev S2048x2048 : Shape := ⟨2, ![2048, 2048]⟩
abbrev S4x2048x6144 : Shape := ⟨3, ![4, 2048, 6144]⟩
abbrev S4x2048x32 : Shape := ⟨3, ![4, 2048, 32]⟩
abbrev S4x2048x94 : Shape := ⟨3, ![4, 2048, 94]⟩
abbrev S4x2048x128 : Shape := ⟨3, ![4, 2048, 128]⟩
abbrev S8192x6144 : Shape := ⟨2, ![8192, 6144]⟩
abbrev S8192x128 : Shape := ⟨2, ![8192, 128]⟩
abbrev S8192x2048 : Shape := ⟨2, ![8192, 2048]⟩

abbrev nBuf : Space → Nat
  | .hbm => 181
  | .vmem => 0
  | .smem => 0
  | _ => 0

abbrev hbmTy0_0 (i : Nat) : BufTy := match i % 128 with
  | 0 => ⟨S4x2048x2048, .f32⟩
  | 1 => ⟨S8192x1024, .bf16⟩
  | 2 => ⟨S8192x1024, .bf16⟩
  | 3 => ⟨S8192x1024, .bf16⟩
  | 4 => ⟨S2048, .f32⟩
  | 5 => ⟨S2048, .f32⟩
  | 6 => ⟨S1x2048x10272, .f32⟩
  | 7 => ⟨S1x4096, .f32⟩
  | 8 => ⟨S1x128, .f32⟩
  | 9 => ⟨S1x1024x2048, .f32⟩
  | 10 => ⟨S1x1024x2048, .f32⟩
  | 11 => ⟨S1x2048x2048, .f32⟩
  | 12 => ⟨S1x2048, .f32⟩
  | 13 => ⟨S1x2048, .f32⟩
  | 14 => ⟨S_, .f32⟩
  | 15 => ⟨S4x2048, .f32⟩
  | 16 => ⟨S4x2048x1, .f32⟩
  | 17 => ⟨S_, .f32⟩
  | 18 => ⟨S4x2048x1, .f32⟩
  | 19 => ⟨S4x2048x1, .f32⟩
  | 20 => ⟨S4x2048x2048, .f32⟩
  | 21 => ⟨S4x2048x2048, .f32⟩
  | 22 => ⟨S4x2048x2048, .f32⟩
  | 23 => ⟨S_, .f32⟩
  | 24 => ⟨S4x2048, .f32⟩
  | 25 => ⟨S4x2048x1, .f32⟩
  | 26 => ⟨S_, .f32⟩
  | 27 => ⟨S4x2048x1, .f32⟩
  | 28 => ⟨S4x2048x1, .f32⟩
  | 29 => ⟨S4x2048x2048, .f32⟩
  | 30 => ⟨S4x2048x2048, .f32⟩
  | 31 => ⟨S_, .f32⟩
  | 32 => ⟨S4x2048x1, .f32⟩
  | 33 => ⟨S4x2048x1, .f32⟩
  | 34 => ⟨S4x2048x1, .f32⟩
  | 35 => ⟨S4x2048x2048, .f32⟩
  | 36 => ⟨S4x2048x2048, .f32⟩
  | 37 => ⟨S1x1x2048, .f32⟩
  | 38 => ⟨S4x2048x2048, .f32⟩
  | 39 => ⟨S4x2048x2048, .f32⟩
  | 40 => ⟨S1x1x2048, .f32⟩
  | 41 => ⟨S4x2048x2048, .f32⟩
  | 42 => ⟨S4x2048x2048, .f32⟩
  | 43 => ⟨S2048x10272, .f32⟩
  | 44 => ⟨S4x2048x10272, .f32⟩
  | 45 => ⟨S8192x1024, .f32⟩
  | 46 => ⟨S8192x1024, .f32⟩
  | 47 => ⟨S8192x1024, .f32⟩
  | 48 => ⟨S4x2048x8x128, .f32⟩
  | 49 => ⟨S4x2048x8x128, .f32⟩
  | 50 => ⟨S_, .f32⟩
  | 51 => ⟨S4x2048x8, .f32⟩
  | 52 => ⟨S4x2048x8x1, .f32⟩
  | 53 => ⟨S_, .f32⟩
  | 54 => ⟨S4x2048x8x1, .f32⟩
  | 55 => ⟨S4x2048x8x1, .f32⟩
  | 56 => ⟨S_, .f32⟩
  | 57 => ⟨S4x2048x8x1, .f32⟩
  | 58 => ⟨S4x2048x8x1, .f32⟩
  | 59 => ⟨S4x2048x8x1, .f32⟩
  | 60 => ⟨S4x2048x8x128, .f32⟩
  | 61 => ⟨S4x2048x8x128, .f32⟩
  | 62 => ⟨S128, .f32⟩
  | 63 => ⟨S1x1x1x128, .f32⟩
  | 64 => ⟨S4x2048x8x128, .f32⟩
  | 65 => ⟨S4x2048x8x128, .f32⟩
  | 66 => ⟨S4x2048x1024, .f32⟩
  | 67 => ⟨S4x2048x8x128, .f32⟩
  | 68 => ⟨S4x2048x8x128, .f32⟩
  | 69 => ⟨S4x2048x8x128, .f32⟩
  | 70 => ⟨S_, .f32⟩
  | 71 => ⟨S4x2048x8x128, .f32⟩
  | 72 => ⟨S4x2048x8x128, .f32⟩
  | 73 => ⟨S_, .f32⟩
  | 74 => ⟨S4x2048x8x128, .f32⟩
  | 75 => ⟨S4x2048x8x128, .f32⟩
  | 76 => ⟨S4x2048x8x128, .f32⟩
  | 77 => ⟨S4x2048x8x128, .f32⟩
  | 78 => ⟨S4x2048x1024, .f32⟩
  | 79 => ⟨S8192x1024, .f32⟩
  | 80 => ⟨S4x2048x1024, .f32⟩
  | 81 => ⟨S4x2048x1024, .f32⟩
  | 82 => ⟨S4x2048x1024, .f32⟩
  | 83 => ⟨S4x2048x1024, .f32⟩
  | 84 => ⟨S_, .f32⟩
  | 85 => ⟨S4x2048x1024, .f32⟩
  | 86 => ⟨S4x2048x1024, .f32⟩
  | 87 => ⟨S_, .f32⟩
  | 88 => ⟨S4x2048x1024, .f32⟩
  | 89 => ⟨S4x2048x1024, .f32⟩
  | 90 => ⟨S4x2048x1024, .f32⟩
  | 91 => ⟨S4x2048x1024, .f32⟩
  | 92 => ⟨S4x2048x4096, .f32⟩
  | 93 => ⟨S4096, .f32⟩
  | 94 => ⟨S1x1x4096, .f32⟩
  | 95 => ⟨S4x2048x4096, .f32⟩
  | 96 => ⟨S4x2048x4096, .f32⟩
  | 97 => ⟨S4x2048x4096, .f32⟩
  | 98 => ⟨S4x2048x4096, .f32⟩
  | 99 => ⟨S_, .f32⟩
  | 100 => ⟨S4x2048x4096, .f32⟩
  | 101 => ⟨S4x2048x4096, .f32⟩
  | 102 => ⟨S_, .f32⟩
  | 103 => ⟨S4x2048x4096, .f32⟩
  | 104 => ⟨S4x2048x4096, .f32⟩
  | 105 => ⟨S4x2048x2048, .f32⟩
  | 106 => ⟨S1024x2048, .f32⟩
  | 107 => ⟨S4x2048x2048, .f32⟩
  | 108 => ⟨S4x2048x2048, .f32⟩
  | 109 => ⟨S4x2048x2048, .f32⟩
  | 110 => ⟨S1024x2048, .f32⟩
  | 111 => ⟨S4x2048x2048, .f32⟩
  | 112 => ⟨S4x2048x2048, .f32⟩
  | 113 => ⟨S4x2048x2048, .f32⟩
  | 114 => ⟨S2048x2048, .f32⟩
  | 115 => ⟨S4x2048x2048, .f32⟩
  | 116 => ⟨S_, .f32⟩
  | 117 => ⟨S4x2048x2048, .f32⟩
  | 118 => ⟨S4x2048x2048, .f32⟩
  | 119 => ⟨S4x2048x2048, .f32⟩
  | 120 => ⟨S2048, .f32⟩
  | 121 => ⟨S2048, .f32⟩
  | 122 => ⟨S_, .f32⟩
  | 123 => ⟨S4x2048, .f32⟩
  | 124 => ⟨S4x2048x1, .f32⟩
  | 125 => ⟨S_, .f32⟩
  | 126 => ⟨S4x2048x1, .f32⟩
  | 127 => ⟨S4x2048x1, .f32⟩
  | _ => ⟨S4x2048x2048, .f32⟩

abbrev hbmTy0_1 (i : Nat) : BufTy := match i % 128 with
  | 0 => ⟨S4x2048x2048, .f32⟩
  | 1 => ⟨S4x2048x2048, .f32⟩
  | 2 => ⟨S4x2048x2048, .f32⟩
  | 3 => ⟨S_, .f32⟩
  | 4 => ⟨S4x2048, .f32⟩
  | 5 => ⟨S4x2048x1, .f32⟩
  | 6 => ⟨S_, .f32⟩
  | 7 => ⟨S4x2048x1, .f32⟩
  | 8 => ⟨S4x2048x1, .f32⟩
  | 9 => ⟨S4x2048x2048, .f32⟩
  | 10 => ⟨S4x2048x2048, .f32⟩
  | 11 => ⟨S_, .f32⟩
  | 12 => ⟨S4x2048x1, .f32⟩
  | 13 => ⟨S4x2048x1, .f32⟩
  | 14 => ⟨S4x2048x1, .f32⟩
  | 15 => ⟨S4x2048x2048, .f32⟩
  | 16 => ⟨S4x2048x2048, .f32⟩
  | 17 => ⟨S1x1x2048, .f32⟩
  | 18 => ⟨S4x2048x2048, .f32⟩
  | 19 => ⟨S4x2048x2048, .f32⟩
  | 20 => ⟨S1x1x2048, .f32⟩
  | 21 => ⟨S4x2048x2048, .f32⟩
  | 22 => ⟨S4x2048x2048, .f32⟩
  | 23 => ⟨S4x2048x4096, .f32⟩
  | 24 => ⟨S4x2048x2048, .f32⟩
  | 25 => ⟨S4x2048x6144, .f32⟩
  | 26 => ⟨S_, .f32⟩
  | 27 => ⟨S4x2048, .f32⟩
  | 28 => ⟨S4x2048x1, .f32⟩
  | 29 => ⟨S_, .f32⟩
  | 30 => ⟨S4x2048x1, .f32⟩
  | 31 => ⟨S4x2048x1, .f32⟩
  | 32 => ⟨S4x2048x2048, .f32⟩
  | 33 => ⟨S4x2048x2048, .f32⟩
  | 34 => ⟨S4x2048x2048, .f32⟩
  | 35 => ⟨S_, .f32⟩
  | 36 => ⟨S4x2048, .f32⟩
  | 37 => ⟨S4x2048x1, .f32⟩
  | 38 => ⟨S_, .f32⟩
  | 39 => ⟨S4x2048x1, .f32⟩
  | 40 => ⟨S4x2048x1, .f32⟩
  | 41 => ⟨S_, .f32⟩
  | 42 => ⟨S4x2048x1, .f32⟩
  | 43 => ⟨S4x2048x1, .f32⟩
  | 44 => ⟨S4x2048x1, .f32⟩
  | 45 => ⟨S4x2048x32, .f32⟩
  | 46 => ⟨S_, .f32⟩
  | 47 => ⟨S4x2048x94, .f32⟩
  | 48 => ⟨S4x2048x128, .f32⟩
  | 49 => ⟨S8192x6144, .f32⟩
  | 50 => ⟨S8192x6144, .bf16⟩
  | 51 => ⟨S8192x128, .f32⟩
  | 52 => ⟨S8192x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_7 : Ref sig .tc := ⟨.hbm, 99, rfl⟩
abbrev main_v61 : Ref sig .tc := ⟨.hbm, 100, rfl⟩
abbrev main_v62 : Ref sig .tc := ⟨.hbm, 101, rfl⟩
abbrev main_cst_8 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_9 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_10 : Ref sig .tc := ⟨.hbm, 122, rfl⟩
abbrev main_v81 : Ref sig .tc := ⟨.hbm, 123, rfl⟩
abbrev main_v82 : Ref sig .tc := ⟨.hbm, 124, rfl⟩
abbrev main_cst_11 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_12 : Ref sig .tc := ⟨.hbm, 131, rfl⟩
abbrev main_v88 : Ref sig .tc := ⟨.hbm, 132, rfl⟩
abbrev main_v89 : Ref sig .tc := ⟨.hbm, 133, rfl⟩
abbrev main_cst_13 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_14 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_15 : Ref sig .tc := ⟨.hbm, 154, rfl⟩
abbrev main_v108 : Ref sig .tc := ⟨.hbm, 155, rfl⟩
abbrev main_v109 : Ref sig .tc := ⟨.hbm, 156, rfl⟩
abbrev main_cst_16 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_17 : Ref sig .tc := ⟨.hbm, 163, rfl⟩
abbrev main_v115 : Ref sig .tc := ⟨.hbm, 164, rfl⟩
abbrev main_v116 : Ref sig .tc := ⟨.hbm, 165, rfl⟩
abbrev main_cst_18 : Ref sig .tc := ⟨.hbm, 166, rfl⟩
abbrev main_v117 : Ref sig .tc := ⟨.hbm, 167, rfl⟩
abbrev main_v118 : Ref sig .tc := ⟨.hbm, 168, rfl⟩
abbrev main_cst_19 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_20 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩

abbrev nD : Nat := 1
abbrev τ : Topo := Topo.v7x

variable {F : FTy → Type} [FloatOps F]
-- ==== Kernel4.lean ====
abbrev S8192x6144 : Shape := ⟨2, ![8192, 6144]⟩
abbrev S16x6144 : Shape := ⟨2, ![16, 6144]⟩
abbrev S8192x128 : Shape := ⟨2, ![8192, 128]⟩
abbrev S1x5x3072 : Shape := ⟨3, ![1, 5, 3072]⟩
abbrev S1x2x8 : Shape := ⟨3, ![1, 2, 8]⟩
abbrev S_ : Shape := ⟨0, ![]⟩
abbrev S8x128 : Shape := ⟨2, ![8, 128]⟩
abbrev S2x8 : Shape := ⟨2, ![2, 8]⟩
abbrev S16 : Shape := ⟨1, ![16]⟩
abbrev S1 : Shape := ⟨1, ![1]⟩
abbrev S2 : Shape := ⟨1, ![2]⟩
abbrev S5x3072 : Shape := ⟨2, ![5, 3072]⟩
abbrev S8x3072 : Shape := ⟨2, ![8, 3072]⟩
abbrev S4x8x256x6144 : Shape := ⟨4, ![4, 8, 256, 6144]⟩
abbrev S4x8x2x3072 : Shape := ⟨4, ![4, 8, 2, 3072]⟩
abbrev S2x3072 : Shape := ⟨2, ![2, 3072]⟩
abbrev S1x1x2x3072 : Shape := ⟨4, ![1, 1, 2, 3072]⟩
abbrev S4x1x2x3072 : Shape := ⟨4, ![4, 1, 2, 3072]⟩
abbrev S4x7x2x3072 : Shape := ⟨4, ![4, 7, 2, 3072]⟩
abbrev S4x8x6x3072 : Shape := ⟨4, ![4, 8, 6, 3072]⟩
abbrev S4x8x16x3072 : Shape := ⟨4, ![4, 8, 16, 3072]⟩
abbrev S8192x3072 : Shape := ⟨2, ![8192, 3072]⟩
abbrev S1024x8192 : Shape := ⟨2, ![1024, 8192]⟩
abbrev S64x8192 : Shape := ⟨2, ![64, 8192]⟩
abbrev S256x3072 : Shape := ⟨2, ![256, 3072]⟩
abbrev S1x1x16x3072 : Shape := ⟨4, ![1, 1, 16, 3072]⟩
abbrev S256x128 : Shape := ⟨2, ![256, 128]⟩
abbrev S1024x256 : Shape := ⟨2, ![1024, 256]⟩
abbrev S64x256 : Shape := ⟨2, ![64, 256]⟩
abbrev S256x256 : Shape := ⟨2, ![256, 256]⟩
abbrev S8x16 : Shape := ⟨2, ![8, 16]⟩
abbrev S32x16 : Shape := ⟨2, ![32, 16]⟩
abbrev S1x256 : Shape := ⟨2, ![1, 256]⟩
abbrev S1x1x16x256 : Shape := ⟨4, ![1, 1, 16, 256]⟩
abbrev S16x256 : Shape := ⟨2, ![16, 256]⟩
abbrev S32x256 : Shape := ⟨2, ![32, 256]⟩
abbrev S8x256 : Shape := ⟨2, ![8, 256]⟩
abbrev S240x256 : Shape := ⟨2, ![240, 256]⟩
abbrev S256 : Shape := ⟨1, ![256]⟩
abbrev S256x1 : Shape := ⟨2, ![256, 1]⟩
abbrev S128x256 : Shape := ⟨2, ![128, 256]⟩
abbrev S1x128 : Shape := ⟨2, ![1, 128]⟩

abbrev nBuf : Space → Nat
  | .hbm => 47
  | .vmem => 16
  | .smem => 0
  | _ => 0

abbrev bufTy : (tb : Table) → Fin (tcTables nBuf tb) → BufTy
  | .hbm, ⟨0, _⟩ => ⟨S8192x6144, .bf16⟩
  | .hbm, ⟨1, _⟩ => ⟨S16x6144, .bf16⟩
  | .hbm, ⟨2, _⟩ => ⟨S8192x128, .f32⟩
  | .hbm, ⟨3, _⟩ => ⟨S1x5x3072, .f32⟩
  | .hbm, ⟨4, _⟩ => ⟨S1x2x8, .f32⟩
  | .hbm, ⟨5, _⟩ => ⟨S1x2x8, .f32⟩
  | .hbm, ⟨6, _⟩ => ⟨S_, .f32⟩
  | .hbm, ⟨7, _⟩ => ⟨S8x128, .f32⟩
  | .hbm, ⟨8, _⟩ => ⟨S2x8, .f32⟩
  | .hbm, ⟨9, _⟩ => ⟨S16, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S8x128, .f32⟩
  | .hbm, ⟨16, _⟩ => ⟨S2x8, .f32⟩
  | .hbm, ⟨17, _⟩ => ⟨S16, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S8x128, .f32⟩
  | .hbm, ⟨24, _⟩ => ⟨S5x3072, .f32⟩
  | .hbm, ⟨25, _⟩ => ⟨S_, .i32⟩
  | .hbm, ⟨26, _⟩ => ⟨S_, .f32⟩
  | .hbm, ⟨27, _⟩ => ⟨S8x3072, .f32⟩
  | .hbm, ⟨28, _⟩ => ⟨S4x8x256x6144, .bf16⟩
  | .hbm, ⟨29, _⟩ => ⟨S4x8x2x3072, .bf16⟩
  | .hbm, ⟨30, _⟩ => ⟨S4x8x2x3072, .bf16⟩
  | .hbm, ⟨31, _⟩ => ⟨S2x3072, .bf16⟩
  | .hbm, ⟨32, _⟩ => ⟨S1x1x2x3072, .bf16⟩
  | .hbm, ⟨33, _⟩ => ⟨S4x1x2x3072, .bf16⟩
  | .hbm, ⟨34, _⟩ => ⟨S4x7x2x3072, .bf16⟩
  | .hbm, ⟨35, _⟩ => ⟨S4x8x2x3072, .bf16⟩
  | .hbm, ⟨36, _⟩ => ⟨S4x7x2x3072, .bf16⟩
  | .hbm, ⟨37, _⟩ => ⟨S_, .bf16⟩
  | .hbm, ⟨38, _⟩ => ⟨S4x1x2x3072, .bf16⟩
  | .hbm, ⟨39, _⟩ => ⟨S4x8x2x3072, .bf16⟩
  | .hbm, ⟨40, _⟩ => ⟨S_, .bf16⟩
  | .hbm, ⟨41, _⟩ => ⟨S4x8x6x3072, .bf16⟩
  | .hbm, ⟨42, _⟩ => ⟨S4x8x16x3072, .bf16⟩
  | .hbm, ⟨43, _⟩ => ⟨S8192x3072, .bf16⟩
  | .hbm, ⟨44, _⟩ => ⟨S1024x8192, .bf16⟩
  | .hbm, ⟨45, _⟩ => ⟨S8192x128, .f32⟩
  | .hbm, ⟨46, _⟩ => ⟨S64x8192, .f32⟩
  | .local _ .vmem, ⟨0, _⟩ => ⟨S256x3072, .bf16⟩
  | .local _ .vmem, ⟨1, _⟩ => ⟨S256x3072, .bf16⟩
  | .local _ .vmem, ⟨2, _⟩ => ⟨S1x1x16x3072, .bf16⟩
  | .local _ .vmem, ⟨3, _⟩ => ⟨S1x1x16x3072, .bf16⟩
  | .local _ .vmem, ⟨4, _⟩ => ⟨S256x128, .f32⟩
  | .local _ .vmem, ⟨5, _⟩ => ⟨S256x128, .f32⟩
  | .local _ .vmem, ⟨6, _⟩ => ⟨S8x3072, .f32⟩
  | .local _ .vmem, ⟨7, _⟩ => ⟨S8x128, .f32⟩
  | .local _ .vmem, ⟨8, _⟩ => ⟨S256x3072, .bf16⟩
  | .local _ .vmem, ⟨9, _⟩ => ⟨S256x3072, .bf16⟩
  | .local _ .vmem, ⟨10, _⟩ => ⟨S1024x256, .bf16⟩
  | .local _ .vmem, ⟨11, _⟩ => ⟨S1024x256, .bf16⟩
  | .local _ .vmem, ⟨12, _⟩ => ⟨S256x128, .f32⟩
  | .local _ .vmem, ⟨13, _⟩ => ⟨S256x128, .f32⟩
  | .local _ .vmem, ⟨14, _⟩ => ⟨S64x256, .f32⟩
  | .local _ .vmem, ⟨15, _⟩ => ⟨S64x256, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v28_2 : Ref sig .tc := ⟨.hbm, 45, rfl⟩
abbrev main_v28_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8192x6144 : Shape := ⟨2, ![8192, 6144]⟩
abbrev S16x6144 : Shape := ⟨2, ![16, 6144]⟩
abbrev S8192x128 : Shape := ⟨2, ![8192, 128]⟩
abbrev S1x5x3072 : Shape := ⟨3, ![1, 5, 3072]⟩
abbrev S1x2x8 : Shape := ⟨3, ![1, 2, 8]⟩
abbrev S8192x3072 : Shape := ⟨2, ![8192, 3072]⟩
abbrev S4x2048x3072 : Shape := ⟨3, ![4, 2048, 3072]⟩
abbrev S16x3072 : Shape := ⟨2, ![16, 3072]⟩
abbrev S1x16x3072 : Shape := ⟨3, ![1, 16, 3072]⟩
abbrev S4x16x3072 : Shape := ⟨3, ![4, 16, 3072]⟩
abbrev S4x2064x3072 : Shape := ⟨3, ![4, 2064, 3072]⟩
abbrev S_ : Shape := ⟨0, ![]⟩
abbrev S4x2068x3072 : Shape := ⟨3, ![4, 2068, 3072]⟩
abbrev S1x1x3072 : Shape := ⟨3, ![1, 1, 3072]⟩
abbrev S3072 : Shape := ⟨1, ![3072]⟩
abbrev S4x2064x1024 : Shape := ⟨3, ![4, 2064, 1024]⟩
abbrev S4x2064x8x128 : Shape := ⟨4, ![4, 2064, 8, 128]⟩
abbrev S4x2064x8 : Shape := ⟨3, ![4, 2064, 8]⟩
abbrev S4x2064x8x1 : Shape := ⟨4, ![4, 2064, 8, 1]⟩
abbrev S4x2048x1024 : Shape := ⟨3, ![4, 2048, 1024]⟩
abbrev S8192x1024 : Shape := ⟨2, ![8192, 1024]⟩
abbrev S1024x8192 : Shape := ⟨2, ![1024, 8192]⟩

abbrev nBuf : Space → Nat
  | .hbm => 103
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S16x6144, .bf16⟩
  | .hbm, ⟨2, _⟩ => ⟨S8192x128, .f32⟩
  | .hbm, ⟨3, _⟩ => ⟨S1x5x3072, .f32⟩
  | .hbm, ⟨4, _⟩ => ⟨S1x2x8, .f32⟩
  | .hbm, ⟨5, _⟩ => ⟨S1x2x8, .f32⟩
  | .hbm, ⟨6, _⟩ => ⟨S8192x3072, .bf16⟩
  | .hbm, ⟨7, _⟩ => ⟨S8192x3072, .f32⟩
  | .hbm, ⟨8, _⟩ => ⟨S4x2048x3072, .f32⟩
  | .hbm, ⟨9, _⟩ => ⟨S16x3072, .bf16⟩
  | .hbm, ⟨10, _⟩ => ⟨S1x16x3072, .bf16⟩
  | .hbm, ⟨11, _⟩ => ⟨S1x16x3072, .f32⟩
  | .hbm, ⟨12, _⟩ => ⟨S4x16x3072, .f32⟩
  | .hbm, ⟨13, _⟩ => ⟨S4x2064x3072, .f32⟩
  | .hbm, ⟨14, _⟩ => ⟨S_, .i32⟩
  | .hbm, ⟨15, _⟩ => ⟨S_, .f32⟩
  | .hbm, ⟨16, _⟩ => ⟨S4x2068x3072, .f32⟩
  | .hbm, ⟨17, _⟩ => ⟨S4x2064x3072, .f32⟩
  | .hbm, ⟨18, _⟩ => ⟨S1x1x3072, .f32⟩
  | .hbm, ⟨19, _⟩ => ⟨S3072, .f32⟩
  | .hbm, ⟨20, _⟩ => ⟨S1x1x3072, .f32⟩
  | .hbm, ⟨21, _⟩ => ⟨S4x2064x3072, .f32⟩
  | .hbm, ⟨22, _⟩ => ⟨S4x2064x3072, .f32⟩
  | .hbm, ⟨23, _⟩ => ⟨S_, .f32⟩
  | .hbm, ⟨24, _⟩ => ⟨S4x2064x3072, .f32⟩
  | .hbm, ⟨25, _⟩ => ⟨S4x2064x3072, .f32⟩
  | .hbm, ⟨26, _⟩ => ⟨S4x2064x3072, .f32⟩
  | .hbm, ⟨27, _⟩ => ⟨S1x1x3072, .f32⟩
  | .hbm, ⟨28, _⟩ => ⟨S3072, .f32⟩
  | .hbm, ⟨29, _⟩ => ⟨S1x1x3072, .f32⟩
  | .hbm, ⟨30, _⟩ => ⟨S4x2064x3072, .f32⟩
  | .hbm, ⟨31, _⟩ => ⟨S4x2064x3072, .f32⟩
  | .hbm, ⟨32, _⟩ => ⟨S4x2064x3072, .f32⟩
  | .hbm, ⟨33, _⟩ => ⟨S4x2064x3072, .f32⟩
  | .hbm, ⟨34, _⟩ => ⟨S1x1x3072, .f32⟩
  | .hbm, ⟨35, _⟩ => ⟨S3072, .f32⟩
  | .hbm, ⟨36, _⟩ => ⟨S1x1x3072, .f32⟩
  | .hbm, ⟨37, _⟩ => ⟨S4x2064x3072, .f32⟩
  | .hbm, ⟨38, _⟩ => ⟨S4x2064x3072, .f32⟩
  | .hbm, ⟨39, _⟩ => ⟨S4x2064x3072, .f32⟩
  | .hbm, ⟨40, _⟩ => ⟨S4x2064x3072, .f32⟩
  | .hbm, ⟨41, _⟩ => ⟨S1x1x3072, .f32⟩
  | .hbm, ⟨42, _⟩ => ⟨S3072, .f32⟩
  | .hbm, ⟨43, _⟩ => ⟨S1x1x3072, .f32⟩
  | .hbm, ⟨44, _⟩ => ⟨S4x2064x3072, .f32⟩
  | .hbm, ⟨45, _⟩ => ⟨S4x2064x3072, .f32⟩
  | .hbm, ⟨46, _⟩ => ⟨S4x2064x3072, .f32⟩
  | .hbm, ⟨47, _⟩ => ⟨S4x2064x3072, .f32⟩
  | .hbm, ⟨48, _⟩ => ⟨S1x1x3072, .f32⟩
  | .hbm, ⟨49, _⟩ => ⟨S3072, .f32⟩
  | .hbm, ⟨50, _⟩ => ⟨S1x1x3072, .f32⟩
  | .hbm, ⟨51, _⟩ => ⟨S4x2064x3072, .f32⟩
  | .hbm, ⟨52, _⟩ => ⟨S4x2064x3072, .f32⟩
  | .hbm, ⟨53, _⟩ => ⟨S4x2064x3072, .f32⟩
  | .hbm, ⟨54, _⟩ => ⟨S4x2064x3072, .f32⟩
  | .hbm, ⟨55, _⟩ => ⟨S4x2064x3072, .f32⟩
  | .hbm, ⟨56, _⟩ => ⟨S_, .f32⟩
  | .hbm, ⟨57, _⟩ => ⟨S4x2064x3072, .f32⟩
  | .hbm, ⟨58, _⟩ => ⟨S4x2064x3072, .f32⟩
  | .hbm, ⟨59, _⟩ => ⟨S_, .f32⟩
  | .hbm, ⟨60, _⟩ => ⟨S4x2064x3072, .f32⟩
  | .hbm, ⟨61, _⟩ => ⟨S4x2064x3072, .f32⟩
  | .hbm, ⟨62, _⟩ => ⟨S4x2064x3072, .f32⟩
  | .hbm, ⟨63, _⟩ => ⟨S4x2064x1024, .f32⟩
  | .hbm, ⟨64, _⟩ => ⟨S4x2064x8x128, .f32⟩
  | .hbm, ⟨65, _⟩ => ⟨S4x2064x8x128, .f32⟩
  | .hbm, ⟨66, _⟩ => ⟨S_, .f32⟩
  | .hbm, ⟨67, _⟩ => ⟨S4x2064x8, .f32⟩
  | .hbm, ⟨68, _⟩ => ⟨S4x2064x8x1, .f32⟩
  | .hbm, ⟨69, _⟩ => ⟨S_, .f32⟩
  | .hbm, ⟨70, _⟩ => ⟨S4x2064x8x1, .f32⟩
  | .hbm, ⟨71, _⟩ => ⟨S4x2064x8x1, .f32⟩
  | .hbm, ⟨72, _⟩ => ⟨S4x2064x8x1, .f32⟩
  | .hbm, ⟨73, _⟩ => ⟨S4x2064x8x128, .f32⟩
  | .hbm, ⟨74, _⟩ => ⟨S4x2064x8x128, .f32⟩
  | .hbm, ⟨75, _⟩ => ⟨S_, .f32⟩
  | .hbm, ⟨76, _⟩ => ⟨S4x2064x8x128, .f32⟩
  | .hbm, ⟨77, _⟩ => ⟨S4x2064x8x128, .f32⟩
  | .hbm, ⟨78, _⟩ => ⟨S4x2064x1024, .f32⟩
  | .hbm, ⟨79, _⟩ => ⟨S4x2064x8x128, .f32⟩
  | .hbm, ⟨80, _⟩ => ⟨S4x2064x8x128, .f32⟩
  | .hbm, ⟨81, _⟩ => ⟨S_, .f32⟩
  | .hbm, ⟨82, _⟩ => ⟨S4x2064x8, .f32⟩
  | .hbm, ⟨83, _⟩ => ⟨S4x2064x8x1, .f32⟩
  | .hbm, ⟨84, _⟩ => ⟨S_, .f32⟩
  | .hbm, ⟨85, _⟩ => ⟨S4x2064x8x1, .f32⟩
  | .hbm, ⟨86, _⟩ => ⟨S4x2064x8x1, .f32⟩
  | .hbm, ⟨87, _⟩ => ⟨S4x2064x8x1, .f32⟩
  | .hbm, ⟨88, _⟩ => ⟨S4x2064x8x128, .f32⟩
  | .hbm, ⟨89, _⟩ => ⟨S4x2064x8x128, .f32⟩
  | .hbm, ⟨90, _⟩ => ⟨S4x2064x1024, .f32⟩
  | .hbm, ⟨91, _⟩ => ⟨S4x2048x1024, .f32⟩
  | .hbm, ⟨92, _⟩ => ⟨S8192x1024, .f32⟩
  | .hbm, ⟨93, _⟩ => ⟨S4x2064x1024, .f32⟩
  | .hbm, ⟨94, _⟩ => ⟨S4x2048x1024, .f32⟩
  | .hbm, ⟨95, _⟩ => ⟨S8192x1024, .f32⟩
  | .hbm, ⟨96, _⟩ => ⟨S4x2064x1024, .f32⟩
  | .hbm, ⟨97, _⟩ => ⟨S4x2048x1024, .f32⟩
  | .hbm, ⟨98, _⟩ => ⟨S8192x1024, .f32⟩
  | .hbm, ⟨99, _⟩ => ⟨S8192x3072, .f32⟩
  | .hbm, ⟨100, _⟩ => ⟨S8192x3072, .bf16⟩
  | .hbm, ⟨101, _⟩ => ⟨S1024x8192, .f32⟩
  | .hbm, ⟨102, _⟩ => ⟨S1024x8192, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_0 : Ref sig .tc := ⟨.hbm, 66, rfl⟩
abbrev main_v49 : Ref sig .tc := ⟨.hbm, 67, rfl⟩
abbrev main_v50 : Ref sig .tc := ⟨.hbm, 68, rfl⟩
abbrev main_cst_1 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_2 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_3 : Ref sig .tc := ⟨.hbm, 81, rfl⟩
abbrev main_v61 : Ref sig .tc := ⟨.hbm, 82, rfl⟩
abbrev main_v62 : Ref sig .tc := ⟨.hbm, 83, rfl⟩
abbrev main_cst_4 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== Proof.Spec.lean ====
/-
  The layer's arithmetic on one row, as plain functions of index functions: the two layer
  normalisations, a projected column, the gated recurrent heads, the gated Fourier channels, the
  gated merge and the output row. Both programs are read into these functions.
-/
module

public import Idealize.ShloMosaic.Lib.Pointwise

@[expose] public section

noncomputable section

namespace Cert.Layer

open Idealize.ShloMosaic

/-- The mean of a row of 2048 numbers. -/
def mean (x : Fin 2048 → EReal) : EReal := Ideal.div (∑ k, x k) (Ideal.ofBits .f32 0x45000000#32)

/-- One over the root of the row's variance, with the normalisation's small number added. -/
def rstd (x : Fin 2048 → EReal) : EReal :=
  Ideal.rsqrt (Ideal.div (∑ k, (x k - mean x) * (x k - mean x)) (Ideal.ofBits .f32 0x45000000#32)
    + Ideal.ofBits .f32 0x3727C5AC#32)

/-- A row scaled and shifted by a given centre and a given scale. -/
def affine (mu rs : EReal) (x g b : Fin 2048 → EReal) (k : Fin 2048) : EReal := (x k - mu) * rs * g k + b k

/-- The layer normalisation of a row. -/
def lnorm (x g b : Fin 2048 → EReal) : Fin 2048 → EReal := affine (mean x) (rstd x) x g b

/-- The product of a row and a column. -/
def dotp {n : ℕ} (x w : Fin n → EReal) : EReal := ∑ k, x k * w k

/-- `z` times its logistic. -/
def silu (z : EReal) : EReal := z * Ideal.logistic z

/-- The position of lane `k` of the head that channel `e` lies in. -/
def headIx (e : Fin 1024) (k : Fin 128) : Fin 1024 := ⟨128 * (e.val / 128) + k.val, by omega⟩

/-- The lane of channel `e` in its head. -/
def laneIx (e : Fin 1024) : Fin 128 := ⟨e.val % 128, by omega⟩

/-- The recurrent heads: the sum of both directions, scaled by one over its root mean square over the
    head and by the norm's weight, gated. -/
def heads (a b z : Fin 1024 → EReal) (nw : Fin 128 → EReal) (e : Fin 1024) : EReal :=
  (a e + b e) * Ideal.rsqrt (Ideal.div (∑ k, (a (headIx e k) + b (headIx e k)) * (a (headIx e k) + b (headIx e k)))
    (Ideal.ofBits .f32 0x43000000#32) + Ideal.ofBits .f32 0x358637BD#32) * nw (laneIx e) * silu (z e)

/-- The Fourier channels, gated. -/
def fourier (f z : Fin 1024 → EReal) (e : Fin 1024) : EReal := f e * silu (z e)

/-- The first and the second half of the gates' columns. -/
def lo (d : Fin 2048) : Fin 4096 := ⟨d.val, by omega⟩
def hi (d : Fin 2048) : Fin 4096 := ⟨2048 + d.val, by omega⟩

/-- The gated merge of both branches, channel `d`. -/
def merged (h : Fin 2048 → EReal) (ya yf : Fin 1024 → EReal) (wg : Fin 4096 → Fin 2048 → EReal) (bg : Fin 4096 → EReal)
    (wa wf : Fin 1024 → Fin 2048 → EReal) (d : Fin 2048) : EReal :=
  Ideal.logistic (dotp h (wg (lo d)) + bg (lo d)) * dotp ya (fun e => wa e d)
    + Ideal.logistic (dotp h (wg (hi d)) + bg (hi d)) * dotp yf (fun e => wf e d)

/-- The residual row: the weighted input row plus the merged row's projection. -/
def resid (h : Fin 2048 → EReal) (m : Fin 2048 → EReal) (wo : Fin 2048 → Fin 2048 → EReal) (d : Fin 2048) : EReal :=
  Ideal.ofBits .f32 0x3F9837F0#32 * h d + dotp m (fun k => wo k d)

/-- A row of the second result: 32 logits, the row's mean, its scale, zeros. -/
def stats (q : Fin 32 → EReal) (mu rs : EReal) (l : Fin 128) : EReal :=
  if h : l.val < 32 then q ⟨l.val, h⟩ else if l.val = 32 then mu else if l.val = 33 then rs else 0

/-- The column of the input projection that column `j` of the first result holds: the logits' 32
    columns are left out. -/
def projCol (j : Fin 6144) : Fin 10272 := if h : j.val < 4096 then ⟨j.val, by omega⟩ else ⟨j.val + 32, by omega⟩

/-- The output row, from what the merge reads: the input row with its centre and scale `mu`, `rs`, the
    normalised row `h`, both directions `a`, `o` and the gate `za` of the heads, the Fourier row `f` and its gate
    `zf`, and the weights. -/
def mergeRow (mu rs : EReal) (x gi bi h : Fin 2048 → EReal) (a o za : Fin 1024 → EReal) (nw : Fin 128 → EReal)
    (f zf : Fin 1024 → EReal) (wg : Fin 4096 → Fin 2048 → EReal) (bg : Fin 4096 → EReal)
    (wa wf : Fin 1024 → Fin 2048 → EReal) (wo : Fin 2048 → Fin 2048 → EReal) (lg lb : Fin 2048 → EReal) :
    Fin 2048 → EReal :=
  lnorm (resid (affine mu rs x gi bi) (merged h (heads a o za nw) (fourier f zf) wg bg wa wf) wo) lg lb

/-- The three results' rows from the arguments: `w j` is column `j` of the input projection. -/
def pRow (x gi bi : Fin 2048 → EReal) (w : Fin 10272 → Fin 2048 → EReal) (j : Fin 6144) : EReal :=
  dotp (lnorm x gi bi) (w (projCol j))

def baRow (x gi bi : Fin 2048 → EReal) (w : Fin 10272 → Fin 2048 → EReal) : Fin 128 → EReal :=
  stats (fun q => dotp (lnorm x gi bi) (w ⟨4096 + q.val, by omega⟩)) (mean x) (rstd x)

def yRow (x gi bi : Fin 2048 → EReal) (w : Fin 10272 → Fin 2048 → EReal) (a o f : Fin 1024 → EReal) (nw : Fin 128 → EReal)
    (bg : Fin 4096 → EReal) (wa wf : Fin 1024 → Fin 2048 → EReal) (wo : Fin 2048 → Fin 2048 → EReal)
    (lg lb : Fin 2048 → EReal) : Fin 2048 → EReal :=
  mergeRow (mean x) (rstd x) x gi bi (lnorm x gi bi)
    a o (fun e => dotp (lnorm x gi bi) (w ⟨3072 + e.val, by omega⟩)) nw
    f (fun e => dotp (lnorm x gi bi) (w ⟨5152 + e.val, by omega⟩))
    (fun q => w ⟨6176 + q.val, by omega⟩) bg wa wf wo lg lb

/-- The arguments' rows and columns: row `i` of the input, column `j` of the input projection, a matrix, a row of a
    matrix that the kernels are called with, a vector kept as a matrix of one row. -/
def inRow (x : (⟨3, ![1, 16384, 2048]⟩ : Shape).Idx → EReal) (i : Fin 16384) : Fin 2048 → EReal := fun k => x (ix3 0 i k)
def inCol (w : (⟨3, ![1, 2048, 10272]⟩ : Shape).Idx → EReal) (j : Fin 10272) : Fin 2048 → EReal := fun k => w (ix3 0 k j)
def vec {n : ℕ} (x : (⟨1, ![n]⟩ : Shape).Idx → EReal) : Fin n → EReal := fun k => x (ix1 k)
def rowOf {a n : ℕ} (x : (⟨2, ![a, n]⟩ : Shape).Idx → EReal) (i : Fin a) : Fin n → EReal := fun k => x (ix2 i k)
def mat {a n : ℕ} (x : (⟨3, ![1, a, n]⟩ : Shape).Idx → EReal) : Fin a → Fin n → EReal := fun e d => x (ix3 0 e d)

end Cert.Layer

end
-- ==== Proof.Block0.lean ====
/-
  The projection call's output blocks at an index: the projected columns, the logits with the row
  statistics, the normalised row.
-/
module

public import proofs.«01_k».proof.Proof.Gen.KernelIdeal.Frame
public import proofs.«01_k».proof.Proof.Spec
public import Idealize.ShloMosaic.Lib.Pipeline.ValueKit
public import Idealize.ShloMosaic.Lib.Pipeline.ReadBack

@[expose] public section

set_option maxRecDepth 16384

noncomputable section

namespace Cert.KernelIdeal.Layer

open Idealize.ShloMosaic Idealize.ShloMosaic.TcCoe Idealize.ShloMosaic.Tactic Idealize.SL.Sem
open Cert.KernelIdeal Cert.KernelIdeal.Gen Cert.Layer

/-- The row's mean, as the kernel takes it. -/
theorem k0_mean (x0 : Vec Ideal S512x2048 .f32) (r : Fin 512) (l : Fin 1) :
    k0_pay4 x0 (ix2 r l) = mean fun k => x0 (ix2 r k) := by
  unfold_payloads
  pointwise [mean]

theorem k0_rstd (x0 : Vec Ideal S512x2048 .f32) (r : Fin 512) (l : Fin 1) :
    k0_pay6 x0 (ix2 r l) = rstd fun k => x0 (ix2 r k) := by
  unfold_payloads
  pointwise [rstd, mean]

theorem k0_norm (x0 : Vec Ideal S512x2048 .f32) (x1 x2 : Vec Ideal S1x2048 .f32) (r : Fin 512) (l : Fin 2048) :
    k0_pay7 x0 x1 x2 (ix2 r l)
      = lnorm (fun k => x0 (ix2 r k)) (fun k => x1 (ix2 0 k)) (fun k => x2 (ix2 0 k)) l := by
  unfold_payloads
  pointwise [lnorm, affine, rstd, mean]

theorem k0_col (h : FVec Ideal S512x2048 .bf16) (w : Vec Ideal S1024x2048 .bf16) (r : Fin 512) (l : Fin 1024) :
    k0_pay2 h w (ix2 r l) = dotp (fun k => h (ix2 r k)) (fun k => w (ix2 l k)) := by
  unfold_payloads
  pointwise [dotp]

theorem out0_8_at (x0 : Vec Ideal S512x2048 .f32) (x1 x2 : Vec Ideal S1x2048 .f32) (x3 : Vec Ideal S4096x2048 .bf16)
    (x4 : Vec Ideal S2048x2048 .bf16) (x5 : Vec Ideal S128x2048 .bf16) (r : Fin 512) (l : Fin 2048) :
    out0_8 x0 x1 x2 x3 x4 x5 (ix2 r l)
      = lnorm (fun k => x0 (ix2 r k)) (fun k => x1 (ix2 0 k)) (fun k => x2 (ix2 0 k)) l := by
  canon_tiles x h
  idx_vars x
  obtain rfl := Fin.ext h0
  obtain rfl := Fin.ext h1
  pointwise [k0_norm]

/-- The three lane tests of the statistics block, on the lane's number. -/
theorem lane_tests : ∀ l : Fin 128,
    IntOp.cmpi .eq (BitVec.ofNat 32 l.val) 32#32 = BitVec.ofBool (decide (l.val = 32))
      ∧ IntOp.cmpi .eq (BitVec.ofNat 32 l.val) 33#32 = BitVec.ofBool (decide (l.val = 33))
      ∧ IntOp.cmpi .slt (BitVec.ofNat 32 l.val) 32#32 = BitVec.ofBool (decide (l.val < 32)) := by
  decide

theorem out0_7_at (x0 : Vec Ideal S512x2048 .f32) (x1 x2 : Vec Ideal S1x2048 .f32) (x3 : Vec Ideal S4096x2048 .bf16)
    (x4 : Vec Ideal S2048x2048 .bf16) (x5 : Vec Ideal S128x2048 .bf16) (r : Fin 512) (l : Fin 128) :
    out0_7 x0 x1 x2 x3 x4 x5 (ix2 r l)
      = stats (fun q => dotp (lnorm (fun k => x0 (ix2 r k)) (fun k => x1 (ix2 0 k)) (fun k => x2 (ix2 0 k)))
            fun k => x5 (ix2 ⟨q.val, by omega⟩ k))
          (mean fun k => x0 (ix2 r k)) (rstd fun k => x0 (ix2 r k)) l := by
  canon_tiles x h
  idx_vars x
  obtain rfl := Fin.ext h0
  obtain rfl := Fin.ext h1
  unfold k0_pay10 k0_pay8 k0_pay9
  pointwise [k0_mean, k0_rstd, k0_norm]
  rw [(lane_tests l).1, (lane_tests l).2.1, (lane_tests l).2.2]
  simp only [Scalar.select_decide]
  unfold stats dotp
  split_ifs <;> first | rfl | omega

/-- The weight row of column `j` of the first result's block: the first block's rows, then the
    second's. -/
def wrow (x3 : Vec Ideal S4096x2048 .bf16) (x4 : Vec Ideal S2048x2048 .bf16) (j : Fin 6144) : Fin 2048 → EReal :=
  if h : j.val < 4096 then fun k => x3 (ix2 ⟨j.val, h⟩ k) else fun k => x4 (ix2 ⟨j.val - 4096, by omega⟩ k)

theorem wrow_lo (x3 : Vec Ideal S4096x2048 .bf16) (x4 : Vec Ideal S2048x2048 .bf16) (j : Fin 6144) (i : Fin 4096)
    (h : j.val = i.val) : wrow x3 x4 j = fun k => x3 (ix2 i k) := by
  obtain ⟨j, hj⟩ := j
  replace h : j = i.val := h
  subst h
  exact dif_pos i.isLt

theorem wrow_hi (x3 : Vec Ideal S4096x2048 .bf16) (x4 : Vec Ideal S2048x2048 .bf16) (j : Fin 6144) (i : Fin 2048)
    (h : j.val = 4096 + i.val) : wrow x3 x4 j = fun k => x4 (ix2 i k) := by
  obtain ⟨j, hj⟩ := j
  replace h : j = 4096 + i.val := h
  have e : (⟨j - 4096, by omega⟩ : Fin 2048) = i := Fin.ext (show j - 4096 = i.val by omega)
  rw [← e]
  exact dif_neg (show ¬ j < 4096 by omega)

theorem out0_6_at (x0 : Vec Ideal S512x2048 .f32) (x1 x2 : Vec Ideal S1x2048 .f32) (x3 : Vec Ideal S4096x2048 .bf16)
    (x4 : Vec Ideal S2048x2048 .bf16) (x5 : Vec Ideal S128x2048 .bf16) (r : Fin 512) (j : Fin 6144) :
    out0_6 x0 x1 x2 x3 x4 x5 (ix2 r j)
      = dotp (lnorm (fun k => x0 (ix2 r k)) (fun k => x1 (ix2 0 k)) (fun k => x2 (ix2 0 k))) (wrow x3 x4 j) := by
  unfold_out out0_6
  canon_tiles x h
  all_goals
    idx_vars x
    obtain rfl := Fin.ext h0
    unfold dotp
  case piece0 =>
    rw [wrow_hi x3 x4 j ⟨1024 + x1.val, by omega⟩ (by show _ = 4096 + (1024 + x1.val); omega)]
    unfold k0_pay2; pointwise [k0_norm]
  case piece1 =>
    rw [wrow_hi x3 x4 j ⟨x1.val, by omega⟩ h1]
    unfold k0_pay1 k0_pay15; pointwise [k0_norm]
  case piece2 => rw [wrow_lo x3 x4 j ⟨3072 + x1.val, by omega⟩ h1]; unfold k0_pay14; pointwise [k0_norm]
  case piece3 => rw [wrow_lo x3 x4 j ⟨2048 + x1.val, by omega⟩ h1]; unfold k0_pay13; pointwise [k0_norm]
  case piece4 => rw [wrow_lo x3 x4 j ⟨1024 + x1.val, by omega⟩ h1]; unfold k0_pay12; pointwise [k0_norm]
  case piece5 => rw [wrow_lo x3 x4 j ⟨x1.val, by omega⟩ h1]; unfold k0_pay11; pointwise [k0_norm]

end Cert.KernelIdeal.Layer

end
-- ==== Proof.Reads.lean ====
/-
  What the two calls' windows hold at a grid point, read at an index of the arrays.
-/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Layer

open Idealize.ShloMosaic Idealize.ShloMosaic.TcCoe Idealize.ShloMosaic.Tactic Idealize.SL.Sem
open Cert.KernelIdeal Cert.KernelIdeal.Gen

variable (V : (c : Dev nD) → (b : Ref sig .tc) → Buf (Elt Ideal) ((c : Thread nD τ).loc b)) (c : Dev nD)

theorem idx0 : ∀ t : Fin grid0.N, win0_0.index t = ![t.val, 0] ∧ win0_1.index t = ![0, 0] ∧ win0_2.index t = ![0, 0]
    ∧ win0_6.index t = ![t.val, 0] ∧ win0_7.index t = ![t.val, 0] ∧ win0_8.index t = ![t.val, 0] := by
  decide +kernel

theorem idx0_w : ∀ t : Fin grid0.N, win0_3.index t = ![0, 0] ∧ win0_4.index t = ![4128, 0]
    ∧ win0_5.index t = ![4096, 0] := by
  decide +kernel

theorem idx1 : ∀ t : Fin grid1.N, win1_0.index t = ![t.val, 0] ∧ win1_1.index t = ![t.val, 0] ∧ win1_2.index t = ![t.val, 0]
    ∧ win1_3.index t = ![t.val, 0] ∧ win1_4.index t = ![t.val, 0] ∧ win1_5.index t = ![t.val, 3]
    ∧ win1_6.index t = ![t.val, 5] ∧ win1_7.index t = ![t.val, 0] ∧ win1_8.index t = ![0, 0]
    ∧ win1_9.index t = ![0, 0] ∧ win1_10.index t = ![0, 0] ∧ win1_12.index t = ![0, 0] ∧ win1_13.index t = ![0, 0]
    ∧ win1_14.index t = ![0, 0] ∧ win1_15.index t = ![0, 0] ∧ win1_16.index t = ![0, 0] ∧ win1_17.index t = ![0, 0]
    ∧ win1_18.index t = ![t.val, 0] := by
  decide +kernel

theorem idx1_w : ∀ t : Fin grid1.N, win1_11.index t = ![6176, 0] := by
  decide +kernel

/-- Row `r` of the projection call's grid point `t`, and of the merge call's. -/
abbrev row0 (t : Fin cfg0.N) (r : Fin 512) : Fin 16384 :=
  ⟨t.val * 512 + r.val, by have := t.isLt; have : cfg0.N = 32 := rfl; omega⟩
abbrev row1 (t : Fin cfg1.N) (r : Fin 256) : Fin 16384 :=
  ⟨t.val * 256 + r.val, by have := t.isLt; have : cfg1.N = 64 := rfl; omega⟩

theorem read0_0 (t : Fin cfg0.N) (r : Fin 512) (k : Fin 2048) :
    iblk0 V c 0 t (ix2 r k) = V c main_v19 (ix2 (row0 t r) k) := by
  blk_ext [iblk0, idx0 t]

theorem read0_1 (t : Fin cfg0.N) (k : Fin 2048) :
    iblk0 V c 1 t (ix2 0 k) = V c main_v0 (ix2 0 k) := by
  blk_ext [iblk0, idx0 t]

theorem read0_2 (t : Fin cfg0.N) (k : Fin 2048) :
    iblk0 V c 2 t (ix2 0 k) = V c main_v1 (ix2 0 k) := by
  blk_ext [iblk0, idx0 t]

theorem read0_3 (t : Fin cfg0.N) (r : Fin 4096) (k : Fin 2048) :
    iblk0 V c 3 t (ix2 r k) = V c main_v4 (ix2 ⟨r.val, by omega⟩ k) := by
  blk_ext [iblk0]
  · exact (win0_3.rect_emb_val_of_index_zero t 0 (by rw [(idx0_w t).1]; rfl) (ix2 r k))
  · exact (win0_3.rect_emb_val_of_index_zero t 1 (by rw [(idx0_w t).1]; rfl) (ix2 r k))

theorem read0_4 (t : Fin cfg0.N) (r : Fin 2048) (k : Fin 2048) :
    iblk0 V c 4 t (ix2 r k) = V c main_v4 (ix2 ⟨4128 + r.val, by omega⟩ k) := by
  blk_ext [iblk0]
  · exact (win0_4.rect_emb_val_off t (ix2 r k) 0).trans (by rw [(idx0_w t).2.1]; rfl)
  · exact (win0_4.rect_emb_val_of_index_zero t 1 (by rw [(idx0_w t).2.1]; rfl) (ix2 r k))

theorem read0_5 (t : Fin cfg0.N) (r : Fin 128) (k : Fin 2048) :
    iblk0 V c 5 t (ix2 r k) = V c main_v4 (ix2 ⟨4096 + r.val, by omega⟩ k) := by
  blk_ext [iblk0]
  · exact (win0_5.rect_emb_val_off t (ix2 r k) 0).trans (by rw [(idx0_w t).2.2]; rfl)
  · exact (win0_5.rect_emb_val_of_index_zero t 1 (by rw [(idx0_w t).2.2]; rfl) (ix2 r k))

theorem read1_0 (t : Fin cfg1.N) (r : Fin 256) (k : Fin 2048) :
    iblk1 V c 0 t (ix2 r k) = V c main_v19 (ix2 (row1 t r) k) := by
  blk_ext [iblk1, idx1 t]

theorem read1_1 (t : Fin cfg1.N) (r : Fin 256) (k : Fin 2048) :
    iblk1 V c 1 t (ix2 r k) = V c main_v20_2 (ix2 (row1 t r) k) := by
  blk_ext [iblk1, idx1 t]

theorem read1_2 (t : Fin cfg1.N) (r : Fin 256) (k : Fin 128) :
    iblk1 V c 2 t (ix2 r k) = V c main_v20_1 (ix2 (row1 t r) k) := by
  blk_ext [iblk1, idx1 t]

theorem read1_3 (t : Fin cfg1.N) (r : Fin 256) (k : Fin 1024) :
    iblk1 V c 3 t (ix2 r k) = V c main_arg1 (ix2 (row1 t r) k) := by
  blk_ext [iblk1, idx1 t]

theorem read1_4 (t : Fin cfg1.N) (r : Fin 256) (k : Fin 1024) :
    iblk1 V c 4 t (ix2 r k) = V c main_arg2 (ix2 (row1 t r) k) := by
  blk_ext [iblk1, idx1 t]

theorem read1_5 (t : Fin cfg1.N) (r : Fin 256) (k : Fin 1024) :
    iblk1 V c 5 t (ix2 r k) = V c main_v20_0 (ix2 (row1 t r) ⟨3072 + k.val, by omega⟩) := by
  blk_ext [iblk1, idx1 t]

theorem read1_6 (t : Fin cfg1.N) (r : Fin 256) (k : Fin 1024) :
    iblk1 V c 6 t (ix2 r k) = V c main_v20_0 (ix2 (row1 t r) ⟨5120 + k.val, by omega⟩) := by
  blk_ext [iblk1, idx1 t]

theorem read1_7 (t : Fin cfg1.N) (r : Fin 256) (k : Fin 1024) :
    iblk1 V c 7 t (ix2 r k) = V c main_arg3 (ix2 (row1 t r) k) := by
  blk_ext [iblk1, idx1 t]

theorem read1_8 (t : Fin cfg1.N) (k : Fin 2048) :
    iblk1 V c 8 t (ix2 0 k) = V c main_v0 (ix2 0 k) := by
  blk_ext [iblk1, idx1 t]

theorem read1_9 (t : Fin cfg1.N) (k : Fin 2048) :
    iblk1 V c 9 t (ix2 0 k) = V c main_v1 (ix2 0 k) := by
  blk_ext [iblk1, idx1 t]

theorem read1_10 (t : Fin cfg1.N) (k : Fin 128) :
    iblk1 V c 10 t (ix2 0 k) = V c main_v6 (ix2 0 k) := by
  blk_ext [iblk1, idx1 t]

theorem read1_11 (t : Fin cfg1.N) (r : Fin 4096) (k : Fin 2048) :
    iblk1 V c 11 t (ix2 r k) = V c main_v4 (ix2 ⟨6176 + r.val, by omega⟩ k) := by
  blk_ext [iblk1]
  · exact (win1_11.rect_emb_val_off t (ix2 r k) 0).trans (by rw [idx1_w t]; rfl)
  · exact (win1_11.rect_emb_val_of_index_zero t 1 (by rw [idx1_w t]; rfl) (ix2 r k))

theorem read1_12 (t : Fin cfg1.N) (k : Fin 4096) :
    iblk1 V c 12 t (ix2 0 k) = V c main_v8 (ix2 0 k) := by
  blk_ext [iblk1, idx1 t]

theorem read1_13 (t : Fin cfg1.N) (r : Fin 1024) (k : Fin 2048) :
    iblk1 V c 13 t (ix2 r k) = V c main_v10 (ix2 r k) := by
  blk_ext [iblk1, idx1 t]

theorem read1_14 (t : Fin cfg1.N) (r : Fin 1024) (k : Fin 2048) :
    iblk1 V c 14 t (ix2 r k) = V c main_v12 (ix2 r k) := by
  blk_ext [iblk1, idx1 t]

theorem read1_15 (t : Fin cfg1.N) (r : Fin 2048) (k : Fin 2048) :
    iblk1 V c 15 t (ix2 r k) = V c main_v14 (ix2 r k) := by
  blk_ext [iblk1, idx1 t]

theorem read1_16 (t : Fin cfg1.N) (k : Fin 2048) :
    iblk1 V c 16 t (ix2 0 k) = V c main_v16 (ix2 0 k) := by
  blk_ext [iblk1, idx1 t]

theorem read1_17 (t : Fin cfg1.N) (k : Fin 2048) :
    iblk1 V c 17 t (ix2 0 k) = V c main_v18 (ix2 0 k) := by
  blk_ext [iblk1, idx1 t]

end Cert.KernelIdeal.Layer

end
-- ==== Proof.Arrays0.lean ====
/-
  The projection call's three result arrays, as functions of the arrays it reads.
-/
module

public import proofs.«01_k».proof.Proof.Block0
public import proofs.«01_k».proof.Proof.Reads

@[expose] public section

set_option maxRecDepth 16384

noncomputable section

namespace Cert.KernelIdeal.Layer

open Idealize.ShloMosaic Idealize.ShloMosaic.TcCoe Idealize.ShloMosaic.Tactic Idealize.SL.Sem
open Cert.KernelIdeal Cert.KernelIdeal.Gen Cert.Layer

variable (V : (c : Dev nD) → (b : Ref sig .tc) → Buf (Elt Ideal) ((c : Thread nD τ).loc b)) (c : Dev nD)

/-- Row `i` of the input, and the row normalised. -/
def xrow (i : Fin 16384) : Fin 2048 → EReal := fun k => V c main_v19 (ix2 i k)
def hrow (i : Fin 16384) : Fin 2048 → EReal :=
  lnorm (xrow V c i) (fun k => V c main_v0 (ix2 0 k)) fun k => V c main_v1 (ix2 0 k)

/-- Column `j` of the input projection. -/
def wcol (j : Fin 10272) : Fin 2048 → EReal := fun k => V c main_v4 (ix2 j k)

theorem wrow_read (t : Fin cfg0.N) (j : Fin 6144) : wrow (iblk0 V c 3 t) (iblk0 V c 4 t) j = wcol V c (projCol j) := by
  unfold wrow wcol projCol
  split
  · funext k; exact read0_3 V c t _ k
  · funext k
    refine (read0_4 V c t _ k).trans ?_
    exact congrArg (fun q => V c main_v4 (ix2 q k)) (Fin.ext (show 4128 + (j.val - 4096) = j.val + 32 by omega))

theorem rows_read (t : Fin cfg0.N) (r : Fin 512) : (fun k => iblk0 V c 0 t (ix2 r k)) = xrow V c (row0 t r) :=
  funext fun k => read0_0 V c t r k

theorem norm_read (t : Fin cfg0.N) (r : Fin 512) :
    lnorm (fun k => iblk0 V c 0 t (ix2 r k)) (fun k => iblk0 V c 1 t (ix2 0 k)) (fun k => iblk0 V c 2 t (ix2 0 k))
      = hrow V c (row0 t r) := by
  unfold hrow
  rw [rows_read]
  simp only [read0_1, read0_2]

theorem arr_p : (dat0 V c).arrAt 6 cfg0.N
    = fun i : S16384x6144.Idx => dotp (hrow V c (i 0)) (wcol V c (projCol (i 1))) := by
  refine (dat0 V c).arrAt_eq_of_covers 6 _ (by decide +kernel) fun t hf y => ?_
  blk_simp
  rw [after0_6]
  obtain ⟨r, j, rfl⟩ : ∃ (r : Fin 512) (j : Fin 6144), y = ix2 r j := ⟨y 0, y 1, eq_ix2 y⟩
  have e : (win0_6.blk t).view.emb (ix2 r j) = ix2 (row0 t r) j := by blk_ext [idx0 t]
  rw [out0_6_at, norm_read, wrow_read, e]
  rfl

theorem arr_ba : (dat0 V c).arrAt 7 cfg0.N
    = fun i : S16384x128.Idx => stats (fun q => dotp (hrow V c (i 0)) (wcol V c ⟨4096 + q.val, by omega⟩))
        (mean (xrow V c (i 0))) (rstd (xrow V c (i 0))) (i 1) := by
  refine (dat0 V c).arrAt_eq_of_covers 7 _ (by decide +kernel) fun t hf y => ?_
  blk_simp
  rw [after0_7]
  obtain ⟨r, j, rfl⟩ : ∃ (r : Fin 512) (j : Fin 128), y = ix2 r j := ⟨y 0, y 1, eq_ix2 y⟩
  have e : (win0_7.blk t).view.emb (ix2 r j) = ix2 (row0 t r) j := by blk_ext [idx0 t]
  have ew : (fun q : Fin 32 => fun k => iblk0 V c 5 t (ix2 ⟨q.val, by omega⟩ k))
      = fun q : Fin 32 => wcol V c ⟨4096 + q.val, by omega⟩ := by
    funext q k
    exact read0_5 V c t _ k
  rw [out0_7_at, norm_read, rows_read, e]
  exact congrArg (fun w : Fin 32 → Fin 2048 → EReal =>
    stats (fun q => dotp (hrow V c (row0 t r)) (w q)) (mean (xrow V c (row0 t r))) (rstd (xrow V c (row0 t r))) j) ew

theorem arr_hb : (dat0 V c).arrAt 8 cfg0.N = fun i : S16384x2048.Idx => hrow V c (i 0) (i 1) := by
  refine (dat0 V c).arrAt_eq_of_covers 8 _ (by decide +kernel) fun t hf y => ?_
  blk_simp
  rw [after0_8]
  obtain ⟨r, j, rfl⟩ : ∃ (r : Fin 512) (j : Fin 2048), y = ix2 r j := ⟨y 0, y 1, eq_ix2 y⟩
  have e : (win0_8.blk t).view.emb (ix2 r j) = ix2 (row0 t r) j := by blk_ext [idx0 t]
  rw [out0_8_at, norm_read, e]
  rfl

end Cert.KernelIdeal.Layer

end
-- ==== Proof.Block1.lean ====
/-
  The merge call's output block at an index: the heads, the Fourier channels, the gated merge and the
  second normalisation, each from the blocks the call reads.
-/
module

public import proofs.«01_k».proof.Proof.Gen.KernelIdeal.Frame
public import proofs.«01_k».proof.Proof.Spec
public import Idealize.ShloMosaic.Lib.Pipeline.ValueKit
public import Idealize.ShloMosaic.Lib.Pipeline.ReadBack

@[expose] public section

set_option maxRecDepth 16384

noncomputable section

namespace Cert.KernelIdeal.Layer

open Idealize.ShloMosaic Idealize.ShloMosaic.TcCoe Idealize.ShloMosaic.Tactic Idealize.SL.Sem
open Cert.KernelIdeal Cert.KernelIdeal.Gen Cert.Layer

/-- One head's value at a lane, from the head's 128 lanes of both directions, of the gate and of the weight. -/
def head1 (a b z nw : Fin 128 → EReal) (l : Fin 128) : EReal :=
  (a l + b l) * Ideal.rsqrt (Ideal.div (∑ k, (a k + b k) * (a k + b k))
    (Ideal.ofBits .f32 0x43000000#32) + Ideal.ofBits .f32 0x358637BD#32) * nw l * silu (z l)

variable (n : Vec Ideal S1x128 .f32) (a b z : Vec Ideal S256x128 .bf16) (r : Fin 256) (l : Fin 128)

theorem k1_head0 : k1_pay3 n a b z (ix2 r l)
    = head1 (fun k => a (ix2 r k)) (fun k => b (ix2 r k)) (fun k => z (ix2 r k)) (fun k => n (ix2 0 k)) l := by
  unfold_payloads
  pointwise [head1, silu]

theorem k1_head1 : k1_pay6 (k1_pay2 n) (k1_pay4 a b) (k1_pay5 a b) z (ix2 r l)
    = head1 (fun k => a (ix2 r k)) (fun k => b (ix2 r k)) (fun k => z (ix2 r k)) (fun k => n (ix2 0 k)) l := by
  unfold_payloads
  pointwise [head1, silu]

theorem k1_head2 : k1_pay8 (k1_pay7 (k1_pay2 n) a b z) (ix2 r l)
    = head1 (fun k => a (ix2 r k)) (fun k => b (ix2 r k)) (fun k => z (ix2 r k)) (fun k => n (ix2 0 k)) l := by
  unfold_payloads
  pointwise [head1, silu]

theorem k1_head3 : k1_pay9 (k1_pay2 n) a b z (ix2 r l)
    = head1 (fun k => a (ix2 r k)) (fun k => b (ix2 r k)) (fun k => z (ix2 r k)) (fun k => n (ix2 0 k)) l := by
  unfold_payloads
  pointwise [head1, silu]

theorem k1_head4 : k1_pay12 (k1_pay2 n) (k1_pay10 a b) (k1_pay11 a b) z (ix2 r l)
    = head1 (fun k => a (ix2 r k)) (fun k => b (ix2 r k)) (fun k => z (ix2 r k)) (fun k => n (ix2 0 k)) l := by
  unfold_payloads
  pointwise [head1, silu]

theorem k1_head5 : k1_pay13 (k1_pay2 n) a b z (ix2 r l)
    = head1 (fun k => a (ix2 r k)) (fun k => b (ix2 r k)) (fun k => z (ix2 r k)) (fun k => n (ix2 0 k)) l := by
  unfold_payloads
  pointwise [head1, silu]

theorem k1_head6 : k1_pay14 (k1_pay2 n) a b z (ix2 r l)
    = head1 (fun k => a (ix2 r k)) (fun k => b (ix2 r k)) (fun k => z (ix2 r k)) (fun k => n (ix2 0 k)) l := by
  unfold_payloads
  pointwise [head1, silu]

theorem k1_head7 : k1_pay16 (k1_pay2 n) (k1_pay15 a b) z (ix2 r l)
    = head1 (fun k => a (ix2 r k)) (fun k => b (ix2 r k)) (fun k => z (ix2 r k)) (fun k => n (ix2 0 k)) l := by
  unfold_payloads
  pointwise [head1, silu]

omit n a b z r l

/-- A head of the row of all heads. -/
theorem heads_eq_head1 (a b z : Fin 1024 → EReal) (nw : Fin 128 → EReal) (o : ℕ) (ho : o + 128 ≤ 1024) (hd : o % 128 = 0)
    (e : Fin 1024) (l : Fin 128) (h : e.val = o + l.val) :
    heads a b z nw e = head1 (fun k => a ⟨o + k.val, by omega⟩) (fun k => b ⟨o + k.val, by omega⟩)
      (fun k => z ⟨o + k.val, by omega⟩) nw l := by
  obtain ⟨e, he⟩ := e
  replace h : e = o + l.val := h
  have hl : laneIx ⟨e, he⟩ = l := Fin.ext (show e % 128 = l.val by omega)
  have hk : ∀ k, headIx ⟨e, he⟩ k = ⟨o + k.val, by omega⟩ := fun k =>
    Fin.ext (show 128 * (e / 128) + k.val = o + k.val by omega)
  unfold heads head1
  simp only [hl, hk]
  subst h
  rfl

/-- A load of a whole buffer of what stores left, where the stores' values are known at every index. -/
theorem readCov_whole {S : Shape} {e : EltTy} {κ : Kind} {sp : Space} (v : View sig κ sp S e)
    (L : List (View.Piece (Elt Ideal) S e)) (off : Fin S.rank → ℕ) (inb : ∀ a, off a + S.size a ≤ S.size a)
    (G : S.Idx → Elt Ideal e) (h : ∀ y, View.canon L y = G y) :
    v.readCov L (Rect.unit off S.size inb).toLoadRect = G := by
  rw [View.readCov_eq_canon']
  funext j
  rw [h]
  refine congrArg G (funext fun a => Fin.ext ?_)
  have := inb a
  show off a + 1 * (j a).val = (j a).val
  omega

/-- The heads' block, of the blocks of both directions, of the gate and of the weight. -/
def yaBlk (x3 x4 x5 : Vec Ideal S256x1024 .bf16) (x10 : Vec Ideal S1x128 .f32) : Vec Ideal S256x1024 .bf16 := fun y =>
  heads (fun k => x3 (ix2 (y 0) k)) (fun k => x4 (ix2 (y 0) k)) (fun k => x5 (ix2 (y 0) k)) (fun k => x10 (ix2 0 k)) (y 1)

/-- The merged block. -/
def mBlk (x1 : Vec Ideal S256x2048 .bf16) (x3 x4 x5 x6 x7 : Vec Ideal S256x1024 .bf16) (x10 : Vec Ideal S1x128 .f32)
    (x11 : Vec Ideal S4096x2048 .bf16) (x12 : Vec Ideal S1x4096 .f32) (x13 x14 : Vec Ideal S1024x2048 .bf16) :
    Vec Ideal S256x2048 .bf16 := fun y =>
  merged (fun k => x1 (ix2 (y 0) k)) (fun k => yaBlk x3 x4 x5 x10 (ix2 (y 0) k))
    (fourier (fun k => x7 (ix2 (y 0) k)) fun k => x6 (ix2 (y 0) k)) (fun q k => x11 (ix2 q k)) (fun q => x12 (ix2 0 q))
    (fun e d => x13 (ix2 e d)) (fun e d => x14 (ix2 e d)) (y 1)

variable (V : (c : Dev nD) → (b : Ref sig .tc) → Buf (Elt Ideal) ((c : Thread nD τ).loc b))

theorem outsAt1_eq (c : Dev nD) (t : Fin cfg1.N)
    (x0 : Vec Ideal S256x2048 .f32) (h0 : iblk1 V c 0 t = x0) (x1 : Vec Ideal S256x2048 .bf16) (h1 : iblk1 V c 1 t = x1)
    (x2 : Vec Ideal S256x128 .f32) (h2 : iblk1 V c 2 t = x2) (x3 : Vec Ideal S256x1024 .bf16) (h3 : iblk1 V c 3 t = x3)
    (x4 : Vec Ideal S256x1024 .bf16) (h4 : iblk1 V c 4 t = x4) (x5 : Vec Ideal S256x1024 .bf16) (h5 : iblk1 V c 5 t = x5)
    (x6 : Vec Ideal S256x1024 .bf16) (h6 : iblk1 V c 6 t = x6) (x7 : Vec Ideal S256x1024 .bf16) (h7 : iblk1 V c 7 t = x7)
    (x8 : Vec Ideal S1x2048 .f32) (h8 : iblk1 V c 8 t = x8) (x9 : Vec Ideal S1x2048 .f32) (h9 : iblk1 V c 9 t = x9)
    (x10 : Vec Ideal S1x128 .f32) (h10 : iblk1 V c 10 t = x10) (x11 : Vec Ideal S4096x2048 .bf16) (h11 : iblk1 V c 11 t = x11)
    (x12 : Vec Ideal S1x4096 .f32) (h12 : iblk1 V c 12 t = x12) (x13 : Vec Ideal S1024x2048 .bf16) (h13 : iblk1 V c 13 t = x13)
    (x14 : Vec Ideal S1024x2048 .bf16) (h14 : iblk1 V c 14 t = x14) (x15 : Vec Ideal S2048x2048 .bf16) (h15 : iblk1 V c 15 t = x15)
    (x16 : Vec Ideal S1x2048 .f32) (h16 : iblk1 V c 16 t = x16) (x17 : Vec Ideal S1x2048 .f32) (h17 : iblk1 V c 17 t = x17) :
    outsAt1 V c t
      = k1_pay1 (k1_pay31 (mBlk x1 x3 x4 x5 x6 x7 x10 x11 x12 x13 x14) x15 x2 x0 x8 x9) (k1_pay32 x16) x17 := by
  funext y
  unfold outsAt1
  frame_open
  simp (disch := decide) only [↓ View.readCov_skip, ↓ View.readCov_cons_toLoadRect, ↓ View.readCov_fill]
  frame_out
  rw [h0, h1, h2, h3, h4, h5, h6, h7, h8, h9, h10, h11, h12, h13, h14, h15, h16, h17]
  rw [readCov_whole _ _ _ _ (yaBlk x3 x4 x5 x10), readCov_whole _ _ _ _ (mBlk x1 x3 x4 x5 x6 x7 x10 x11 x12 x13 x14)]
  all_goals
    clear h0 h1 h2 h3 h4 h5 h6 h7 h8 h9 h10 h11 h12 h13 h14 h15 h16 h17
    clear y
    intro y
    idx_vars y
    canon_tiles x h
  all_goals
    idx_vars x
    obtain rfl := Fin.ext h0
  · have hl : lo y1 = ⟨1536 + x1.val, by omega⟩ := Fin.ext h1
    have hh : hi y1 = ⟨3584 + x1.val, by omega⟩ := Fin.ext (show 2048 + y1.val = 3584 + x1.val by omega)
    have hy : y1 = ⟨1536 + x1.val, by omega⟩ := Fin.ext h1
    unfold mBlk merged
    unfold_payloads
    pointwise [dotp, fourier, silu]
    simp only [hl, hh]
    rw [hy]
  · have hl : lo y1 = ⟨1024 + x1.val, by omega⟩ := Fin.ext h1
    have hh : hi y1 = ⟨3072 + x1.val, by omega⟩ := Fin.ext (show 2048 + y1.val = 3072 + x1.val by omega)
    have hy : y1 = ⟨1024 + x1.val, by omega⟩ := Fin.ext h1
    unfold mBlk merged
    unfold_payloads
    pointwise [dotp, fourier, silu]
    simp only [hl, hh]
    rw [hy]
  · have hl : lo y1 = ⟨512 + x1.val, by omega⟩ := Fin.ext h1
    have hh : hi y1 = ⟨2560 + x1.val, by omega⟩ := Fin.ext (show 2048 + y1.val = 2560 + x1.val by omega)
    have hy : y1 = ⟨512 + x1.val, by omega⟩ := Fin.ext h1
    unfold mBlk merged
    unfold_payloads
    pointwise [dotp, fourier, silu]
    simp only [hl, hh]
    rw [hy]
  · have hl : lo y1 = ⟨x1.val, by omega⟩ := Fin.ext h1
    have hh : hi y1 = ⟨2048 + x1.val, by omega⟩ := Fin.ext (show 2048 + y1.val = 2048 + x1.val by omega)
    have hy : y1 = ⟨x1.val, by omega⟩ := Fin.ext h1
    unfold mBlk merged
    unfold_payloads
    pointwise [dotp, fourier, silu]
    simp only [hl, hh]
    simp only [hy]
  · refine Eq.trans ?_ (heads_eq_head1 _ _ _ _ 896 (by decide) (by decide) y1 x1 h1).symm
    rw [k1_head7]
    pointwise
  · refine Eq.trans ?_ (heads_eq_head1 _ _ _ _ 768 (by decide) (by decide) y1 x1 h1).symm
    rw [k1_head6]
    pointwise
  · refine Eq.trans ?_ (heads_eq_head1 _ _ _ _ 640 (by decide) (by decide) y1 x1 h1).symm
    rw [k1_head5]
    pointwise
  · refine Eq.trans ?_ (heads_eq_head1 _ _ _ _ 512 (by decide) (by decide) y1 x1 h1).symm
    rw [k1_head4]
    pointwise
  · refine Eq.trans ?_ (heads_eq_head1 _ _ _ _ 384 (by decide) (by decide) y1 x1 h1).symm
    rw [k1_head3]
    pointwise
  · refine Eq.trans ?_ (heads_eq_head1 _ _ _ _ 256 (by decide) (by decide) y1 x1 h1).symm
    rw [k1_head2]
    pointwise
  · refine Eq.trans ?_ (heads_eq_head1 _ _ _ _ 128 (by decide) (by decide) y1 x1 h1).symm
    rw [k1_head1]
    pointwise
  · refine Eq.trans ?_ (heads_eq_head1 _ _ _ _ 0 (by decide) (by decide) y1 x1 (by rw [h1, Nat.zero_add])).symm
    rw [k1_head0]
    pointwise

/-- The output block at an index. -/
theorem merge_at (m : Vec Ideal S256x2048 .bf16) (x15 : Vec Ideal S2048x2048 .bf16) (x2 : Vec Ideal S256x128 .f32)
    (x0 : Vec Ideal S256x2048 .f32) (x8 x9 x16 x17 : Vec Ideal S1x2048 .f32) (r : Fin 256) (d : Fin 2048) :
    k1_pay1 (k1_pay31 m x15 x2 x0 x8 x9) (k1_pay32 x16) x17 (ix2 r d)
      = lnorm (resid (affine (x2 (ix2 r 32)) (x2 (ix2 r 33)) (fun k => x0 (ix2 r k)) (fun k => x8 (ix2 0 k))
            fun k => x9 (ix2 0 k)) (fun k => m (ix2 r k)) fun k d => x15 (ix2 k d))
          (fun k => x16 (ix2 0 k)) (fun k => x17 (ix2 0 k)) d := by
  unfold_payloads
  pointwise [lnorm, affine, resid, mean, rstd, dotp]

end Cert.KernelIdeal.Layer

end
-- ==== Proof.Arrays1.lean ====
/-
  The merge call's result array, as a function of the arrays it reads; then with the projection call's
  results in their places.
-/
module

public import proofs.«01_k».proof.Proof.Block1
public import proofs.«01_k».proof.Proof.Arrays0

@[expose] public section

set_option maxRecDepth 16384

noncomputable section

namespace Cert.KernelIdeal.Layer

open Idealize.ShloMosaic Idealize.ShloMosaic.TcCoe Idealize.ShloMosaic.Tactic Idealize.SL.Sem
open Cert.KernelIdeal Cert.KernelIdeal.Gen Cert.Layer

variable (V : (c : Dev nD) → (b : Ref sig .tc) → Buf (Elt Ideal) ((c : Thread nD τ).loc b)) (c : Dev nD)

theorem arr_y : (dat1 V c).arrAt 18 cfg1.N
    = fun i : S16384x2048.Idx =>
      mergeRow (V c main_v20_1 (ix2 (i 0) 32)) (V c main_v20_1 (ix2 (i 0) 33)) (xrow V c (i 0))
        (fun k => V c main_v0 (ix2 0 k)) (fun k => V c main_v1 (ix2 0 k)) (fun k => V c main_v20_2 (ix2 (i 0) k))
        (fun k => V c main_arg1 (ix2 (i 0) k)) (fun k => V c main_arg2 (ix2 (i 0) k))
        (fun k => V c main_v20_0 (ix2 (i 0) ⟨3072 + k.val, by omega⟩)) (fun k => V c main_v6 (ix2 0 k))
        (fun k => V c main_arg3 (ix2 (i 0) k)) (fun k => V c main_v20_0 (ix2 (i 0) ⟨5120 + k.val, by omega⟩))
        (fun q => wcol V c ⟨6176 + q.val, by omega⟩) (fun q => V c main_v8 (ix2 0 q))
        (fun e d => V c main_v10 (ix2 e d)) (fun e d => V c main_v12 (ix2 e d)) (fun k d => V c main_v14 (ix2 k d))
        (fun k => V c main_v16 (ix2 0 k)) (fun k => V c main_v18 (ix2 0 k)) (i 1) := by
  refine (dat1 V c).arrAt_eq_of_covers 18 _ (by decide +kernel) fun t hf y => ?_
  blk_simp
  rw [after1_18]
  obtain ⟨r, d, rfl⟩ : ∃ (r : Fin 256) (d : Fin 2048), y = ix2 r d := ⟨y 0, y 1, eq_ix2 y⟩
  have e : (win1_18.blk t).view.emb (ix2 r d) = ix2 (row1 t r) d := by blk_ext [idx1 t]
  rw [outsAt1_eq V c t _ rfl _ rfl _ rfl _ rfl _ rfl _ rfl _ rfl _ rfl _ rfl _ rfl _ rfl _ rfl _ rfl _ rfl _ rfl _ rfl
    _ rfl _ rfl, merge_at, e]
  unfold mBlk yaBlk mergeRow
  simp only [ix2_0, ix2_1]
  simp only [read1_0, read1_1, read1_2, read1_3, read1_4, read1_5, read1_6, read1_7, read1_8, read1_9, read1_10, read1_11,
    read1_12, read1_13, read1_14, read1_15, read1_16, read1_17]
  rfl

end Cert.KernelIdeal.Layer

end
-- ==== Proof.Run.lean ====
/-
  The whole run of the two kernels, with what every buffer holds at its end.

  The generated frame says that the arguments end as they began. Its proof knows more: at the end every
  buffer holds what the last boundary's contents say. Here the same launch is read for the three
  results as well.
-/
module

public import proofs.«01_k».proof.Proof.Gen.KernelIdeal.Frame

@[expose] public section

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and at its end every buffer that outlives the launch holds what the fold through
    the program says (`W3`). -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The projections the first kernel writes are not changed by the second. -/
theorem W3_p (c : Dev nD) : W3 m ρ c (Proc.devRef .tc main_v20_0) = (dat0 (V1 m ρ) c).arrAt 6 cfg0.N :=
  (W3_of m ρ c main_v20_0 (by decide +kernel)).trans (W2_arr m ρ c 6)

/-- Nor are the logits with the two row statistics. -/
theorem W3_ba (c : Dev nD) : W3 m ρ c (Proc.devRef .tc main_v20_1) = (dat0 (V1 m ρ) c).arrAt 7 cfg0.N :=
  (W3_of m ρ c main_v20_1 (by decide +kernel)).trans (W2_arr m ρ c 7)

/-- The layer's rows are what the second kernel leaves. -/
theorem W3_y (c : Dev nD) : W3 m ρ c (Proc.devRef .tc main_v21) = (dat1 (V2 m ρ) c).arrAt 18 cfg1.N :=
  W3_arr m ρ c 18

end Cert.KernelIdeal.Layer

end
-- ==== Proof.Host.lean ====
/- The arrays the kernels are called with, read at an index as entries of the program's arguments: the host only
   reshapes, transposes `w_in` and rounds the matrices. -/
module

public import proofs.«01_k».proof.Proof.Arrays0
public import proofs.«01_k».proof.Proof.Arrays1
public import proofs.«01_k».proof.Proof.Run

@[expose] public section

set_option maxRecDepth 16384

noncomputable section

namespace Cert.KernelIdeal.Layer

open Idealize.ShloMosaic Idealize.ShloMosaic.TcCoe Idealize.ShloMosaic.Tactic Idealize.SL.Sem
open Cert.KernelIdeal Cert.KernelIdeal.Gen Cert.Layer

variable (m : (ℓ : Loc nD τ sig) → Buf (Elt Ideal) ℓ) (ρ : Dev nD → PrngReg) (c : Dev nD)

theorem host_x (i : Fin 16384) (k : Fin 2048) :
    V1 m ρ c main_v19 (ix2 i k) = m ((c : Thread nD τ).loc main_arg0) (ix3 (0 : Fin 1) i k) := by
  simp only [V1, W1]
  entry_read
  pointwise

theorem host_g (k : Fin 2048) :
    V1 m ρ c main_v0 (ix2 (0 : Fin 1) k) = m ((c : Thread nD τ).loc main_arg4) (ix1 k) := by
  simp only [V1, W1]
  entry_read
  pointwise

theorem host_b (k : Fin 2048) :
    V1 m ρ c main_v1 (ix2 (0 : Fin 1) k) = m ((c : Thread nD τ).loc main_arg5) (ix1 k) := by
  simp only [V1, W1]
  entry_read
  pointwise

theorem host_w (j : Fin 10272) (k : Fin 2048) :
    V1 m ρ c main_v4 (ix2 j k) = m ((c : Thread nD τ).loc main_arg6) (ix3 (0 : Fin 1) k j) := by
  simp only [V1, W1]
  entry_read
  pointwise

theorem host_nw (k : Fin 128) :
    V1 m ρ c main_v6 (ix2 (0 : Fin 1) k) = m ((c : Thread nD τ).loc main_arg8) (ix2 (0 : Fin 1) k) := by
  simp only [V1, W1]
  entry_read
  pointwise

theorem host_bg (k : Fin 4096) :
    V1 m ρ c main_v8 (ix2 (0 : Fin 1) k) = m ((c : Thread nD τ).loc main_arg7) (ix2 (0 : Fin 1) k) := by
  simp only [V1, W1]
  entry_read
  pointwise

theorem host_wa (e : Fin 1024) (d : Fin 2048) :
    V1 m ρ c main_v10 (ix2 e d) = m ((c : Thread nD τ).loc main_arg9) (ix3 (0 : Fin 1) e d) := by
  simp only [V1, W1]
  entry_read
  pointwise

theorem host_wf (e : Fin 1024) (d : Fin 2048) :
    V1 m ρ c main_v12 (ix2 e d) = m ((c : Thread nD τ).loc main_arg10) (ix3 (0 : Fin 1) e d) := by
  simp only [V1, W1]
  entry_read
  pointwise

theorem host_wo (e : Fin 2048) (d : Fin 2048) :
    V1 m ρ c main_v14 (ix2 e d) = m ((c : Thread nD τ).loc main_arg11) (ix3 (0 : Fin 1) e d) := by
  simp only [V1, W1]
  entry_read
  pointwise

theorem host_lg (k : Fin 2048) :
    V1 m ρ c main_v16 (ix2 (0 : Fin 1) k) = m ((c : Thread nD τ).loc main_arg12) (ix2 (0 : Fin 1) k) := by
  simp only [V1, W1]
  entry_read
  pointwise

theorem host_lb (k : Fin 2048) :
    V1 m ρ c main_v18 (ix2 (0 : Fin 1) k) = m ((c : Thread nD τ).loc main_arg13) (ix2 (0 : Fin 1) k) := by
  simp only [V1, W1]
  entry_read
  pointwise

/-- What the first kernel reads and writes, by rows of the arguments. -/
theorem xrow1 (i : Fin 16384) : xrow (V1 m ρ) c i = inRow (m ((c : Thread nD τ).loc main_arg0)) i :=
  funext fun k => host_x m ρ c i k

theorem wcol1 (j : Fin 10272) : wcol (V1 m ρ) c j = inCol (m ((c : Thread nD τ).loc main_arg6)) j :=
  funext fun k => host_w m ρ c j k

theorem hrow1 (i : Fin 16384) : hrow (V1 m ρ) c i = lnorm (inRow (m ((c : Thread nD τ).loc main_arg0)) i)
    (vec (m ((c : Thread nD τ).loc main_arg4))) (vec (m ((c : Thread nD τ).loc main_arg5))) := by
  unfold hrow
  rw [xrow1]
  exact congrArg₂ (lnorm _) (funext fun k => host_g m ρ c k) (funext fun k => host_b m ρ c k)

/-- The first result of the program: every row's projections. -/
theorem out_p : W3 m ρ c (Proc.devRef .tc main_v20_0) = fun i : S16384x6144.Idx =>
    pRow (inRow (m ((c : Thread nD τ).loc main_arg0)) (i 0)) (vec (m ((c : Thread nD τ).loc main_arg4)))
      (vec (m ((c : Thread nD τ).loc main_arg5))) (inCol (m ((c : Thread nD τ).loc main_arg6))) (i 1) := by
  rw [W3_p, arr_p]
  funext i
  exact congrArg₂ dotp (hrow1 m ρ c (i 0)) (wcol1 m ρ c _)

theorem stats_congr {q q' : Fin 32 → EReal} {mu mu' rs rs' : EReal} (h : q = q') (h1 : mu = mu') (h2 : rs = rs') :
    stats q mu rs = stats q' mu' rs' := by rw [h, h1, h2]

/-- The second: the logits and the row statistics. -/
theorem out_ba : W3 m ρ c (Proc.devRef .tc main_v20_1) = fun i : S16384x128.Idx =>
    baRow (inRow (m ((c : Thread nD τ).loc main_arg0)) (i 0)) (vec (m ((c : Thread nD τ).loc main_arg4)))
      (vec (m ((c : Thread nD τ).loc main_arg5))) (inCol (m ((c : Thread nD τ).loc main_arg6))) (i 1) := by
  rw [W3_ba, arr_ba]
  funext i
  exact congrFun (stats_congr (funext fun q => congrArg₂ dotp (hrow1 m ρ c (i 0)) (wcol1 m ρ c _))
    (congrArg mean (xrow1 m ρ c (i 0))) (congrArg rstd (xrow1 m ρ c (i 0)))) (i 1)

/-- At the second kernel's entry the three arrays of the first hold what it left there. -/
theorem V2_p : V2 m ρ c main_v20_0 = fun i : S16384x6144.Idx =>
    pRow (inRow (m ((c : Thread nD τ).loc main_arg0)) (i 0)) (vec (m ((c : Thread nD τ).loc main_arg4)))
      (vec (m ((c : Thread nD τ).loc main_arg5))) (inCol (m ((c : Thread nD τ).loc main_arg6))) (i 1) :=
  ((W2_arr m ρ c 6).trans (W3_p m ρ c).symm).trans (out_p m ρ c)

theorem V2_ba : V2 m ρ c main_v20_1 = fun i : S16384x128.Idx =>
    baRow (inRow (m ((c : Thread nD τ).loc main_arg0)) (i 0)) (vec (m ((c : Thread nD τ).loc main_arg4)))
      (vec (m ((c : Thread nD τ).loc main_arg5))) (inCol (m ((c : Thread nD τ).loc main_arg6))) (i 1) :=
  ((W2_arr m ρ c 7).trans (W3_ba m ρ c).symm).trans (out_ba m ρ c)

theorem V2_h : V2 m ρ c main_v20_2 = fun i : S16384x2048.Idx =>
    lnorm (inRow (m ((c : Thread nD τ).loc main_arg0)) (i 0)) (vec (m ((c : Thread nD τ).loc main_arg4)))
      (vec (m ((c : Thread nD τ).loc main_arg5))) (i 1) := by
  refine (W2_arr m ρ c 8).trans ?_
  rw [arr_hb]
  funext i
  exact congrFun (hrow1 m ρ c (i 0)) (i 1)

/-- Every other array is what it was at the first kernel's entry. -/
theorem V2_old (r : Ref sig .tc) (h : ∀ w : Fin cfg0.W, Pipeline.arrRef spec0 w = r → (cfg0.win w).isOut = false) :
    V2 m ρ c r = V1 m ρ c r := W2_of m ρ c r h

theorem V2_x : V2 m ρ c main_v19 = V1 m ρ c main_v19 := V2_old m ρ c _ (by decide +kernel)
theorem V2_g : V2 m ρ c main_v0 = V1 m ρ c main_v0 := V2_old m ρ c _ (by decide +kernel)
theorem V2_b : V2 m ρ c main_v1 = V1 m ρ c main_v1 := V2_old m ρ c _ (by decide +kernel)
theorem V2_w : V2 m ρ c main_v4 = V1 m ρ c main_v4 := V2_old m ρ c _ (by decide +kernel)
theorem V2_nw : V2 m ρ c main_v6 = V1 m ρ c main_v6 := V2_old m ρ c _ (by decide +kernel)
theorem V2_bg : V2 m ρ c main_v8 = V1 m ρ c main_v8 := V2_old m ρ c _ (by decide +kernel)
theorem V2_wa : V2 m ρ c main_v10 = V1 m ρ c main_v10 := V2_old m ρ c _ (by decide +kernel)
theorem V2_wf : V2 m ρ c main_v12 = V1 m ρ c main_v12 := V2_old m ρ c _ (by decide +kernel)
theorem V2_wo : V2 m ρ c main_v14 = V1 m ρ c main_v14 := V2_old m ρ c _ (by decide +kernel)
theorem V2_lg : V2 m ρ c main_v16 = V1 m ρ c main_v16 := V2_old m ρ c _ (by decide +kernel)
theorem V2_lb : V2 m ρ c main_v18 = V1 m ρ c main_v18 := V2_old m ρ c _ (by decide +kernel)
theorem V2_arg1 : V2 m ρ c main_arg1 = m ((c : Thread nD τ).loc main_arg1) := W2_args m ρ c main_arg1 (by decide)
theorem V2_arg2 : V2 m ρ c main_arg2 = m ((c : Thread nD τ).loc main_arg2) := W2_args m ρ c main_arg2 (by decide)
theorem V2_arg3 : V2 m ρ c main_arg3 = m ((c : Thread nD τ).loc main_arg3) := W2_args m ρ c main_arg3 (by decide)

theorem xrow2 (i : Fin 16384) : xrow (V2 m ρ) c i = inRow (m ((c : Thread nD τ).loc main_arg0)) i := by
  refine Eq.trans ?_ (xrow1 m ρ c i)
  unfold xrow
  rw [V2_x]

theorem wcol2 (j : Fin 10272) : wcol (V2 m ρ) c j = inCol (m ((c : Thread nD τ).loc main_arg6)) j := by
  refine Eq.trans ?_ (wcol1 m ρ c j)
  unfold wcol
  rw [V2_w]

theorem lane32 (q : Fin 32 → EReal) (mu rs : EReal) : stats q mu rs 32 = mu := rfl
theorem lane33 (q : Fin 32 → EReal) (mu rs : EReal) : stats q mu rs 33 = rs := rfl

theorem projCol_za (e : Fin 1024) : projCol ⟨3072 + e.val, by omega⟩ = ⟨3072 + e.val, by omega⟩ :=
  dif_pos (show 3072 + e.val < 4096 by omega)

theorem projCol_zf (e : Fin 1024) : projCol ⟨5120 + e.val, by omega⟩ = ⟨5152 + e.val, by omega⟩ :=
  (dif_neg (show ¬ 5120 + e.val < 4096 by omega)).trans (Fin.ext (by show 5120 + e.val + 32 = 5152 + e.val; omega))

theorem mergeRow_congr {mu mu' rs rs' : EReal} {x x' gi gi' bi bi' h h' lg lg' lb lb' : Fin 2048 → EReal} {a a'
    o o' za za' f f' zf zf' : Fin 1024 → EReal} {nw nw' : Fin 128 → EReal} {wg wg' : Fin 4096 → Fin 2048 →
    EReal} {bg bg' : Fin 4096 → EReal} {wa wa' wf wf' : Fin 1024 → Fin 2048 → EReal} {wo wo' : Fin 2048 → Fin
    2048 → EReal} (_ : mu = mu') (_ : rs = rs') (_ : x = x') (_ : gi = gi') (_ : bi = bi') (_ : h = h') (_ : a =
    a') (_ : o = o') (_ : za = za') (_ : nw = nw') (_ : f = f') (_ : zf = zf') (_ : wg = wg') (_ : bg = bg') (_
    : wa = wa') (_ : wf = wf') (_ : wo = wo') (_ : lg = lg') (_ : lb = lb') : mergeRow mu rs x gi bi h a o za nw
    f zf wg bg wa wf wo lg lb = mergeRow mu' rs' x' gi' bi' h' a' o' za' nw' f' zf' wg' bg' wa' wf' wo' lg' lb'
    := by subst_vars; rfl

/-- The third: the layer's rows. -/
theorem out_y : W3 m ρ c (Proc.devRef .tc main_v21) = fun i : S16384x2048.Idx =>
    yRow (inRow (m ((c : Thread nD τ).loc main_arg0)) (i 0)) (vec (m ((c : Thread nD τ).loc main_arg4))) (vec (m ((c : Thread nD τ).loc main_arg5))) (inCol (m ((c : Thread nD τ).loc main_arg6)))
      (rowOf (m ((c : Thread nD τ).loc main_arg1)) (i 0)) (rowOf (m ((c : Thread nD τ).loc main_arg2)) (i 0)) (rowOf (m ((c : Thread nD τ).loc main_arg3)) (i 0))
      (rowOf (m ((c : Thread nD τ).loc main_arg8)) 0) (rowOf (m ((c : Thread nD τ).loc main_arg7)) 0) (mat (m ((c : Thread nD τ).loc main_arg9))) (mat (m ((c : Thread nD τ).loc main_arg10))) (mat (m ((c : Thread nD τ).loc main_arg11))) (rowOf (m ((c : Thread nD τ).loc main_arg12)) 0) (rowOf (m ((c : Thread nD τ).loc main_arg13)) 0) (i 1) := by
  rw [W3_y, arr_y]
  funext i
  obtain ⟨a, b, rfl⟩ : ∃ (a : Fin 16384) (b : Fin 2048), i = ix2 a b := ⟨i 0, i 1, eq_ix2 i⟩
  exact congrFun (mergeRow_congr
    (congrFun (V2_ba m ρ c) (ix2 a 32)) (congrFun (V2_ba m ρ c) (ix2 a 33)) (xrow2 m ρ c a)
    (funext fun k => (congrFun (V2_g m ρ c) _).trans (host_g m ρ c k))
    (funext fun k => (congrFun (V2_b m ρ c) _).trans (host_b m ρ c k))
    (funext fun k => congrFun (V2_h m ρ c) (ix2 a k))
    (funext fun k => congrFun (V2_arg1 m ρ c) (ix2 a k)) (funext fun k => congrFun (V2_arg2 m ρ c) (ix2 a k))
    (funext fun k => (congrFun (V2_p m ρ c) (ix2 a ⟨3072 + k.val, by omega⟩)).trans
      (congrArg (fun j => dotp _ (inCol _ j)) (projCol_za k)))
    (funext fun k => (congrFun (V2_nw m ρ c) _).trans (host_nw m ρ c k))
    (funext fun k => congrFun (V2_arg3 m ρ c) (ix2 a k))
    (funext fun k => (congrFun (V2_p m ρ c) (ix2 a ⟨5120 + k.val, by omega⟩)).trans
      (congrArg (fun j => dotp _ (inCol _ j)) (projCol_zf k)))
    (funext fun q => wcol2 m ρ c _)
    (funext fun k => (congrFun (V2_bg m ρ c) _).trans (host_bg m ρ c k))
    (funext fun e => funext fun d => (congrFun (V2_wa m ρ c) _).trans (host_wa m ρ c e d))
    (funext fun e => funext fun d => (congrFun (V2_wf m ρ c) _).trans (host_wf m ρ c e d))
    (funext fun e => funext fun d => (congrFun (V2_wo m ρ c) _).trans (host_wo m ρ c e d))
    (funext fun k => (congrFun (V2_lg m ρ c) _).trans (host_lg m ρ c k))
    (funext fun k => (congrFun (V2_lb m ρ c) _).trans (host_lb m ρ c k))) b

end Cert.KernelIdeal.Layer

end
-- ==== Proof.Ref.lean ====
/- The reference's values at an index, stage by stage, as the rows of `Spec`. -/
module

public import proofs.«01_k».proof.Proof.Spec
public import proofs.«01_k».proof.Proof.Gen.ReferenceIdeal.Read
public import Idealize.ShloMosaic.Lib.Pointwise

@[expose] public section

set_option maxRecDepth 16384

noncomputable section

namespace Cert.ReferenceIdeal.Layer

open Idealize.ShloMosaic Idealize.ShloMosaic.TcCoe Idealize.ShloMosaic.Tactic Idealize.SL.Sem
open Cert.ReferenceIdeal Cert.ReferenceIdeal.Read Cert.Layer

variable (x0 : (⟨S1x16384x2048, .f32⟩ : BufTy).Contents (Elt Ideal)) (x1 x2 x3 : (⟨S16384x1024, .bf16⟩ : BufTy).Contents (Elt Ideal))
  (x4 x5 : (⟨S2048, .f32⟩ : BufTy).Contents (Elt Ideal)) (x6 : (⟨S1x2048x10272, .f32⟩ : BufTy).Contents (Elt Ideal))
  (x7 : (⟨S1x4096, .f32⟩ : BufTy).Contents (Elt Ideal)) (x8 : (⟨S1x128, .f32⟩ : BufTy).Contents (Elt Ideal))
  (x9 x10 : (⟨S1x1024x2048, .f32⟩ : BufTy).Contents (Elt Ideal)) (x11 : (⟨S1x2048x2048, .f32⟩ : BufTy).Contents (Elt Ideal))
  (x12 x13 : (⟨S1x2048, .f32⟩ : BufTy).Contents (Elt Ideal))

/-- The first normalisation's mean and scale, as first computed. -/
theorem ref_mean (i : Fin 16384) (z : Fin 1) : val_main_v3 (F := Ideal) x0 (ix3 (0 : Fin 1) i z) = mean (inRow x0 i) := by
  pointwise [val_main_v3, val_main_v2, val_main_v1, val_main_v0, val_main_cst, val_main_cst_0, mean, inRow]

theorem ref_rstd (i : Fin 16384) (z : Fin 1) : val_main_v15 (F := Ideal) x0 (ix3 (0 : Fin 1) i z) = rstd (inRow x0 i) := by
  pointwise [val_main_v15, val_main_v14, val_main_v13, val_main_cst_3, val_main_v10, val_main_v9, val_main_cst_2,
    val_main_v8, val_main_v7, val_main_cst_1, val_main_v6, val_main_v5, val_main_v4, ref_mean, rstd, inRow]

theorem ref_h (i : Fin 16384) (k : Fin 2048) :
    val_main_v23 (F := Ideal) x0 x4 x5 (ix3 (0 : Fin 1) i k) = lnorm (inRow x0 i) (vec x4) (vec x5) k := by
  pointwise [val_main_v23, val_main_v22, val_main_v21, val_main_v20, val_main_v19, val_main_v18, val_main_v17,
    val_main_v16, val_main_v12, val_main_v11, ref_mean, ref_rstd, lnorm, affine, inRow, vec]

theorem ref_proj (i : Fin 16384) (j : Fin 10272) :
    val_main_v25 (F := Ideal) x0 x4 x5 x6 (ix3 (0 : Fin 1) i j) = dotp (lnorm (inRow x0 i) (vec x4) (vec x5)) (inCol x6 j) := by
  pointwise [val_main_v25, val_main_v24, ref_h, dotp, inCol]

/-- Both directions' sum, by head and lane. -/
theorem ref_heads (i : Fin 16384) (hd : Fin 8) (l : Fin 128) : val_main_v29 (F := Ideal) x1 x2 (ix4 (0 : Fin 1) i hd l)
    = rowOf x1 i ⟨128 * hd.val + l.val, by omega⟩ + rowOf x2 i ⟨128 * hd.val + l.val, by omega⟩ := by
  pointwise [val_main_v29, val_main_v28, val_main_v27, val_main_v26, rowOf]
  simp only [Nat.mul_comm]

theorem ref_za (i : Fin 16384) (hd : Fin 8) (l : Fin 128) : val_main_v45 (F := Ideal) x0 x4 x5 x6 (ix4 (0 : Fin 1) i hd l)
    = dotp (lnorm (inRow x0 i) (vec x4) (vec x5)) (inCol x6 ⟨3072 + (128 * hd.val + l.val), by omega⟩) := by
  pointwise [val_main_v45, val_main_v44, ref_proj]
  simp only [Nat.mul_comm]

theorem ref_ya (i : Fin 16384) (e : Fin 1024) : val_main_v48 (F := Ideal) x0 x1 x2 x4 x5 x6 x8 (ix3 (0 : Fin 1) i e)
    = heads (rowOf x1 i) (rowOf x2 i)
        (fun e => dotp (lnorm (inRow x0 i) (vec x4) (vec x5)) (inCol x6 ⟨3072 + e.val, by omega⟩)) (rowOf x8 0) e := by
  pointwise [val_main_v48, val_main_v47, val_main_v46, val_main_call0_v5, val_main_call0_v4, val_main_call0_v3,
    val_main_call0_v2, val_main_call0_v1, val_main_call0_v0,
    val_main_call0_cst, val_main_call0_cst_0, val_main_v43, val_main_v42, val_main_v41, val_main_v40, val_main_v39,
    val_main_v38, val_main_v37, val_main_v36, val_main_v35, val_main_cst_6, val_main_v34, val_main_v33, val_main_cst_5,
    val_main_v32, val_main_v31, val_main_cst_4, val_main_v30, ref_heads, ref_za, heads, silu]
  simp only [Nat.div_add_mod]
  rfl

theorem ref_yf (i : Fin 16384) (e : Fin 1024) : val_main_v53 (F := Ideal) x0 x3 x4 x5 x6 (ix3 (0 : Fin 1) i e)
    = fourier (rowOf x3 i) (fun e => dotp (lnorm (inRow x0 i) (vec x4) (vec x5)) (inCol x6 ⟨5152 + e.val, by omega⟩)) e := by
  pointwise [val_main_v53, val_main_v52, val_main_call1_v5, val_main_call1_v4, val_main_call1_v3, val_main_call1_v2,
    val_main_call1_v1, val_main_call1_v0, val_main_call1_cst, val_main_call1_cst_0, val_main_v51, val_main_v50,
    val_main_v49, ref_proj, fourier, silu, rowOf]
  rfl

theorem ref_gate (i : Fin 16384) (q : Fin 4096) : val_main_v64 (F := Ideal) x0 x4 x5 x6 x7 (ix3 (0 : Fin 1) i q)
    = Ideal.logistic (dotp (lnorm (inRow x0 i) (vec x4) (vec x5)) (inCol x6 ⟨6176 + q.val, by omega⟩) + rowOf x7 0 q) := by
  pointwise [val_main_v64, val_main_v63, val_main_v62, val_main_v61, val_main_v60, val_main_v59, val_main_v58,
    val_main_v57, val_main_v56, val_main_v55, val_main_v54, val_main_cst_7, val_main_cst_8, ref_proj, rowOf]
  rfl

theorem ref_merged (i : Fin 16384) (d : Fin 2048) :
    val_main_v73 (F := Ideal) x0 x1 x2 x3 x4 x5 x6 x7 x8 x9 x10 (ix3 (0 : Fin 1) i d)
      = merged (lnorm (inRow x0 i) (vec x4) (vec x5))
          (heads (rowOf x1 i) (rowOf x2 i)
            (fun e => dotp (lnorm (inRow x0 i) (vec x4) (vec x5)) (inCol x6 ⟨3072 + e.val, by omega⟩)) (rowOf x8 0))
          (fourier (rowOf x3 i) (fun e => dotp (lnorm (inRow x0 i) (vec x4) (vec x5)) (inCol x6 ⟨5152 + e.val, by omega⟩)))
          (fun q => inCol x6 ⟨6176 + q.val, by omega⟩) (rowOf x7 0) (mat x9) (mat x10) d := by
  pointwise [val_main_v73, val_main_v72, val_main_v71, val_main_v70, val_main_v69, val_main_v68, val_main_v67,
    val_main_v66, val_main_v65, ref_gate, ref_ya, ref_yf, merged, dotp, lo, hi, mat]

theorem ref_resid (i : Fin 16384) (d : Fin 2048) :
    val_main_v78 (F := Ideal) x0 x1 x2 x3 x4 x5 x6 x7 x8 x9 x10 x11 (ix3 (0 : Fin 1) i d)
      = resid (lnorm (inRow x0 i) (vec x4) (vec x5)) (merged (lnorm (inRow x0 i) (vec x4) (vec x5))
          (heads (rowOf x1 i) (rowOf x2 i)
            (fun e => dotp (lnorm (inRow x0 i) (vec x4) (vec x5)) (inCol x6 ⟨3072 + e.val, by omega⟩)) (rowOf x8 0))
          (fourier (rowOf x3 i) (fun e => dotp (lnorm (inRow x0 i) (vec x4) (vec x5)) (inCol x6 ⟨5152 + e.val, by omega⟩)))
          (fun q => inCol x6 ⟨6176 + q.val, by omega⟩) (rowOf x7 0) (mat x9) (mat x10)) (mat x11) d := by
  pointwise [val_main_v78, val_main_v77, val_main_v76, val_main_cst_9, val_main_v75, val_main_v74, ref_merged, ref_h,
    resid, dotp, mat]

/-- The output normalisation, over the residual rows. -/
theorem ref_last (i : Fin 16384) (d : Fin 2048) :
    val_main_v104 (F := Ideal) x0 x1 x2 x3 x4 x5 x6 x7 x8 x9 x10 x11 x12 x13 (ix3 (0 : Fin 1) i d)
      = lnorm (inRow (val_main_v78 (F := Ideal) x0 x1 x2 x3 x4 x5 x6 x7 x8 x9 x10 x11) i) (rowOf x12 0) (rowOf x13 0) d := by
  pointwise [val_main_v104, val_main_v103, val_main_v102, val_main_v101, val_main_v100, val_main_v99, val_main_v98,
    val_main_v97, val_main_v96, val_main_v95, val_main_v94, val_main_cst_14, val_main_v93, val_main_v92, val_main_v91,
    val_main_v90, val_main_cst_13, val_main_v89, val_main_v88, val_main_cst_12, val_main_v87, val_main_v86,
    val_main_v85, val_main_v84, val_main_v83, val_main_cst_11, val_main_v82, val_main_v81, val_main_cst_10,
    val_main_v80, val_main_v79, lnorm, affine, mean, rstd, inRow, rowOf]

/-- The third result: the layer's rows. -/
theorem ref_y : val_main_v128 (F := Ideal) x0 x1 x2 x3 x4 x5 x6 x7 x8 x9 x10 x11 x12 x13 = fun i : S16384x2048.Idx =>
    yRow (inRow x0 (i 0)) (vec x4) (vec x5) (inCol x6) (rowOf x1 (i 0)) (rowOf x2 (i 0)) (rowOf x3 (i 0))
      (rowOf x8 0) (rowOf x7 0) (mat x9) (mat x10) (mat x11) (rowOf x12 0) (rowOf x13 0) (i 1) := by
  funext i
  obtain ⟨a, b, rfl⟩ : ∃ (a : Fin 16384) (b : Fin 2048), i = ix2 a b := ⟨i 0, i 1, eq_ix2 i⟩
  pointwise [val_main_v128, ref_last]
  exact congrFun (congrArg (fun r => lnorm r (rowOf x12 0) (rowOf x13 0))
    (funext fun d => ref_resid x0 x1 x2 x3 x4 x5 x6 x7 x8 x9 x10 x11 a d)) b

/-- The same statistics once more, as the second result holds them. -/
theorem ref_mean2 (i : Fin 16384) (z : Fin 1) : val_main_v111 (F := Ideal) x0 (ix3 (0 : Fin 1) i z) = mean (inRow x0 i) := by
  pointwise [val_main_v111, val_main_v110, val_main_cst_16, val_main_v109, val_main_v108, val_main_cst_15, mean, inRow]

theorem ref_rstd2 (i : Fin 16384) (z : Fin 1) : val_main_v121 (F := Ideal) x0 (ix3 (0 : Fin 1) i z) = rstd (inRow x0 i) := by
  pointwise [val_main_v121, val_main_v120, val_main_v119, val_main_cst_19, val_main_v118, val_main_v117, val_main_cst_18,
    val_main_v116, val_main_v115, val_main_cst_17, val_main_v114, val_main_v113, val_main_v112, ref_mean2, rstd, inRow]

/-- The first result: every row's projections. -/
theorem ref_p : val_main_v126 (F := Ideal) x0 x4 x5 x6 = fun i : S16384x6144.Idx =>
    pRow (inRow x0 (i 0)) (vec x4) (vec x5) (inCol x6) (i 1) := by
  funext i
  obtain ⟨a, b, rfl⟩ : ∃ (a : Fin 16384) (b : Fin 6144), i = ix2 a b := ⟨i 0, i 1, eq_ix2 i⟩
  pointwise [val_main_v126, val_main_v125, val_main_v107, val_main_v106, val_main_v105, ref_proj, pRow, projCol]
  by_cases h : b.val < 4096
  · simp only [dif_pos h]
  · simp only [dif_neg h]
    exact congrArg (fun j => dotp _ (inCol x6 j)) (Fin.ext (by dsimp only; omega))

/-- The second: the logits and the row statistics. -/
theorem ref_ba : val_main_v127 (F := Ideal) x0 x4 x5 x6 = fun i : S16384x128.Idx =>
    baRow (inRow x0 (i 0)) (vec x4) (vec x5) (inCol x6) (i 1) := by
  funext i
  obtain ⟨a, b, rfl⟩ : ∃ (a : Fin 16384) (b : Fin 128), i = ix2 a b := ⟨i 0, i 1, eq_ix2 i⟩
  pointwise [val_main_v127, val_main_v124, val_main_v123, val_main_cst_20, val_main_v122, ref_proj, ref_mean2, ref_rstd2,
    baRow, stats]
  by_cases h : b.val < 32
  · simp only [dif_pos h]
  · simp only [dif_neg h]
    split_ifs <;> first | rfl | omega

end Cert.ReferenceIdeal.Layer

end
-- ==== Proof.SampleBlock0.lean ====
/-
  The projection call's output blocks at an index: the projected columns, the logits with the row
  statistics, the normalised row.
-/
module

public import proofs.«01_k».proof.Proof.Gen.Kernel3Ideal.Frame
public import proofs.«01_k».proof.Proof.Spec
public import Idealize.ShloMosaic.Lib.Pipeline.ValueKit
public import Idealize.ShloMosaic.Lib.Pipeline.ReadBack

@[expose] public section

set_option maxRecDepth 16384

noncomputable section

namespace Cert.Kernel3Ideal.Layer

open Idealize.ShloMosaic Idealize.ShloMosaic.TcCoe Idealize.ShloMosaic.Tactic Idealize.SL.Sem
open Cert.Kernel3Ideal Cert.Kernel3Ideal.Gen Cert.Layer

/-- The row's mean, as the kernel takes it. -/
theorem k0_mean (x0 : Vec Ideal S512x2048 .f32) (r : Fin 512) (l : Fin 1) :
    k0_pay4 x0 (ix2 r l) = mean fun k => x0 (ix2 r k) := by
  unfold_payloads
  pointwise [mean]

theorem k0_rstd (x0 : Vec Ideal S512x2048 .f32) (r : Fin 512) (l : Fin 1) :
    k0_pay6 x0 (ix2 r l) = rstd fun k => x0 (ix2 r k) := by
  unfold_payloads
  pointwise [rstd, mean]

theorem k0_norm (x0 : Vec Ideal S512x2048 .f32) (x1 x2 : Vec Ideal S1x2048 .f32) (r : Fin 512) (l : Fin 2048) :
    k0_pay7 x0 x1 x2 (ix2 r l)
      = lnorm (fun k => x0 (ix2 r k)) (fun k => x1 (ix2 0 k)) (fun k => x2 (ix2 0 k)) l := by
  unfold_payloads
  pointwise [lnorm, affine, rstd, mean]

theorem k0_col (h : FVec Ideal S512x2048 .bf16) (w : Vec Ideal S1024x2048 .bf16) (r : Fin 512) (l : Fin 1024) :
    k0_pay2 h w (ix2 r l) = dotp (fun k => h (ix2 r k)) (fun k => w (ix2 l k)) := by
  unfold_payloads
  pointwise [dotp]

theorem out0_8_at (x0 : Vec Ideal S512x2048 .f32) (x1 x2 : Vec Ideal S1x2048 .f32) (x3 : Vec Ideal S4096x2048 .bf16)
    (x4 : Vec Ideal S2048x2048 .bf16) (x5 : Vec Ideal S128x2048 .bf16) (r : Fin 512) (l : Fin 2048) :
    out0_8 x0 x1 x2 x3 x4 x5 (ix2 r l)
      = lnorm (fun k => x0 (ix2 r k)) (fun k => x1 (ix2 0 k)) (fun k => x2 (ix2 0 k)) l := by
  canon_tiles x h
  idx_vars x
  obtain rfl := Fin.ext h0
  obtain rfl := Fin.ext h1
  pointwise [k0_norm]

/-- The three lane tests of the statistics block, on the lane's number. -/
theorem lane_tests : ∀ l : Fin 128,
    IntOp.cmpi .eq (BitVec.ofNat 32 l.val) 32#32 = BitVec.ofBool (decide (l.val = 32))
      ∧ IntOp.cmpi .eq (BitVec.ofNat 32 l.val) 33#32 = BitVec.ofBool (decide (l.val = 33))
      ∧ IntOp.cmpi .slt (BitVec.ofNat 32 l.val) 32#32 = BitVec.ofBool (decide (l.val < 32)) := by
  decide

theorem out0_7_at (x0 : Vec Ideal S512x2048 .f32) (x1 x2 : Vec Ideal S1x2048 .f32) (x3 : Vec Ideal S4096x2048 .bf16)
    (x4 : Vec Ideal S2048x2048 .bf16) (x5 : Vec Ideal S128x2048 .bf16) (r : Fin 512) (l : Fin 128) :
    out0_7 x0 x1 x2 x3 x4 x5 (ix2 r l)
      = stats (fun q => dotp (lnorm (fun k => x0 (ix2 r k)) (fun k => x1 (ix2 0 k)) (fun k => x2 (ix2 0 k)))
            fun k => x5 (ix2 ⟨q.val, by omega⟩ k))
          (mean fun k => x0 (ix2 r k)) (rstd fun k => x0 (ix2 r k)) l := by
  canon_tiles x h
  idx_vars x
  obtain rfl := Fin.ext h0
  obtain rfl := Fin.ext h1
  unfold k0_pay10 k0_pay8 k0_pay9
  pointwise [k0_mean, k0_rstd, k0_norm]
  rw [(lane_tests l).1, (lane_tests l).2.1, (lane_tests l).2.2]
  simp only [Scalar.select_decide]
  unfold stats dotp
  split_ifs <;> first | rfl | omega

/-- The weight row of column `j` of the first result's block: the first block's rows, then the
    second's. -/
def wrow (x3 : Vec Ideal S4096x2048 .bf16) (x4 : Vec Ideal S2048x2048 .bf16) (j : Fin 6144) : Fin 2048 → EReal :=
  if h : j.val < 4096 then fun k => x3 (ix2 ⟨j.val, h⟩ k) else fun k => x4 (ix2 ⟨j.val - 4096, by omega⟩ k)

theorem wrow_lo (x3 : Vec Ideal S4096x2048 .bf16) (x4 : Vec Ideal S2048x2048 .bf16) (j : Fin 6144) (i : Fin 4096)
    (h : j.val = i.val) : wrow x3 x4 j = fun k => x3 (ix2 i k) := by
  obtain ⟨j, hj⟩ := j
  replace h : j = i.val := h
  subst h
  exact dif_pos i.isLt

theorem wrow_hi (x3 : Vec Ideal S4096x2048 .bf16) (x4 : Vec Ideal S2048x2048 .bf16) (j : Fin 6144) (i : Fin 2048)
    (h : j.val = 4096 + i.val) : wrow x3 x4 j = fun k => x4 (ix2 i k) := by
  obtain ⟨j, hj⟩ := j
  replace h : j = 4096 + i.val := h
  have e : (⟨j - 4096, by omega⟩ : Fin 2048) = i := Fin.ext (show j - 4096 = i.val by omega)
  rw [← e]
  exact dif_neg (show ¬ j < 4096 by omega)

theorem out0_6_at (x0 : Vec Ideal S512x2048 .f32) (x1 x2 : Vec Ideal S1x2048 .f32) (x3 : Vec Ideal S4096x2048 .bf16)
    (x4 : Vec Ideal S2048x2048 .bf16) (x5 : Vec Ideal S128x2048 .bf16) (r : Fin 512) (j : Fin 6144) :
    out0_6 x0 x1 x2 x3 x4 x5 (ix2 r j)
      = dotp (lnorm (fun k => x0 (ix2 r k)) (fun k => x1 (ix2 0 k)) (fun k => x2 (ix2 0 k))) (wrow x3 x4 j) := by
  unfold_out out0_6
  canon_tiles x h
  all_goals
    idx_vars x
    obtain rfl := Fin.ext h0
    unfold dotp
  case piece0 =>
    rw [wrow_hi x3 x4 j ⟨1024 + x1.val, by omega⟩ (by show _ = 4096 + (1024 + x1.val); omega)]
    unfold k0_pay2; pointwise [k0_norm]
  case piece1 =>
    rw [wrow_hi x3 x4 j ⟨x1.val, by omega⟩ h1]
    unfold k0_pay1 k0_pay15; pointwise [k0_norm]
  case piece2 => rw [wrow_lo x3 x4 j ⟨3072 + x1.val, by omega⟩ h1]; unfold k0_pay14; pointwise [k0_norm]
  case piece3 => rw [wrow_lo x3 x4 j ⟨2048 + x1.val, by omega⟩ h1]; unfold k0_pay13; pointwise [k0_norm]
  case piece4 => rw [wrow_lo x3 x4 j ⟨1024 + x1.val, by omega⟩ h1]; unfold k0_pay12; pointwise [k0_norm]
  case piece5 => rw [wrow_lo x3 x4 j ⟨x1.val, by omega⟩ h1]; unfold k0_pay11; pointwise [k0_norm]

end Cert.Kernel3Ideal.Layer

end
-- ==== Proof.SampleReads.lean ====
/-
  What the two calls' windows hold at a grid point, read at an index of the arrays.
-/
module

public import proofs.«01_k».proof.Proof.Gen.Kernel3Ideal.Frame
public import Idealize.ShloMosaic.Lib.Pointwise
public import Idealize.ShloMosaic.Lib.Pipeline.ValueKit

@[expose] public section

set_option maxRecDepth 16384

noncomputable section

namespace Cert.Kernel3Ideal.Layer

open Idealize.ShloMosaic Idealize.ShloMosaic.TcCoe Idealize.ShloMosaic.Tactic Idealize.SL.Sem
open Cert.Kernel3Ideal Cert.Kernel3Ideal.Gen

variable (V : (c : Dev nD) → (b : Ref sig .tc) → Buf (Elt Ideal) ((c : Thread nD τ).loc b)) (c : Dev nD)

theorem idx0 : ∀ t : Fin grid0.N, win0_0.index t = ![t.val, 0] ∧ win0_1.index t = ![0, 0] ∧ win0_2.index t = ![0, 0]
    ∧ win0_6.index t = ![t.val, 0] ∧ win0_7.index t = ![t.val, 0] ∧ win0_8.index t = ![t.val, 0] := by
  decide +kernel

theorem idx0_w : ∀ t : Fin grid0.N, win0_3.index t = ![0, 0] ∧ win0_4.index t = ![4128, 0]
    ∧ win0_5.index t = ![4096, 0] := by
  decide +kernel

theorem idx1 : ∀ t : Fin grid1.N, win1_0.index t = ![t.val, 0] ∧ win1_1.index t = ![t.val, 0] ∧ win1_2.index t = ![t.val, 0]
    ∧ win1_3.index t = ![t.val, 0] ∧ win1_4.index t = ![t.val, 0] ∧ win1_5.index t = ![t.val, 3]
    ∧ win1_6.index t = ![t.val, 5] ∧ win1_7.index t = ![t.val, 0] ∧ win1_8.index t = ![0, 0]
    ∧ win1_9.index t = ![0, 0] ∧ win1_10.index t = ![0, 0] ∧ win1_12.index t = ![0, 0] ∧ win1_13.index t = ![0, 0]
    ∧ win1_14.index t = ![0, 0] ∧ win1_15.index t = ![0, 0] ∧ win1_16.index t = ![0, 0] ∧ win1_17.index t = ![0, 0]
    ∧ win1_18.index t = ![t.val, 0] := by
  decide +kernel

theorem idx1_w : ∀ t : Fin grid1.N, win1_11.index t = ![6176, 0] := by
  decide +kernel

/-- Row `r` of the projection call's grid point `t`, and of the merge call's. -/
abbrev row0 (t : Fin cfg0.N) (r : Fin 512) : Fin 8192 :=
  ⟨t.val * 512 + r.val, by have := t.isLt; have : cfg0.N = 16 := rfl; omega⟩
abbrev row1 (t : Fin cfg1.N) (r : Fin 256) : Fin 8192 :=
  ⟨t.val * 256 + r.val, by have := t.isLt; have : cfg1.N = 32 := rfl; omega⟩

theorem read0_0 (t : Fin cfg0.N) (r : Fin 512) (k : Fin 2048) :
    iblk0 V c 0 t (ix2 r k) = V c main_v19 (ix2 (row0 t r) k) := by
  blk_ext [iblk0, idx0 t]

theorem read0_1 (t : Fin cfg0.N) (k : Fin 2048) :
    iblk0 V c 1 t (ix2 0 k) = V c main_v0 (ix2 0 k) := by
  blk_ext [iblk0, idx0 t]

theorem read0_2 (t : Fin cfg0.N) (k : Fin 2048) :
    iblk0 V c 2 t (ix2 0 k) = V c main_v1 (ix2 0 k) := by
  blk_ext [iblk0, idx0 t]

theorem read0_3 (t : Fin cfg0.N) (r : Fin 4096) (k : Fin 2048) :
    iblk0 V c 3 t (ix2 r k) = V c main_v4 (ix2 ⟨r.val, by omega⟩ k) := by
  blk_ext [iblk0]
  · exact (win0_3.rect_emb_val_of_index_zero t 0 (by rw [(idx0_w t).1]; rfl) (ix2 r k))
  · exact (win0_3.rect_emb_val_of_index_zero t 1 (by rw [(idx0_w t).1]; rfl) (ix2 r k))

theorem read0_4 (t : Fin cfg0.N) (r : Fin 2048) (k : Fin 2048) :
    iblk0 V c 4 t (ix2 r k) = V c main_v4 (ix2 ⟨4128 + r.val, by omega⟩ k) := by
  blk_ext [iblk0]
  · exact (win0_4.rect_emb_val_off t (ix2 r k) 0).trans (by rw [(idx0_w t).2.1]; rfl)
  · exact (win0_4.rect_emb_val_of_index_zero t 1 (by rw [(idx0_w t).2.1]; rfl) (ix2 r k))

theorem read0_5 (t : Fin cfg0.N) (r : Fin 128) (k : Fin 2048) :
    iblk0 V c 5 t (ix2 r k) = V c main_v4 (ix2 ⟨4096 + r.val, by omega⟩ k) := by
  blk_ext [iblk0]
  · exact (win0_5.rect_emb_val_off t (ix2 r k) 0).trans (by rw [(idx0_w t).2.2]; rfl)
  · exact (win0_5.rect_emb_val_of_index_zero t 1 (by rw [(idx0_w t).2.2]; rfl) (ix2 r k))

theorem read1_0 (t : Fin cfg1.N) (r : Fin 256) (k : Fin 2048) :
    iblk1 V c 0 t (ix2 r k) = V c main_v19 (ix2 (row1 t r) k) := by
  blk_ext [iblk1, idx1 t]

theorem read1_1 (t : Fin cfg1.N) (r : Fin 256) (k : Fin 2048) :
    iblk1 V c 1 t (ix2 r k) = V c main_v20_2 (ix2 (row1 t r) k) := by
  blk_ext [iblk1, idx1 t]

theorem read1_2 (t : Fin cfg1.N) (r : Fin 256) (k : Fin 128) :
    iblk1 V c 2 t (ix2 r k) = V c main_v20_1 (ix2 (row1 t r) k) := by
  blk_ext [iblk1, idx1 t]

theorem read1_3 (t : Fin cfg1.N) (r : Fin 256) (k : Fin 1024) :
    iblk1 V c 3 t (ix2 r k) = V c main_arg1 (ix2 (row1 t r) k) := by
  blk_ext [iblk1, idx1 t]

theorem read1_4 (t : Fin cfg1.N) (r : Fin 256) (k : Fin 1024) :
    iblk1 V c 4 t (ix2 r k) = V c main_arg2 (ix2 (row1 t r) k) := by
  blk_ext [iblk1, idx1 t]

theorem read1_5 (t : Fin cfg1.N) (r : Fin 256) (k : Fin 1024) :
    iblk1 V c 5 t (ix2 r k) = V c main_v20_0 (ix2 (row1 t r) ⟨3072 + k.val, by omega⟩) := by
  blk_ext [iblk1, idx1 t]

theorem read1_6 (t : Fin cfg1.N) (r : Fin 256) (k : Fin 1024) :
    iblk1 V c 6 t (ix2 r k) = V c main_v20_0 (ix2 (row1 t r) ⟨5120 + k.val, by omega⟩) := by
  blk_ext [iblk1, idx1 t]

theorem read1_7 (t : Fin cfg1.N) (r : Fin 256) (k : Fin 1024) :
    iblk1 V c 7 t (ix2 r k) = V c main_arg3 (ix2 (row1 t r) k) := by
  blk_ext [iblk1, idx1 t]

theorem read1_8 (t : Fin cfg1.N) (k : Fin 2048) :
    iblk1 V c 8 t (ix2 0 k) = V c main_v0 (ix2 0 k) := by
  blk_ext [iblk1, idx1 t]

theorem read1_9 (t : Fin cfg1.N) (k : Fin 2048) :
    iblk1 V c 9 t (ix2 0 k) = V c main_v1 (ix2 0 k) := by
  blk_ext [iblk1, idx1 t]

theorem read1_10 (t : Fin cfg1.N) (k : Fin 128) :
    iblk1 V c 10 t (ix2 0 k) = V c main_v6 (ix2 0 k) := by
  blk_ext [iblk1, idx1 t]

theorem read1_11 (t : Fin cfg1.N) (r : Fin 4096) (k : Fin 2048) :
    iblk1 V c 11 t (ix2 r k) = V c main_v4 (ix2 ⟨6176 + r.val, by omega⟩ k) := by
  blk_ext [iblk1]
  · exact (win1_11.rect_emb_val_off t (ix2 r k) 0).trans (by rw [idx1_w t]; rfl)
  · exact (win1_11.rect_emb_val_of_index_zero t 1 (by rw [idx1_w t]; rfl) (ix2 r k))

theorem read1_12 (t : Fin cfg1.N) (k : Fin 4096) :
    iblk1 V c 12 t (ix2 0 k) = V c main_v8 (ix2 0 k) := by
  blk_ext [iblk1, idx1 t]

theorem read1_13 (t : Fin cfg1.N) (r : Fin 1024) (k : Fin 2048) :
    iblk1 V c 13 t (ix2 r k) = V c main_v10 (ix2 r k) := by
  blk_ext [iblk1, idx1 t]

theorem read1_14 (t : Fin cfg1.N) (r : Fin 1024) (k : Fin 2048) :
    iblk1 V c 14 t (ix2 r k) = V c main_v12 (ix2 r k) := by
  blk_ext [iblk1, idx1 t]

theorem read1_15 (t : Fin cfg1.N) (r : Fin 2048) (k : Fin 2048) :
    iblk1 V c 15 t (ix2 r k) = V c main_v14 (ix2 r k) := by
  blk_ext [iblk1, idx1 t]

theorem read1_16 (t : Fin cfg1.N) (k : Fin 2048) :
    iblk1 V c 16 t (ix2 0 k) = V c main_v16 (ix2 0 k) := by
  blk_ext [iblk1, idx1 t]

theorem read1_17 (t : Fin cfg1.N) (k : Fin 2048) :
    iblk1 V c 17 t (ix2 0 k) = V c main_v18 (ix2 0 k) := by
  blk_ext [iblk1, idx1 t]

end Cert.Kernel3Ideal.Layer

end
-- ==== Proof.SampleArrays0.lean ====
/-
  The projection call's three result arrays, as functions of the arrays it reads.
-/
module

public import proofs.«01_k».proof.Proof.SampleBlock0
public import proofs.«01_k».proof.Proof.SampleReads

@[expose] public section

set_option maxRecDepth 16384

noncomputable section

namespace Cert.Kernel3Ideal.Layer

open Idealize.ShloMosaic Idealize.ShloMosaic.TcCoe Idealize.ShloMosaic.Tactic Idealize.SL.Sem
open Cert.Kernel3Ideal Cert.Kernel3Ideal.Gen Cert.Layer

variable (V : (c : Dev nD) → (b : Ref sig .tc) → Buf (Elt Ideal) ((c : Thread nD τ).loc b)) (c : Dev nD)

/-- Row `i` of the input, and the row normalised. -/
def xrow (i : Fin 8192) : Fin 2048 → EReal := fun k => V c main_v19 (ix2 i k)
def hrow (i : Fin 8192) : Fin 2048 → EReal :=
  lnorm (xrow V c i) (fun k => V c main_v0 (ix2 0 k)) fun k => V c main_v1 (ix2 0 k)

/-- Column `j` of the input projection. -/
def wcol (j : Fin 10272) : Fin 2048 → EReal := fun k => V c main_v4 (ix2 j k)

theorem wrow_read (t : Fin cfg0.N) (j : Fin 6144) : wrow (iblk0 V c 3 t) (iblk0 V c 4 t) j = wcol V c (projCol j) := by
  unfold wrow wcol projCol
  split
  · funext k; exact read0_3 V c t _ k
  · funext k
    refine (read0_4 V c t _ k).trans ?_
    exact congrArg (fun q => V c main_v4 (ix2 q k)) (Fin.ext (show 4128 + (j.val - 4096) = j.val + 32 by omega))

theorem rows_read (t : Fin cfg0.N) (r : Fin 512) : (fun k => iblk0 V c 0 t (ix2 r k)) = xrow V c (row0 t r) :=
  funext fun k => read0_0 V c t r k

theorem norm_read (t : Fin cfg0.N) (r : Fin 512) :
    lnorm (fun k => iblk0 V c 0 t (ix2 r k)) (fun k => iblk0 V c 1 t (ix2 0 k)) (fun k => iblk0 V c 2 t (ix2 0 k))
      = hrow V c (row0 t r) := by
  unfold hrow
  rw [rows_read]
  simp only [read0_1, read0_2]

theorem arr_p : (dat0 V c).arrAt 6 cfg0.N
    = fun i : S8192x6144.Idx => dotp (hrow V c (i 0)) (wcol V c (projCol (i 1))) := by
  refine (dat0 V c).arrAt_eq_of_covers 6 _ (by decide +kernel) fun t hf y => ?_
  blk_simp
  rw [after0_6]
  obtain ⟨r, j, rfl⟩ : ∃ (r : Fin 512) (j : Fin 6144), y = ix2 r j := ⟨y 0, y 1, eq_ix2 y⟩
  have e : (win0_6.blk t).view.emb (ix2 r j) = ix2 (row0 t r) j := by blk_ext [idx0 t]
  rw [out0_6_at, norm_read, wrow_read, e]
  rfl

theorem arr_ba : (dat0 V c).arrAt 7 cfg0.N
    = fun i : S8192x128.Idx => stats (fun q => dotp (hrow V c (i 0)) (wcol V c ⟨4096 + q.val, by omega⟩))
        (mean (xrow V c (i 0))) (rstd (xrow V c (i 0))) (i 1) := by
  refine (dat0 V c).arrAt_eq_of_covers 7 _ (by decide +kernel) fun t hf y => ?_
  blk_simp
  rw [after0_7]
  obtain ⟨r, j, rfl⟩ : ∃ (r : Fin 512) (j : Fin 128), y = ix2 r j := ⟨y 0, y 1, eq_ix2 y⟩
  have e : (win0_7.blk t).view.emb (ix2 r j) = ix2 (row0 t r) j := by blk_ext [idx0 t]
  have ew : (fun q : Fin 32 => fun k => iblk0 V c 5 t (ix2 ⟨q.val, by omega⟩ k))
      = fun q : Fin 32 => wcol V c ⟨4096 + q.val, by omega⟩ := by
    funext q k
    exact read0_5 V c t _ k
  rw [out0_7_at, norm_read, rows_read, e]
  exact congrArg (fun w : Fin 32 → Fin 2048 → EReal =>
    stats (fun q => dotp (hrow V c (row0 t r)) (w q)) (mean (xrow V c (row0 t r))) (rstd (xrow V c (row0 t r))) j) ew

theorem arr_hb : (dat0 V c).arrAt 8 cfg0.N = fun i : S8192x2048.Idx => hrow V c (i 0) (i 1) := by
  refine (dat0 V c).arrAt_eq_of_covers 8 _ (by decide +kernel) fun t hf y => ?_
  blk_simp
  rw [after0_8]
  obtain ⟨r, j, rfl⟩ : ∃ (r : Fin 512) (j : Fin 2048), y = ix2 r j := ⟨y 0, y 1, eq_ix2 y⟩
  have e : (win0_8.blk t).view.emb (ix2 r j) = ix2 (row0 t r) j := by blk_ext [idx0 t]
  rw [out0_8_at, norm_read, e]
  rfl

end Cert.Kernel3Ideal.Layer

end
-- ==== Proof.SampleBlock1.lean ====
/-
  The merge call's output block at an index: the heads, the Fourier channels, the gated merge and the
  second normalisation, each from the blocks the call reads.
-/
module

public import proofs.«01_k».proof.Proof.Gen.Kernel3Ideal.Frame
public import proofs.«01_k».proof.Proof.Spec
public import Idealize.ShloMosaic.Lib.Pipeline.ValueKit
public import Idealize.ShloMosaic.Lib.Pipeline.ReadBack

@[expose] public section

set_option maxRecDepth 16384

noncomputable section

namespace Cert.Kernel3Ideal.Layer

open Idealize.ShloMosaic Idealize.ShloMosaic.TcCoe Idealize.ShloMosaic.Tactic Idealize.SL.Sem
open Cert.Kernel3Ideal Cert.Kernel3Ideal.Gen Cert.Layer

/-- One head's value at a lane, from the head's 128 lanes of both directions, of the gate and of the weight. -/
def head1 (a b z nw : Fin 128 → EReal) (l : Fin 128) : EReal :=
  (a l + b l) * Ideal.rsqrt (Ideal.div (∑ k, (a k + b k) * (a k + b k))
    (Ideal.ofBits .f32 0x43000000#32) + Ideal.ofBits .f32 0x358637BD#32) * nw l * silu (z l)

variable (n : Vec Ideal S1x128 .f32) (a b z : Vec Ideal S256x128 .bf16) (r : Fin 256) (l : Fin 128)

theorem k1_head0 : k1_pay3 n a b z (ix2 r l)
    = head1 (fun k => a (ix2 r k)) (fun k => b (ix2 r k)) (fun k => z (ix2 r k)) (fun k => n (ix2 0 k)) l := by
  unfold_payloads
  pointwise [head1, silu]

theorem k1_head1 : k1_pay6 (k1_pay2 n) (k1_pay4 a b) (k1_pay5 a b) z (ix2 r l)
    = head1 (fun k => a (ix2 r k)) (fun k => b (ix2 r k)) (fun k => z (ix2 r k)) (fun k => n (ix2 0 k)) l := by
  unfold_payloads
  pointwise [head1, silu]

theorem k1_head2 : k1_pay8 (k1_pay7 (k1_pay2 n) a b z) (ix2 r l)
    = head1 (fun k => a (ix2 r k)) (fun k => b (ix2 r k)) (fun k => z (ix2 r k)) (fun k => n (ix2 0 k)) l := by
  unfold_payloads
  pointwise [head1, silu]

theorem k1_head3 : k1_pay9 (k1_pay2 n) a b z (ix2 r l)
    = head1 (fun k => a (ix2 r k)) (fun k => b (ix2 r k)) (fun k => z (ix2 r k)) (fun k => n (ix2 0 k)) l := by
  unfold_payloads
  pointwise [head1, silu]

theorem k1_head4 : k1_pay12 (k1_pay2 n) (k1_pay10 a b) (k1_pay11 a b) z (ix2 r l)
    = head1 (fun k => a (ix2 r k)) (fun k => b (ix2 r k)) (fun k => z (ix2 r k)) (fun k => n (ix2 0 k)) l := by
  unfold_payloads
  pointwise [head1, silu]

theorem k1_head5 : k1_pay13 (k1_pay2 n) a b z (ix2 r l)
    = head1 (fun k => a (ix2 r k)) (fun k => b (ix2 r k)) (fun k => z (ix2 r k)) (fun k => n (ix2 0 k)) l := by
  unfold_payloads
  pointwise [head1, silu]

theorem k1_head6 : k1_pay14 (k1_pay2 n) a b z (ix2 r l)
    = head1 (fun k => a (ix2 r k)) (fun k => b (ix2 r k)) (fun k => z (ix2 r k)) (fun k => n (ix2 0 k)) l := by
  unfold_payloads
  pointwise [head1, silu]

theorem k1_head7 : k1_pay16 (k1_pay2 n) (k1_pay15 a b) z (ix2 r l)
    = head1 (fun k => a (ix2 r k)) (fun k => b (ix2 r k)) (fun k => z (ix2 r k)) (fun k => n (ix2 0 k)) l := by
  unfold_payloads
  pointwise [head1, silu]

omit n a b z r l

/-- A head of the row of all heads. -/
theorem heads_eq_head1 (a b z : Fin 1024 → EReal) (nw : Fin 128 → EReal) (o : ℕ) (ho : o + 128 ≤ 1024) (hd : o % 128 = 0)
    (e : Fin 1024) (l : Fin 128) (h : e.val = o + l.val) :
    heads a b z nw e = head1 (fun k => a ⟨o + k.val, by omega⟩) (fun k => b ⟨o + k.val, by omega⟩)
      (fun k => z ⟨o + k.val, by omega⟩) nw l := by
  obtain ⟨e, he⟩ := e
  replace h : e = o + l.val := h
  have hl : laneIx ⟨e, he⟩ = l := Fin.ext (show e % 128 = l.val by omega)
  have hk : ∀ k, headIx ⟨e, he⟩ k = ⟨o + k.val, by omega⟩ := fun k =>
    Fin.ext (show 128 * (e / 128) + k.val = o + k.val by omega)
  unfold heads head1
  simp only [hl, hk]
  subst h
  rfl

/-- A load of a whole buffer of what stores left, where the stores' values are known at every index. -/
theorem readCov_whole {S : Shape} {e : EltTy} {κ : Kind} {sp : Space} (v : View sig κ sp S e)
    (L : List (View.Piece (Elt Ideal) S e)) (off : Fin S.rank → ℕ) (inb : ∀ a, off a + S.size a ≤ S.size a)
    (G : S.Idx → Elt Ideal e) (h : ∀ y, View.canon L y = G y) :
    v.readCov L (Rect.unit off S.size inb).toLoadRect = G := by
  rw [View.readCov_eq_canon']
  funext j
  rw [h]
  refine congrArg G (funext fun a => Fin.ext ?_)
  have := inb a
  show off a + 1 * (j a).val = (j a).val
  omega

/-- The heads' block, of the blocks of both directions, of the gate and of the weight. -/
def yaBlk (x3 x4 x5 : Vec Ideal S256x1024 .bf16) (x10 : Vec Ideal S1x128 .f32) : Vec Ideal S256x1024 .bf16 := fun y =>
  heads (fun k => x3 (ix2 (y 0) k)) (fun k => x4 (ix2 (y 0) k)) (fun k => x5 (ix2 (y 0) k)) (fun k => x10 (ix2 0 k)) (y 1)

/-- The merged block. -/
def mBlk (x1 : Vec Ideal S256x2048 .bf16) (x3 x4 x5 x6 x7 : Vec Ideal S256x1024 .bf16) (x10 : Vec Ideal S1x128 .f32)
    (x11 : Vec Ideal S4096x2048 .bf16) (x12 : Vec Ideal S1x4096 .f32) (x13 x14 : Vec Ideal S1024x2048 .bf16) :
    Vec Ideal S256x2048 .bf16 := fun y =>
  merged (fun k => x1 (ix2 (y 0) k)) (fun k => yaBlk x3 x4 x5 x10 (ix2 (y 0) k))
    (fourier (fun k => x7 (ix2 (y 0) k)) fun k => x6 (ix2 (y 0) k)) (fun q k => x11 (ix2 q k)) (fun q => x12 (ix2 0 q))
    (fun e d => x13 (ix2 e d)) (fun e d => x14 (ix2 e d)) (y 1)

variable (V : (c : Dev nD) → (b : Ref sig .tc) → Buf (Elt Ideal) ((c : Thread nD τ).loc b))

theorem outsAt1_eq (c : Dev nD) (t : Fin cfg1.N)
    (x0 : Vec Ideal S256x2048 .f32) (h0 : iblk1 V c 0 t = x0) (x1 : Vec Ideal S256x2048 .bf16) (h1 : iblk1 V c 1 t = x1)
    (x2 : Vec Ideal S256x128 .f32) (h2 : iblk1 V c 2 t = x2) (x3 : Vec Ideal S256x1024 .bf16) (h3 : iblk1 V c 3 t = x3)
    (x4 : Vec Ideal S256x1024 .bf16) (h4 : iblk1 V c 4 t = x4) (x5 : Vec Ideal S256x1024 .bf16) (h5 : iblk1 V c 5 t = x5)
    (x6 : Vec Ideal S256x1024 .bf16) (h6 : iblk1 V c 6 t = x6) (x7 : Vec Ideal S256x1024 .bf16) (h7 : iblk1 V c 7 t = x7)
    (x8 : Vec Ideal S1x2048 .f32) (h8 : iblk1 V c 8 t = x8) (x9 : Vec Ideal S1x2048 .f32) (h9 : iblk1 V c 9 t = x9)
    (x10 : Vec Ideal S1x128 .f32) (h10 : iblk1 V c 10 t = x10) (x11 : Vec Ideal S4096x2048 .bf16) (h11 : iblk1 V c 11 t = x11)
    (x12 : Vec Ideal S1x4096 .f32) (h12 : iblk1 V c 12 t = x12) (x13 : Vec Ideal S1024x2048 .bf16) (h13 : iblk1 V c 13 t = x13)
    (x14 : Vec Ideal S1024x2048 .bf16) (h14 : iblk1 V c 14 t = x14) (x15 : Vec Ideal S2048x2048 .bf16) (h15 : iblk1 V c 15 t = x15)
    (x16 : Vec Ideal S1x2048 .f32) (h16 : iblk1 V c 16 t = x16) (x17 : Vec Ideal S1x2048 .f32) (h17 : iblk1 V c 17 t = x17) :
    outsAt1 V c t
      = k1_pay1 (k1_pay31 (mBlk x1 x3 x4 x5 x6 x7 x10 x11 x12 x13 x14) x15 x2 x0 x8 x9) (k1_pay32 x16) x17 := by
  funext y
  unfold outsAt1
  frame_open
  simp (disch := decide) only [↓ View.readCov_skip, ↓ View.readCov_cons_toLoadRect, ↓ View.readCov_fill]
  frame_out
  rw [h0, h1, h2, h3, h4, h5, h6, h7, h8, h9, h10, h11, h12, h13, h14, h15, h16, h17]
  rw [readCov_whole _ _ _ _ (yaBlk x3 x4 x5 x10), readCov_whole _ _ _ _ (mBlk x1 x3 x4 x5 x6 x7 x10 x11 x12 x13 x14)]
  all_goals
    clear h0 h1 h2 h3 h4 h5 h6 h7 h8 h9 h10 h11 h12 h13 h14 h15 h16 h17
    clear y
    intro y
    idx_vars y
    canon_tiles x h
  all_goals
    idx_vars x
    obtain rfl := Fin.ext h0
  · have hl : lo y1 = ⟨1536 + x1.val, by omega⟩ := Fin.ext h1
    have hh : hi y1 = ⟨3584 + x1.val, by omega⟩ := Fin.ext (show 2048 + y1.val = 3584 + x1.val by omega)
    have hy : y1 = ⟨1536 + x1.val, by omega⟩ := Fin.ext h1
    unfold mBlk merged
    unfold_payloads
    pointwise [dotp, fourier, silu]
    simp only [hl, hh]
    rw [hy]
  · have hl : lo y1 = ⟨1024 + x1.val, by omega⟩ := Fin.ext h1
    have hh : hi y1 = ⟨3072 + x1.val, by omega⟩ := Fin.ext (show 2048 + y1.val = 3072 + x1.val by omega)
    have hy : y1 = ⟨1024 + x1.val, by omega⟩ := Fin.ext h1
    unfold mBlk merged
    unfold_payloads
    pointwise [dotp, fourier, silu]
    simp only [hl, hh]
    rw [hy]
  · have hl : lo y1 = ⟨512 + x1.val, by omega⟩ := Fin.ext h1
    have hh : hi y1 = ⟨2560 + x1.val, by omega⟩ := Fin.ext (show 2048 + y1.val = 2560 + x1.val by omega)
    have hy : y1 = ⟨512 + x1.val, by omega⟩ := Fin.ext h1
    unfold mBlk merged
    unfold_payloads
    pointwise [dotp, fourier, silu]
    simp only [hl, hh]
    rw [hy]
  · have hl : lo y1 = ⟨x1.val, by omega⟩ := Fin.ext h1
    have hh : hi y1 = ⟨2048 + x1.val, by omega⟩ := Fin.ext (show 2048 + y1.val = 2048 + x1.val by omega)
    have hy : y1 = ⟨x1.val, by omega⟩ := Fin.ext h1
    unfold mBlk merged
    unfold_payloads
    pointwise [dotp, fourier, silu]
    simp only [hl, hh]
    simp only [hy]
  · refine Eq.trans ?_ (heads_eq_head1 _ _ _ _ 896 (by decide) (by decide) y1 x1 h1).symm
    rw [k1_head7]
    pointwise
  · refine Eq.trans ?_ (heads_eq_head1 _ _ _ _ 768 (by decide) (by decide) y1 x1 h1).symm
    rw [k1_head6]
    pointwise
  · refine Eq.trans ?_ (heads_eq_head1 _ _ _ _ 640 (by decide) (by decide) y1 x1 h1).symm
    rw [k1_head5]
    pointwise
  · refine Eq.trans ?_ (heads_eq_head1 _ _ _ _ 512 (by decide) (by decide) y1 x1 h1).symm
    rw [k1_head4]
    pointwise
  · refine Eq.trans ?_ (heads_eq_head1 _ _ _ _ 384 (by decide) (by decide) y1 x1 h1).symm
    rw [k1_head3]
    pointwise
  · refine Eq.trans ?_ (heads_eq_head1 _ _ _ _ 256 (by decide) (by decide) y1 x1 h1).symm
    rw [k1_head2]
    pointwise
  · refine Eq.trans ?_ (heads_eq_head1 _ _ _ _ 128 (by decide) (by decide) y1 x1 h1).symm
    rw [k1_head1]
    pointwise
  · refine Eq.trans ?_ (heads_eq_head1 _ _ _ _ 0 (by decide) (by decide) y1 x1 (by rw [h1, Nat.zero_add])).symm
    rw [k1_head0]
    pointwise

/-- The output block at an index. -/
theorem merge_at (m : Vec Ideal S256x2048 .bf16) (x15 : Vec Ideal S2048x2048 .bf16) (x2 : Vec Ideal S256x128 .f32)
    (x0 : Vec Ideal S256x2048 .f32) (x8 x9 x16 x17 : Vec Ideal S1x2048 .f32) (r : Fin 256) (d : Fin 2048) :
    k1_pay1 (k1_pay31 m x15 x2 x0 x8 x9) (k1_pay32 x16) x17 (ix2 r d)
      = lnorm (resid (affine (x2 (ix2 r 32)) (x2 (ix2 r 33)) (fun k => x0 (ix2 r k)) (fun k => x8 (ix2 0 k))
            fun k => x9 (ix2 0 k)) (fun k => m (ix2 r k)) fun k d => x15 (ix2 k d))
          (fun k => x16 (ix2 0 k)) (fun k => x17 (ix2 0 k)) d := by
  unfold_payloads
  pointwise [lnorm, affine, resid, mean, rstd, dotp]

end Cert.Kernel3Ideal.Layer

end
-- ==== Proof.SampleArrays1.lean ====
/-
  The merge call's result array, as a function of the arrays it reads; then with the projection call's
  results in their places.
-/
module

public import proofs.«01_k».proof.Proof.SampleBlock1
public import proofs.«01_k».proof.Proof.SampleArrays0

@[expose] public section

set_option maxRecDepth 16384

noncomputable section

namespace Cert.Kernel3Ideal.Layer

open Idealize.ShloMosaic Idealize.ShloMosaic.TcCoe Idealize.ShloMosaic.Tactic Idealize.SL.Sem
open Cert.Kernel3Ideal Cert.Kernel3Ideal.Gen Cert.Layer

variable (V : (c : Dev nD) → (b : Ref sig .tc) → Buf (Elt Ideal) ((c : Thread nD τ).loc b)) (c : Dev nD)

theorem arr_y : (dat1 V c).arrAt 18 cfg1.N
    = fun i : S8192x2048.Idx =>
      mergeRow (V c main_v20_1 (ix2 (i 0) 32)) (V c main_v20_1 (ix2 (i 0) 33)) (xrow V c (i 0))
        (fun k => V c main_v0 (ix2 0 k)) (fun k => V c main_v1 (ix2 0 k)) (fun k => V c main_v20_2 (ix2 (i 0) k))
        (fun k => V c main_arg1 (ix2 (i 0) k)) (fun k => V c main_arg2 (ix2 (i 0) k))
        (fun k => V c main_v20_0 (ix2 (i 0) ⟨3072 + k.val, by omega⟩)) (fun k => V c main_v6 (ix2 0 k))
        (fun k => V c main_arg3 (ix2 (i 0) k)) (fun k => V c main_v20_0 (ix2 (i 0) ⟨5120 + k.val, by omega⟩))
        (fun q => wcol V c ⟨6176 + q.val, by omega⟩) (fun q => V c main_v8 (ix2 0 q))
        (fun e d => V c main_v10 (ix2 e d)) (fun e d => V c main_v12 (ix2 e d)) (fun k d => V c main_v14 (ix2 k d))
        (fun k => V c main_v16 (ix2 0 k)) (fun k => V c main_v18 (ix2 0 k)) (i 1) := by
  refine (dat1 V c).arrAt_eq_of_covers 18 _ (by decide +kernel) fun t hf y => ?_
  blk_simp
  rw [after1_18]
  obtain ⟨r, d, rfl⟩ : ∃ (r : Fin 256) (d : Fin 2048), y = ix2 r d := ⟨y 0, y 1, eq_ix2 y⟩
  have e : (win1_18.blk t).view.emb (ix2 r d) = ix2 (row1 t r) d := by blk_ext [idx1 t]
  rw [outsAt1_eq V c t _ rfl _ rfl _ rfl _ rfl _ rfl _ rfl _ rfl _ rfl _ rfl _ rfl _ rfl _ rfl _ rfl _ rfl _ rfl _ rfl
    _ rfl _ rfl, merge_at, e]
  unfold mBlk yaBlk mergeRow
  simp only [ix2_0, ix2_1]
  simp only [read1_0, read1_1, read1_2, read1_3, read1_4, read1_5, read1_6, read1_7, read1_8, read1_9, read1_10, read1_11,
    read1_12, read1_13, read1_14, read1_15, read1_16, read1_17]
  rfl

end Cert.Kernel3Ideal.Layer

end
-- ==== Proof.SampleRun.lean ====
/-
  The whole run of the two kernels, with what every buffer holds at its end.

  The generated frame says that the arguments end as they began. Its proof knows more: at the end every
  buffer holds what the last boundary's contents say. Here the same launch is read for the three
  results as well.
-/
module

public import proofs.«01_k».proof.Proof.Gen.Kernel3Ideal.Frame

@[expose] public section

noncomputable section

namespace Cert.Kernel3Ideal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and at its end every buffer that outlives the launch holds what the fold through
    the program says (`W3`). -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The projections the first kernel writes are not changed by the second. -/
theorem W3_p (c : Dev nD) : W3 m ρ c (Proc.devRef .tc main_v20_0) = (dat0 (V1 m ρ) c).arrAt 6 cfg0.N :=
  (W3_of m ρ c main_v20_0 (by decide +kernel)).trans (W2_arr m ρ c 6)

/-- Nor are the logits with the two row statistics. -/
theorem W3_ba (c : Dev nD) : W3 m ρ c (Proc.devRef .tc main_v20_1) = (dat0 (V1 m ρ) c).arrAt 7 cfg0.N :=
  (W3_of m ρ c main_v20_1 (by decide +kernel)).trans (W2_arr m ρ c 7)

/-- The layer's rows are what the second kernel leaves. -/
theorem W3_y (c : Dev nD) : W3 m ρ c (Proc.devRef .tc main_v21) = (dat1 (V2 m ρ) c).arrAt 18 cfg1.N :=
  W3_arr m ρ c 18

end Cert.Kernel3Ideal.Layer

end
-- ==== Proof.SampleSpec.lean ====
/- The rows of four sequences of 2048 tokens: as one list of 8192 rows, and the sequence and place of each. -/
module

public import proofs.«01_k».proof.Proof.Spec

@[expose] public section

noncomputable section

namespace Cert.Layer

open Idealize.ShloMosaic

/-- The sequence that row `i` lies in, its place there, and the row at a place of a sequence. -/
def seqOf (i : Fin 8192) : Fin 4 := ⟨i.val / 2048, by omega⟩
def placeOf (i : Fin 8192) : Fin 2048 := ⟨i.val % 2048, by omega⟩
def rowAt (b : Fin 4) (t : Fin 2048) : Fin 8192 := ⟨b.val * 2048 + t.val, by omega⟩

theorem rowAt_of (i : Fin 8192) : rowAt (seqOf i) (placeOf i) = i :=
  Fin.ext (show i.val / 2048 * 2048 + i.val % 2048 = i.val by omega)

/-- The input's row at a place of a sequence, and row `i` of all. -/
def atRow (x : (⟨3, ![4, 2048, 2048]⟩ : Shape).Idx → EReal) (b : Fin 4) (t : Fin 2048) : Fin 2048 → EReal :=
  fun k => x (ix3 b t k)
def sRow (x : (⟨3, ![4, 2048, 2048]⟩ : Shape).Idx → EReal) (i : Fin 8192) : Fin 2048 → EReal := atRow x (seqOf i) (placeOf i)

end Cert.Layer

end
-- ==== Proof.SampleHost.lean ====
/- The arrays the kernels are called with, read at an index as entries of the program's arguments: the host only
   reshapes, transposes `w_in` and rounds the matrices. -/
module

public import proofs.«01_k».proof.Proof.SampleArrays0
public import proofs.«01_k».proof.Proof.SampleArrays1
public import proofs.«01_k».proof.Proof.SampleRun
public import proofs.«01_k».proof.Proof.SampleSpec

@[expose] public section

set_option maxRecDepth 16384

noncomputable section

namespace Cert.Kernel3Ideal.Layer

open Idealize.ShloMosaic Idealize.ShloMosaic.TcCoe Idealize.ShloMosaic.Tactic Idealize.SL.Sem
open Cert.Kernel3Ideal Cert.Kernel3Ideal.Gen Cert.Layer

variable (m : (ℓ : Loc nD τ sig) → Buf (Elt Ideal) ℓ) (ρ : Dev nD → PrngReg) (c : Dev nD)

theorem host_x (i : Fin 8192) (k : Fin 2048) :
    V1 m ρ c main_v19 (ix2 i k) = m ((c : Thread nD τ).loc main_arg0) (ix3 (seqOf i) (placeOf i) k) := by
  simp only [V1, W1]
  entry_read
  pointwise
  rfl

theorem host_g (k : Fin 2048) :
    V1 m ρ c main_v0 (ix2 (0 : Fin 1) k) = m ((c : Thread nD τ).loc main_arg4) (ix1 k) := by
  simp only [V1, W1]
  entry_read
  pointwise

theorem host_b (k : Fin 2048) :
    V1 m ρ c main_v1 (ix2 (0 : Fin 1) k) = m ((c : Thread nD τ).loc main_arg5) (ix1 k) := by
  simp only [V1, W1]
  entry_read
  pointwise

theorem host_w (j : Fin 10272) (k : Fin 2048) :
    V1 m ρ c main_v4 (ix2 j k) = m ((c : Thread nD τ).loc main_arg6) (ix3 (0 : Fin 1) k j) := by
  simp only [V1, W1]
  entry_read
  pointwise

theorem host_nw (k : Fin 128) :
    V1 m ρ c main_v6 (ix2 (0 : Fin 1) k) = m ((c : Thread nD τ).loc main_arg8) (ix2 (0 : Fin 1) k) := by
  simp only [V1, W1]
  entry_read
  pointwise

theorem host_bg (k : Fin 4096) :
    V1 m ρ c main_v8 (ix2 (0 : Fin 1) k) = m ((c : Thread nD τ).loc main_arg7) (ix2 (0 : Fin 1) k) := by
  simp only [V1, W1]
  entry_read
  pointwise

theorem host_wa (e : Fin 1024) (d : Fin 2048) :
    V1 m ρ c main_v10 (ix2 e d) = m ((c : Thread nD τ).loc main_arg9) (ix3 (0 : Fin 1) e d) := by
  simp only [V1, W1]
  entry_read
  pointwise

theorem host_wf (e : Fin 1024) (d : Fin 2048) :
    V1 m ρ c main_v12 (ix2 e d) = m ((c : Thread nD τ).loc main_arg10) (ix3 (0 : Fin 1) e d) := by
  simp only [V1, W1]
  entry_read
  pointwise

theorem host_wo (e : Fin 2048) (d : Fin 2048) :
    V1 m ρ c main_v14 (ix2 e d) = m ((c : Thread nD τ).loc main_arg11) (ix3 (0 : Fin 1) e d) := by
  simp only [V1, W1]
  entry_read
  pointwise

theorem host_lg (k : Fin 2048) :
    V1 m ρ c main_v16 (ix2 (0 : Fin 1) k) = m ((c : Thread nD τ).loc main_arg12) (ix2 (0 : Fin 1) k) := by
  simp only [V1, W1]
  entry_read
  pointwise

theorem host_lb (k : Fin 2048) :
    V1 m ρ c main_v18 (ix2 (0 : Fin 1) k) = m ((c : Thread nD τ).loc main_arg13) (ix2 (0 : Fin 1) k) := by
  simp only [V1, W1]
  entry_read
  pointwise

/-- What the first kernel reads and writes, by rows of the arguments. -/
theorem xrow1 (i : Fin 8192) : xrow (V1 m ρ) c i = sRow (m ((c : Thread nD τ).loc main_arg0)) i :=
  funext fun k => host_x m ρ c i k

theorem wcol1 (j : Fin 10272) : wcol (V1 m ρ) c j = inCol (m ((c : Thread nD τ).loc main_arg6)) j :=
  funext fun k => host_w m ρ c j k

theorem hrow1 (i : Fin 8192) : hrow (V1 m ρ) c i = lnorm (sRow (m ((c : Thread nD τ).loc main_arg0)) i)
    (vec (m ((c : Thread nD τ).loc main_arg4))) (vec (m ((c : Thread nD τ).loc main_arg5))) := by
  unfold hrow
  rw [xrow1]
  exact congrArg₂ (lnorm _) (funext fun k => host_g m ρ c k) (funext fun k => host_b m ρ c k)

/-- The first result of the program: every row's projections. -/
theorem out_p : W3 m ρ c (Proc.devRef .tc main_v20_0) = fun i : S8192x6144.Idx =>
    pRow (sRow (m ((c : Thread nD τ).loc main_arg0)) (i 0)) (vec (m ((c : Thread nD τ).loc main_arg4)))
      (vec (m ((c : Thread nD τ).loc main_arg5))) (inCol (m ((c : Thread nD τ).loc main_arg6))) (i 1) := by
  rw [W3_p, arr_p]
  funext i
  exact congrArg₂ dotp (hrow1 m ρ c (i 0)) (wcol1 m ρ c _)

theorem stats_congr {q q' : Fin 32 → EReal} {mu mu' rs rs' : EReal} (h : q = q') (h1 : mu = mu') (h2 : rs = rs') :
    stats q mu rs = stats q' mu' rs' := by rw [h, h1, h2]

/-- The second: the logits and the row statistics. -/
theorem out_ba : W3 m ρ c (Proc.devRef .tc main_v20_1) = fun i : S8192x128.Idx =>
    baRow (sRow (m ((c : Thread nD τ).loc main_arg0)) (i 0)) (vec (m ((c : Thread nD τ).loc main_arg4)))
      (vec (m ((c : Thread nD τ).loc main_arg5))) (inCol (m ((c : Thread nD τ).loc main_arg6))) (i 1) := by
  rw [W3_ba, arr_ba]
  funext i
  exact congrFun (stats_congr (funext fun q => congrArg₂ dotp (hrow1 m ρ c (i 0)) (wcol1 m ρ c _))
    (congrArg mean (xrow1 m ρ c (i 0))) (congrArg rstd (xrow1 m ρ c (i 0)))) (i 1)

/-- At the second kernel's entry the three arrays of the first hold what it left there. -/
theorem V2_p : V2 m ρ c main_v20_0 = fun i : S8192x6144.Idx =>
    pRow (sRow (m ((c : Thread nD τ).loc main_arg0)) (i 0)) (vec (m ((c : Thread nD τ).loc main_arg4)))
      (vec (m ((c : Thread nD τ).loc main_arg5))) (inCol (m ((c : Thread nD τ).loc main_arg6))) (i 1) :=
  ((W2_arr m ρ c 6).trans (W3_p m ρ c).symm).trans (out_p m ρ c)

theorem V2_ba : V2 m ρ c main_v20_1 = fun i : S8192x128.Idx =>
    baRow (sRow (m ((c : Thread nD τ).loc main_arg0)) (i 0)) (vec (m ((c : Thread nD τ).loc main_arg4)))
      (vec (m ((c : Thread nD τ).loc main_arg5))) (inCol (m ((c : Thread nD τ).loc main_arg6))) (i 1) :=
  ((W2_arr m ρ c 7).trans (W3_ba m ρ c).symm).trans (out_ba m ρ c)

theorem V2_h : V2 m ρ c main_v20_2 = fun i : S8192x2048.Idx =>
    lnorm (sRow (m ((c : Thread nD τ).loc main_arg0)) (i 0)) (vec (m ((c : Thread nD τ).loc main_arg4)))
      (vec (m ((c : Thread nD τ).loc main_arg5))) (i 1) := by
  refine (W2_arr m ρ c 8).trans ?_
  rw [arr_hb]
  funext i
  exact congrFun (hrow1 m ρ c (i 0)) (i 1)

/-- Every other array is what it was at the first kernel's entry. -/
theorem V2_old (r : Ref sig .tc) (h : ∀ w : Fin cfg0.W, Pipeline.arrRef spec0 w = r → (cfg0.win w).isOut = false) :
    V2 m ρ c r = V1 m ρ c r := W2_of m ρ c r h

theorem V2_x : V2 m ρ c main_v19 = V1 m ρ c main_v19 := V2_old m ρ c _ (by decide +kernel)
theorem V2_g : V2 m ρ c main_v0 = V1 m ρ c main_v0 := V2_old m ρ c _ (by decide +kernel)
theorem V2_b : V2 m ρ c main_v1 = V1 m ρ c main_v1 := V2_old m ρ c _ (by decide +kernel)
theorem V2_w : V2 m ρ c main_v4 = V1 m ρ c main_v4 := V2_old m ρ c _ (by decide +kernel)
theorem V2_nw : V2 m ρ c main_v6 = V1 m ρ c main_v6 := V2_old m ρ c _ (by decide +kernel)
theorem V2_bg : V2 m ρ c main_v8 = V1 m ρ c main_v8 := V2_old m ρ c _ (by decide +kernel)
theorem V2_wa : V2 m ρ c main_v10 = V1 m ρ c main_v10 := V2_old m ρ c _ (by decide +kernel)
theorem V2_wf : V2 m ρ c main_v12 = V1 m ρ c main_v12 := V2_old m ρ c _ (by decide +kernel)
theorem V2_wo : V2 m ρ c main_v14 = V1 m ρ c main_v14 := V2_old m ρ c _ (by decide +kernel)
theorem V2_lg : V2 m ρ c main_v16 = V1 m ρ c main_v16 := V2_old m ρ c _ (by decide +kernel)
theorem V2_lb : V2 m ρ c main_v18 = V1 m ρ c main_v18 := V2_old m ρ c _ (by decide +kernel)
theorem V2_arg1 : V2 m ρ c main_arg1 = m ((c : Thread nD τ).loc main_arg1) := W2_args m ρ c main_arg1 (by decide)
theorem V2_arg2 : V2 m ρ c main_arg2 = m ((c : Thread nD τ).loc main_arg2) := W2_args m ρ c main_arg2 (by decide)
theorem V2_arg3 : V2 m ρ c main_arg3 = m ((c : Thread nD τ).loc main_arg3) := W2_args m ρ c main_arg3 (by decide)

theorem xrow2 (i : Fin 8192) : xrow (V2 m ρ) c i = sRow (m ((c : Thread nD τ).loc main_arg0)) i := by
  refine Eq.trans ?_ (xrow1 m ρ c i)
  unfold xrow
  rw [V2_x]

theorem wcol2 (j : Fin 10272) : wcol (V2 m ρ) c j = inCol (m ((c : Thread nD τ).loc main_arg6)) j := by
  refine Eq.trans ?_ (wcol1 m ρ c j)
  unfold wcol
  rw [V2_w]

theorem lane32 (q : Fin 32 → EReal) (mu rs : EReal) : stats q mu rs 32 = mu := rfl
theorem lane33 (q : Fin 32 → EReal) (mu rs : EReal) : stats q mu rs 33 = rs := rfl

theorem projCol_za (e : Fin 1024) : projCol ⟨3072 + e.val, by omega⟩ = ⟨3072 + e.val, by omega⟩ :=
  dif_pos (show 3072 + e.val < 4096 by omega)

theorem projCol_zf (e : Fin 1024) : projCol ⟨5120 + e.val, by omega⟩ = ⟨5152 + e.val, by omega⟩ :=
  (dif_neg (show ¬ 5120 + e.val < 4096 by omega)).trans (Fin.ext (by show 5120 + e.val + 32 = 5152 + e.val; omega))

theorem mergeRow_congr {mu mu' rs rs' : EReal} {x x' gi gi' bi bi' h h' lg lg' lb lb' : Fin 2048 → EReal} {a a'
    o o' za za' f f' zf zf' : Fin 1024 → EReal} {nw nw' : Fin 128 → EReal} {wg wg' : Fin 4096 → Fin 2048 →
    EReal} {bg bg' : Fin 4096 → EReal} {wa wa' wf wf' : Fin 1024 → Fin 2048 → EReal} {wo wo' : Fin 2048 → Fin
    2048 → EReal} (_ : mu = mu') (_ : rs = rs') (_ : x = x') (_ : gi = gi') (_ : bi = bi') (_ : h = h') (_ : a =
    a') (_ : o = o') (_ : za = za') (_ : nw = nw') (_ : f = f') (_ : zf = zf') (_ : wg = wg') (_ : bg = bg') (_
    : wa = wa') (_ : wf = wf') (_ : wo = wo') (_ : lg = lg') (_ : lb = lb') : mergeRow mu rs x gi bi h a o za nw
    f zf wg bg wa wf wo lg lb = mergeRow mu' rs' x' gi' bi' h' a' o' za' nw' f' zf' wg' bg' wa' wf' wo' lg' lb'
    := by subst_vars; rfl

/-- The third: the layer's rows. -/
theorem out_y : W3 m ρ c (Proc.devRef .tc main_v21) = fun i : S8192x2048.Idx =>
    yRow (sRow (m ((c : Thread nD τ).loc main_arg0)) (i 0)) (vec (m ((c : Thread nD τ).loc main_arg4))) (vec (m ((c : Thread nD τ).loc main_arg5))) (inCol (m ((c : Thread nD τ).loc main_arg6)))
      (rowOf (m ((c : Thread nD τ).loc main_arg1)) (i 0)) (rowOf (m ((c : Thread nD τ).loc main_arg2)) (i 0)) (rowOf (m ((c : Thread nD τ).loc main_arg3)) (i 0))
      (rowOf (m ((c : Thread nD τ).loc main_arg8)) 0) (rowOf (m ((c : Thread nD τ).loc main_arg7)) 0) (mat (m ((c : Thread nD τ).loc main_arg9))) (mat (m ((c : Thread nD τ).loc main_arg10))) (mat (m ((c : Thread nD τ).loc main_arg11))) (rowOf (m ((c : Thread nD τ).loc main_arg12)) 0) (rowOf (m ((c : Thread nD τ).loc main_arg13)) 0) (i 1) := by
  rw [W3_y, arr_y]
  funext i
  obtain ⟨a, b, rfl⟩ : ∃ (a : Fin 8192) (b : Fin 2048), i = ix2 a b := ⟨i 0, i 1, eq_ix2 i⟩
  exact congrFun (mergeRow_congr
    (congrFun (V2_ba m ρ c) (ix2 a 32)) (congrFun (V2_ba m ρ c) (ix2 a 33)) (xrow2 m ρ c a)
    (funext fun k => (congrFun (V2_g m ρ c) _).trans (host_g m ρ c k))
    (funext fun k => (congrFun (V2_b m ρ c) _).trans (host_b m ρ c k))
    (funext fun k => congrFun (V2_h m ρ c) (ix2 a k))
    (funext fun k => congrFun (V2_arg1 m ρ c) (ix2 a k)) (funext fun k => congrFun (V2_arg2 m ρ c) (ix2 a k))
    (funext fun k => (congrFun (V2_p m ρ c) (ix2 a ⟨3072 + k.val, by omega⟩)).trans
      (congrArg (fun j => dotp _ (inCol _ j)) (projCol_za k)))
    (funext fun k => (congrFun (V2_nw m ρ c) _).trans (host_nw m ρ c k))
    (funext fun k => congrFun (V2_arg3 m ρ c) (ix2 a k))
    (funext fun k => (congrFun (V2_p m ρ c) (ix2 a ⟨5120 + k.val, by omega⟩)).trans
      (congrArg (fun j => dotp _ (inCol _ j)) (projCol_zf k)))
    (funext fun q => wcol2 m ρ c _)
    (funext fun k => (congrFun (V2_bg m ρ c) _).trans (host_bg m ρ c k))
    (funext fun e => funext fun d => (congrFun (V2_wa m ρ c) _).trans (host_wa m ρ c e d))
    (funext fun e => funext fun d => (congrFun (V2_wf m ρ c) _).trans (host_wf m ρ c e d))
    (funext fun e => funext fun d => (congrFun (V2_wo m ρ c) _).trans (host_wo m ρ c e d))
    (funext fun k => (congrFun (V2_lg m ρ c) _).trans (host_lg m ρ c k))
    (funext fun k => (congrFun (V2_lb m ρ c) _).trans (host_lb m ρ c k))) b

end Cert.Kernel3Ideal.Layer

end
-- ==== Proof.SampleRef.lean ====
/- The reference's values at an index, stage by stage, as the rows of `Spec`, over four sequences. -/
module

public import proofs.«01_k».proof.Proof.SampleSpec
public import proofs.«01_k».proof.Proof.Gen.Reference3Ideal.Read
public import Idealize.ShloMosaic.Lib.Pointwise

@[expose] public section

set_option maxRecDepth 16384

noncomputable section

namespace Cert.Reference3Ideal.Layer

open Idealize.ShloMosaic Idealize.ShloMosaic.TcCoe Idealize.ShloMosaic.Tactic Idealize.SL.Sem
open Cert.Reference3Ideal Cert.Reference3Ideal.Read Cert.Layer

variable (x0 : (⟨S4x2048x2048, .f32⟩ : BufTy).Contents (Elt Ideal)) (x1 x2 x3 : (⟨S8192x1024, .bf16⟩ : BufTy).Contents (Elt Ideal))
  (x4 x5 : (⟨S2048, .f32⟩ : BufTy).Contents (Elt Ideal)) (x6 : (⟨S1x2048x10272, .f32⟩ : BufTy).Contents (Elt Ideal))
  (x7 : (⟨S1x4096, .f32⟩ : BufTy).Contents (Elt Ideal)) (x8 : (⟨S1x128, .f32⟩ : BufTy).Contents (Elt Ideal))
  (x9 x10 : (⟨S1x1024x2048, .f32⟩ : BufTy).Contents (Elt Ideal)) (x11 : (⟨S1x2048x2048, .f32⟩ : BufTy).Contents (Elt Ideal))
  (x12 x13 : (⟨S1x2048, .f32⟩ : BufTy).Contents (Elt Ideal))

/-- The first normalisation's mean and scale, as first computed. -/
theorem ref_mean (s : Fin 4) (t : Fin 2048) (z : Fin 1) : val_main_v3 (F := Ideal) x0 (ix3 s t z) = mean (atRow x0 s t) := by
  pointwise [val_main_v3, val_main_v2, val_main_v1, val_main_v0, val_main_cst, val_main_cst_0, mean, atRow]

theorem ref_rstd (s : Fin 4) (t : Fin 2048) (z : Fin 1) : val_main_v15 (F := Ideal) x0 (ix3 s t z) = rstd (atRow x0 s t) := by
  pointwise [val_main_v15, val_main_v14, val_main_v13, val_main_cst_3, val_main_v10, val_main_v9, val_main_cst_2,
    val_main_v8, val_main_v7, val_main_cst_1, val_main_v6, val_main_v5, val_main_v4, ref_mean, rstd, atRow]

theorem ref_h (s : Fin 4) (t : Fin 2048) (k : Fin 2048) :
    val_main_v23 (F := Ideal) x0 x4 x5 (ix3 s t k) = lnorm (atRow x0 s t) (vec x4) (vec x5) k := by
  pointwise [val_main_v23, val_main_v22, val_main_v21, val_main_v20, val_main_v19, val_main_v18, val_main_v17,
    val_main_v16, val_main_v12, val_main_v11, ref_mean, ref_rstd, lnorm, affine, atRow, vec]

theorem ref_proj (s : Fin 4) (t : Fin 2048) (j : Fin 10272) :
    val_main_v25 (F := Ideal) x0 x4 x5 x6 (ix3 s t j) = dotp (lnorm (atRow x0 s t) (vec x4) (vec x5)) (inCol x6 j) := by
  pointwise [val_main_v25, val_main_v24, ref_h, dotp, inCol]

/-- Both directions' sum, by head and lane. -/
theorem ref_heads (s : Fin 4) (t : Fin 2048) (hd : Fin 8) (l : Fin 128) : val_main_v29 (F := Ideal) x1 x2 (ix4 s t hd l)
    = rowOf x1 (rowAt s t) ⟨128 * hd.val + l.val, by omega⟩ + rowOf x2 (rowAt s t) ⟨128 * hd.val + l.val, by omega⟩ := by
  pointwise [val_main_v29, val_main_v28, val_main_v27, val_main_v26, rowOf]
  simp only [Nat.mul_comm]
  rfl

theorem ref_za (s : Fin 4) (t : Fin 2048) (hd : Fin 8) (l : Fin 128) : val_main_v45 (F := Ideal) x0 x4 x5 x6 (ix4 s t hd l)
    = dotp (lnorm (atRow x0 s t) (vec x4) (vec x5)) (inCol x6 ⟨3072 + (128 * hd.val + l.val), by omega⟩) := by
  pointwise [val_main_v45, val_main_v44, ref_proj]
  simp only [Nat.mul_comm]

theorem ref_ya (s : Fin 4) (t : Fin 2048) (e : Fin 1024) : val_main_v48 (F := Ideal) x0 x1 x2 x4 x5 x6 x8 (ix3 s t e)
    = heads (rowOf x1 (rowAt s t)) (rowOf x2 (rowAt s t))
        (fun e => dotp (lnorm (atRow x0 s t) (vec x4) (vec x5)) (inCol x6 ⟨3072 + e.val, by omega⟩)) (rowOf x8 0) e := by
  pointwise [val_main_v48, val_main_v47, val_main_v46, val_main_call0_v5, val_main_call0_v4, val_main_call0_v3,
    val_main_call0_v2, val_main_call0_v1, val_main_call0_v0,
    val_main_call0_cst, val_main_call0_cst_0, val_main_v43, val_main_v42, val_main_v41, val_main_v40, val_main_v39,
    val_main_v38, val_main_v37, val_main_v36, val_main_v35, val_main_cst_6, val_main_v34, val_main_v33, val_main_cst_5,
    val_main_v32, val_main_v31, val_main_cst_4, val_main_v30, ref_heads, ref_za, heads, silu]
  simp only [Nat.div_add_mod]
  rfl

theorem ref_yf (s : Fin 4) (t : Fin 2048) (e : Fin 1024) : val_main_v53 (F := Ideal) x0 x3 x4 x5 x6 (ix3 s t e)
    = fourier (rowOf x3 (rowAt s t)) (fun e => dotp (lnorm (atRow x0 s t) (vec x4) (vec x5)) (inCol x6 ⟨5152 + e.val, by omega⟩)) e := by
  pointwise [val_main_v53, val_main_v52, val_main_call1_v5, val_main_call1_v4, val_main_call1_v3, val_main_call1_v2,
    val_main_call1_v1, val_main_call1_v0, val_main_call1_cst, val_main_call1_cst_0, val_main_v51, val_main_v50,
    val_main_v49, ref_proj, fourier, silu, rowOf]
  rfl

theorem ref_gate (s : Fin 4) (t : Fin 2048) (q : Fin 4096) : val_main_v64 (F := Ideal) x0 x4 x5 x6 x7 (ix3 s t q)
    = Ideal.logistic (dotp (lnorm (atRow x0 s t) (vec x4) (vec x5)) (inCol x6 ⟨6176 + q.val, by omega⟩) + rowOf x7 0 q) := by
  pointwise [val_main_v64, val_main_v63, val_main_v62, val_main_v61, val_main_v60, val_main_v59, val_main_v58,
    val_main_v57, val_main_v56, val_main_v55, val_main_v54, val_main_cst_7, val_main_cst_8, ref_proj, rowOf]
  rfl

theorem ref_merged (s : Fin 4) (t : Fin 2048) (d : Fin 2048) :
    val_main_v73 (F := Ideal) x0 x1 x2 x3 x4 x5 x6 x7 x8 x9 x10 (ix3 s t d)
      = merged (lnorm (atRow x0 s t) (vec x4) (vec x5))
          (heads (rowOf x1 (rowAt s t)) (rowOf x2 (rowAt s t))
            (fun e => dotp (lnorm (atRow x0 s t) (vec x4) (vec x5)) (inCol x6 ⟨3072 + e.val, by omega⟩)) (rowOf x8 0))
          (fourier (rowOf x3 (rowAt s t)) (fun e => dotp (lnorm (atRow x0 s t) (vec x4) (vec x5)) (inCol x6 ⟨5152 + e.val, by omega⟩)))
          (fun q => inCol x6 ⟨6176 + q.val, by omega⟩) (rowOf x7 0) (mat x9) (mat x10) d := by
  pointwise [val_main_v73, val_main_v72, val_main_v71, val_main_v70, val_main_v69, val_main_v68, val_main_v67,
    val_main_v66, val_main_v65, ref_gate, ref_ya, ref_yf, merged, dotp, lo, hi, mat]

theorem ref_resid (s : Fin 4) (t : Fin 2048) (d : Fin 2048) :
    val_main_v78 (F := Ideal) x0 x1 x2 x3 x4 x5 x6 x7 x8 x9 x10 x11 (ix3 s t d)
      = resid (lnorm (atRow x0 s t) (vec x4) (vec x5)) (merged (lnorm (atRow x0 s t) (vec x4) (vec x5))
          (heads (rowOf x1 (rowAt s t)) (rowOf x2 (rowAt s t))
            (fun e => dotp (lnorm (atRow x0 s t) (vec x4) (vec x5)) (inCol x6 ⟨3072 + e.val, by omega⟩)) (rowOf x8 0))
          (fourier (rowOf x3 (rowAt s t)) (fun e => dotp (lnorm (atRow x0 s t) (vec x4) (vec x5)) (inCol x6 ⟨5152 + e.val, by omega⟩)))
          (fun q => inCol x6 ⟨6176 + q.val, by omega⟩) (rowOf x7 0) (mat x9) (mat x10)) (mat x11) d := by
  pointwise [val_main_v78, val_main_v77, val_main_v76, val_main_cst_9, val_main_v75, val_main_v74, ref_merged, ref_h,
    resid, dotp, mat]

/-- The output normalisation, over the residual rows. -/
theorem ref_last (s : Fin 4) (t : Fin 2048) (d : Fin 2048) :
    val_main_v104 (F := Ideal) x0 x1 x2 x3 x4 x5 x6 x7 x8 x9 x10 x11 x12 x13 (ix3 s t d)
      = lnorm (atRow (val_main_v78 (F := Ideal) x0 x1 x2 x3 x4 x5 x6 x7 x8 x9 x10 x11) s t) (rowOf x12 0) (rowOf x13 0) d := by
  pointwise [val_main_v104, val_main_v103, val_main_v102, val_main_v101, val_main_v100, val_main_v99, val_main_v98,
    val_main_v97, val_main_v96, val_main_v95, val_main_v94, val_main_cst_14, val_main_v93, val_main_v92, val_main_v91,
    val_main_v90, val_main_cst_13, val_main_v89, val_main_v88, val_main_cst_12, val_main_v87, val_main_v86,
    val_main_v85, val_main_v84, val_main_v83, val_main_cst_11, val_main_v82, val_main_v81, val_main_cst_10,
    val_main_v80, val_main_v79, lnorm, affine, mean, rstd, atRow, rowOf]

/-- The third result: the layer's rows. -/
theorem ref_y : val_main_v128 (F := Ideal) x0 x1 x2 x3 x4 x5 x6 x7 x8 x9 x10 x11 x12 x13 = fun i : S8192x2048.Idx =>
    yRow (sRow x0 (i 0)) (vec x4) (vec x5) (inCol x6) (rowOf x1 (i 0)) (rowOf x2 (i 0)) (rowOf x3 (i 0))
      (rowOf x8 0) (rowOf x7 0) (mat x9) (mat x10) (mat x11) (rowOf x12 0) (rowOf x13 0) (i 1) := by
  funext i
  obtain ⟨a, b, rfl⟩ : ∃ (a : Fin 8192) (b : Fin 2048), i = ix2 a b := ⟨i 0, i 1, eq_ix2 i⟩
  have key : val_main_v128 (F := Ideal) x0 x1 x2 x3 x4 x5 x6 x7 x8 x9 x10 x11 x12 x13 (ix2 a b)
      = val_main_v104 (F := Ideal) x0 x1 x2 x3 x4 x5 x6 x7 x8 x9 x10 x11 x12 x13 (ix3 (seqOf a) (placeOf a) b) := by
    pointwise [val_main_v128, seqOf, placeOf]
  rw [key, ref_last]
  have h := fun d => ref_resid x0 x1 x2 x3 x4 x5 x6 x7 x8 x9 x10 x11 (seqOf a) (placeOf a) d
  simp only [rowAt_of] at h
  exact congrFun (congrArg (fun r => lnorm r (rowOf x12 0) (rowOf x13 0)) (funext h)) b

/-- The same statistics once more, as the second result holds them. -/
theorem ref_mean2 (s : Fin 4) (t : Fin 2048) (z : Fin 1) : val_main_v111 (F := Ideal) x0 (ix3 s t z) = mean (atRow x0 s t) := by
  pointwise [val_main_v111, val_main_v110, val_main_cst_16, val_main_v109, val_main_v108, val_main_cst_15, mean, atRow]

theorem ref_rstd2 (s : Fin 4) (t : Fin 2048) (z : Fin 1) : val_main_v121 (F := Ideal) x0 (ix3 s t z) = rstd (atRow x0 s t) := by
  pointwise [val_main_v121, val_main_v120, val_main_v119, val_main_cst_19, val_main_v118, val_main_v117, val_main_cst_18,
    val_main_v116, val_main_v115, val_main_cst_17, val_main_v114, val_main_v113, val_main_v112, ref_mean2, rstd, atRow]

/-- The first result: every row's projections. -/
theorem ref_p : val_main_v126 (F := Ideal) x0 x4 x5 x6 = fun i : S8192x6144.Idx =>
    pRow (sRow x0 (i 0)) (vec x4) (vec x5) (inCol x6) (i 1) := by
  funext i
  obtain ⟨a, b, rfl⟩ : ∃ (a : Fin 8192) (b : Fin 6144), i = ix2 a b := ⟨i 0, i 1, eq_ix2 i⟩
  have key : val_main_v126 (F := Ideal) x0 x4 x5 x6 (ix2 a b)
      = val_main_v107 (F := Ideal) x0 x4 x5 x6 (ix3 (seqOf a) (placeOf a) b) := by
    pointwise [val_main_v126, val_main_v125, seqOf, placeOf]
  rw [key]
  pointwise [val_main_v107, val_main_v106, val_main_v105, ref_proj, pRow, projCol, sRow]
  by_cases h : b.val < 4096
  · simp only [dif_pos h]
  · simp only [dif_neg h]
    exact congrArg (fun j => dotp _ (inCol x6 j)) (Fin.ext (by dsimp only; omega))

/-- The second: the logits and the row statistics. -/
theorem ref_ba : val_main_v127 (F := Ideal) x0 x4 x5 x6 = fun i : S8192x128.Idx =>
    baRow (sRow x0 (i 0)) (vec x4) (vec x5) (inCol x6) (i 1) := by
  funext i
  obtain ⟨a, b, rfl⟩ : ∃ (a : Fin 8192) (b : Fin 128), i = ix2 a b := ⟨i 0, i 1, eq_ix2 i⟩
  have key : val_main_v127 (F := Ideal) x0 x4 x5 x6 (ix2 a b)
      = val_main_v124 (F := Ideal) x0 x4 x5 x6 (ix3 (seqOf a) (placeOf a) b) := by
    pointwise [val_main_v127, seqOf, placeOf]
  rw [key]
  pointwise [val_main_v124, val_main_v123, val_main_cst_20, val_main_v122, ref_proj, ref_mean2, ref_rstd2,
    baRow, stats, sRow]
  by_cases h : b.val < 32
  · simp only [dif_pos h]
  · simp only [dif_neg h]
    split_ifs <;> first | rfl | omega

end Cert.Reference3Ideal.Layer

end
-- ==== Proof.Fourier.lean ====
/-
  The Fourier mixing's arithmetic as plain functions: the cosine and sine tables on whole numbers, their period, the
  transform over a group of 256 channels and the one over 2064 rows, sixteen of them the meta rows.
-/
module

public import Idealize.ShloMosaic.Lib.Pointwise
public import Idealize.ShloMosaic.Lib.Affine
public import Idealize.ShloMosaic.Lib.WordArith
public import Mathlib.Analysis.SpecialFunctions.Trigonometric.Inverse

@[expose] public section

noncomputable section

namespace Cert.Fourier

open Idealize.ShloMosaic

/-- The angle of `a` steps of `n` to the whole turn, and its cosine and sine. -/
def turn (n a : ℕ) : ℝ := 2 * Real.pi * (a : ℝ) / (n : ℝ)
def cosT (n a : ℕ) : EReal := ((Real.cos (turn n a) : ℝ) : EReal)
def sinT (n a : ℕ) : EReal := ((Real.sin (turn n a) : ℝ) : EReal)

/-- Whole turns do not count. -/
theorem turn_mod (n a : ℕ) (hn : n ≠ 0) : turn n a = turn n (a % n) + ((a / n : ℕ) : ℝ) * (2 * Real.pi) := by
  have h : ((a : ℕ) : ℝ) = ((a % n : ℕ) : ℝ) + ((n : ℕ) : ℝ) * ((a / n : ℕ) : ℝ) := by
    exact_mod_cast (Nat.mod_add_div a n).symm
  have hn' : ((n : ℕ) : ℝ) ≠ 0 := by exact_mod_cast hn
  unfold turn
  rw [h]
  field_simp

theorem cosT_mod (n a : ℕ) (hn : n ≠ 0) : cosT n (a % n) = cosT n a := by
  unfold cosT
  rw [turn_mod n a hn, Real.cos_add_nat_mul_two_pi]

theorem sinT_mod (n a : ℕ) (hn : n ≠ 0) : sinT n (a % n) = sinT n a := by
  unfold sinT
  rw [turn_mod n a hn, Real.sin_add_nat_mul_two_pi]

/-- The constants the tables are built with. -/
theorem const_two : Ideal.ofBits .f32 0x40000000#32 = ((2 : ℝ) : EReal) := by
  simp [Ideal.ofBits, Ideal.ieee, -EReal.coe_mul]; norm_num
theorem const_neg_one : Ideal.ofBits .f32 0xBF800000#32 = ((-1 : ℝ) : EReal) := by
  simp [Ideal.ofBits, Ideal.ieee, -EReal.coe_mul]; norm_num
theorem const_256 : Ideal.ofBits .f32 0x43800000#32 = (((256 : ℕ) : ℝ) : EReal) := by
  simp [Ideal.ofBits, Ideal.ieee, -EReal.coe_mul]; norm_num
theorem const_2064 : Ideal.ofBits .f32 0x45010000#32 = (((2064 : ℕ) : ℝ) : EReal) := by
  simp [Ideal.ofBits, Ideal.ieee, -EReal.coe_mul]; norm_num
theorem const_528384 : Ideal.ofBits .f32 0x49010000#32 = ((528384 : ℝ) : EReal) := by
  simp [Ideal.ofBits, Ideal.ieee, -EReal.coe_mul]; norm_num

theorem const_top : Ideal.ofBits .f32 0x7F800000#32 = ⊤ := by simp [Ideal.ofBits, Ideal.ieee]

/-- The angle as both programs compute it, twice the arc cosine of -1 times a word over `n`. -/
theorem angle (n a : ℕ) (hn : n ≠ 0) (w : BitVec 32) (hw : w = BitVec.ofNat 32 a) (ha : a < 2 ^ 31) :
    Ideal.div (Ideal.ofBits .f32 0x40000000#32 * Ideal.acos (Ideal.ofBits .f32 0xBF800000#32) * ((w.toInt : ℝ) : EReal))
      (((n : ℕ) : ℝ) : EReal) = ((turn n a : ℝ) : EReal) := by
  subst hw
  have hn' : ((n : ℕ) : ℝ) ≠ 0 := by exact_mod_cast hn
  rw [const_two, const_neg_one, Ideal.acos_coe, if_pos ⟨le_refl _, by norm_num⟩, Real.arccos_neg_one, WordArith.toInt_ofNat_small a ha,
    Ideal.div_coe hn', ← EReal.coe_mul, ← EReal.coe_mul, ← EReal.coe_mul]
  congr 1
  unfold turn
  push_cast
  ring

/-- The remainder of a word that is a number below 2^31. -/
theorem rem_word (u : ArithUnit) (a n : ℕ) (ha : a < 2 ^ 31) (h0 : 0 < n) (hn : n < 2 ^ 31) :
    IntOp.remsi u (BitVec.ofNat 32 a) (BitVec.ofNat 32 n) = BitVec.ofNat 32 (a % n) := by
  apply BitVec.eq_of_toNat_eq
  have e : (BitVec.ofNat 32 a).toNat = a := by rw [BitVec.toNat_ofNat]; omega
  have := Nat.mod_lt a h0
  rw [IntOp.toNat_remsi u (by rw [e]; omega) n h0 (by omega), e, BitVec.toNat_ofNat]
  omega

/-- One output of the transform over a group of 256 channels: channel `e` of a row `f`, by table `T`. -/
def chan (T : ℕ → ℕ → EReal) (f : Fin 1024 → EReal) (e : Fin 1024) : EReal :=
  ∑ k : Fin 256, f ⟨256 * (e.val / 256) + k.val, by omega⟩ * T 256 (k.val * (e.val % 256))

/-- Frequency `q` of the transform over the 2048 token rows and of the one over the 16 meta rows. -/
def overTok (T : ℕ → ℕ → EReal) (q : ℕ) (a : Fin 2048 → EReal) : EReal := ∑ t : Fin 2048, T 2064 (q * (t.val + 16)) * a t
def overMeta (T : ℕ → ℕ → EReal) (q : ℕ) (a : Fin 16 → EReal) : EReal := ∑ j : Fin 16, T 2064 (q * j.val) * a j

/-- The real part, in the kernel's order, scaled. -/
def mix (q : ℕ) (a b : Fin 2048 → EReal) (am bm : Fin 16 → EReal) : EReal :=
  (((overTok cosT q a - overTok sinT q b) + overMeta cosT q am) - overMeta sinT q bm) * (((Real.sqrt 528384)⁻¹ : ℝ) : EReal)

/-- A finite number. -/
def Finite (x : EReal) : Prop := ∃ r : ℝ, x = (r : EReal)

theorem Finite.mul {x y : EReal} : Finite x → Finite y → Finite (x * y) := by
  rintro ⟨r, rfl⟩ ⟨s, rfl⟩
  exact ⟨r * s, (EReal.coe_mul r s).symm⟩

theorem Finite.sum {n : ℕ} (f : Fin n → EReal) (h : ∀ i, Finite (f i)) : Finite (∑ i, f i) :=
  Finset.sum_induction f Finite (by rintro x y ⟨r, rfl⟩ ⟨s, rfl⟩; exact ⟨r + s, (EReal.coe_add r s).symm⟩)
    ⟨0, rfl⟩ fun i _ => h i

theorem finite_sinT (n a : ℕ) : Finite (sinT n a) := ⟨_, rfl⟩

theorem finite_of_abs_lt_top {x : EReal} (h : max x (-x) < ⊤) : Finite x := by
  induction x with
  | bot => simp at h
  | coe r => exact ⟨r, rfl⟩
  | top => simp at h

theorem finite_chan (f : Fin 1024 → EReal) (e : Fin 1024) (h : ∀ k, Finite (f k)) : Finite (chan sinT f e) :=
  Finite.sum _ fun _ => (h _).mul (finite_sinT _ _)

theorem finite_overMeta (q : ℕ) (b : Fin 16 → EReal) (h : ∀ j, Finite (b j)) : Finite (overMeta sinT q b) :=
  Finite.sum _ fun j => (finite_sinT _ _).mul (h j)

/-- The real part as the difference of the two transforms over all rows, divided by the root: the same, the meta rows'
    sine part being finite. -/
theorem mix_eq (q : ℕ) (a b : Fin 2048 → EReal) (am bm : Fin 16 → EReal) (h : Finite (overMeta sinT q bm)) :
    Ideal.div ((overMeta cosT q am + overTok cosT q a) - (overMeta sinT q bm + overTok sinT q b))
      (Ideal.sqrt (Ideal.ofBits .f32 0x49010000#32)) = mix q a b am bm := by
  obtain ⟨v, hv⟩ := h
  unfold mix
  rw [const_528384, Ideal.sqrt_coe, if_neg (by norm_num), Ideal.div_coe (Real.sqrt_pos.mpr (by norm_num)).ne', one_div, hv]
  congr 1
  rw [sub_eq_add_neg, EReal.neg_add (Or.inl (EReal.coe_ne_bot v)) (Or.inl (EReal.coe_ne_top v))]
  simp only [sub_eq_add_neg]
  ac_rfl

/-- The 1024 Fourier channels of a token row and of a meta row; the sample of a row and its place there; row `t` of sample
    `b`. -/
def tokRow (x : (⟨2, ![8192, 6144]⟩ : Shape).Idx → EReal) (i : Fin 8192) : Fin 1024 → EReal := fun e =>
  x (ix2 i ⟨4096 + e.val, by omega⟩)
def metaRow (x : (⟨2, ![16, 6144]⟩ : Shape).Idx → EReal) (j : Fin 16) : Fin 1024 → EReal := fun e =>
  x (ix2 j ⟨4096 + e.val, by omega⟩)
def sampOf (i : Fin 8192) : Fin 4 := ⟨i.val / 2048, by omega⟩
def posOf (i : Fin 8192) : Fin 2048 := ⟨i.val % 2048, by omega⟩
def rowIx (b : Fin 4) (t : Fin 2048) : Fin 8192 := ⟨2048 * b.val + t.val, by omega⟩

/-- Row `k` of sample `b` of the result, channel `e`. -/
def rowOut (x0 : (⟨2, ![8192, 6144]⟩ : Shape).Idx → EReal) (x1 : (⟨2, ![16, 6144]⟩ : Shape).Idx → EReal) (b : Fin 4)
    (k : Fin 2048) (e : Fin 1024) : EReal :=
  mix (k.val + 16) (fun t => chan cosT (tokRow x0 (rowIx b t)) e) (fun t => chan sinT (tokRow x0 (rowIx b t)) e)
    (fun j => chan cosT (metaRow x1 j) e) (fun j => chan sinT (metaRow x1 j) e)

/-- The whole result. -/
def out (x0 : (⟨2, ![8192, 6144]⟩ : Shape).Idx → EReal) (x1 : (⟨2, ![16, 6144]⟩ : Shape).Idx → EReal) :
    (⟨2, ![8192, 1024]⟩ : Shape).Idx → EReal := fun i =>
  rowOut x0 x1 (sampOf (i 0)) (posOf (i 0)) (i 1)

/-- A sum over all 2064 rows: the meta rows first. -/
theorem sum_rows (f : Fin 2064 → EReal) :
    ∑ t, f t = (∑ j : Fin 16, f ⟨j.val, by omega⟩) + ∑ t : Fin 2048, f ⟨t.val + 16, by omega⟩ := by
  refine (Fin.sum_univ_add (a := 16) (b := 2048) f).trans (congrArg₂ (· + ·) rfl ?_)
  exact Finset.sum_congr rfl fun t _ => congrArg f (Fin.ext (Nat.add_comm 16 t.val))

end Cert.Fourier

end
-- ==== Proof.Block2.lean ====
/-
  The Fourier calls' output blocks at an index: the channel transforms' two parts, the rows' mixing.
-/
module

public import proofs.«01_k».proof.Proof.Gen.Kernel2Ideal.Frame
public import proofs.«01_k».proof.Proof.Fourier
public import Idealize.ShloMosaic.Lib.Pipeline.ValueKit
public import Idealize.ShloMosaic.Lib.Pipeline.ReadBack

@[expose] public section

set_option maxRecDepth 16384

noncomputable section

namespace Cert.Kernel2Ideal.Fourier

open Idealize.ShloMosaic Idealize.ShloMosaic.TcCoe Idealize.ShloMosaic.Tactic Idealize.SL.Sem
open Cert.Kernel2Ideal Cert.Kernel2Ideal.Gen Cert.Fourier

/-- A group of 256 columns times columns `o`, `o + 1`, … of the table. -/
def part {n : ℕ} (x0 : (⟨2, ![n, 1024]⟩ : Shape).Idx → EReal) (x1 : (⟨2, ![256, 512]⟩ : Shape).Idx → EReal) (o : ℕ)
    (ho : o ≤ 256) (r : Fin n) (e : Fin 1024) : EReal :=
  ∑ k : Fin 256, x0 (ix2 r ⟨256 * (e.val / 256) + k.val, by omega⟩) * x1 (ix2 k ⟨o + e.val % 256, by omega⟩)

theorem part_group {n : ℕ} (x0 : (⟨2, ![n, 1024]⟩ : Shape).Idx → EReal) (x1 : (⟨2, ![256, 512]⟩ : Shape).Idx → EReal)
    (o : ℕ) (ho : o ≤ 256) (r : Fin n) (e : Fin 1024) (g : ℕ) (hg : g < 4) (l : Fin 256) (h : e.val = 256 * g + l.val) :
    part x0 x1 o ho r e
      = ∑ k : Fin 256, x0 (ix2 r ⟨256 * g + k.val, by omega⟩) * x1 (ix2 k ⟨o + l.val, by omega⟩) := by
  have hd : e.val / 256 = g := by omega
  have hm : e.val % 256 = l.val := by omega
  unfold part
  simp only [hd, hm]

theorem out0_2_at (x0 : Vec Ideal S16x1024 .bf16) (x1 : Vec Ideal S256x512 .bf16) (r : Fin 16) (e : Fin 1024) :
    out0_2 x0 x1 (ix2 r e) = part x0 x1 0 (by omega) r e := by
  unfold_out out0_2
  canon_tiles x h
  all_goals
    idx_vars x
    obtain rfl := Fin.ext h0
  case piece0 => rw [part_group _ _ _ _ _ e 3 (by omega) x1 h1]; unfold_payloads; pointwise
  case piece1 => rw [part_group _ _ _ _ _ e 2 (by omega) x1 h1]; unfold_payloads; pointwise
  case piece2 => rw [part_group _ _ _ _ _ e 1 (by omega) x1 h1]; unfold_payloads; pointwise
  case piece3 => rw [part_group _ _ _ _ _ e 0 (by omega) x1 (by omega)]; unfold_payloads; pointwise

theorem out0_3_at (x0 : Vec Ideal S16x1024 .bf16) (x1 : Vec Ideal S256x512 .bf16) (r : Fin 16) (e : Fin 1024) :
    out0_3 x0 x1 (ix2 r e) = part x0 x1 256 (by omega) r e := by
  unfold_out out0_3
  canon_tiles x h
  all_goals
    idx_vars x
    obtain rfl := Fin.ext h0
  case piece0 => rw [part_group _ _ _ _ _ e 3 (by omega) x1 h1]; unfold_payloads; pointwise
  case piece1 => rw [part_group _ _ _ _ _ e 2 (by omega) x1 h1]; unfold_payloads; pointwise
  case piece2 => rw [part_group _ _ _ _ _ e 1 (by omega) x1 h1]; unfold_payloads; pointwise
  case piece3 => rw [part_group _ _ _ _ _ e 0 (by omega) x1 (by omega)]; unfold_payloads; pointwise

theorem out1_2_at (x0 : Vec Ideal S1024x1024 .bf16) (x1 : Vec Ideal S256x512 .bf16) (r : Fin 1024) (e : Fin 1024) :
    out1_2 x0 x1 (ix2 r e) = part x0 x1 0 (by omega) r e := by
  unfold_out out1_2
  canon_tiles x h
  all_goals
    idx_vars x
    obtain rfl := Fin.ext h0
  case piece0 => rw [part_group _ _ _ _ _ e 3 (by omega) x1 h1]; unfold_payloads; pointwise
  case piece1 => rw [part_group _ _ _ _ _ e 2 (by omega) x1 h1]; unfold_payloads; pointwise
  case piece2 => rw [part_group _ _ _ _ _ e 1 (by omega) x1 h1]; unfold_payloads; pointwise
  case piece3 => rw [part_group _ _ _ _ _ e 0 (by omega) x1 (by omega)]; unfold_payloads; pointwise

theorem out1_3_at (x0 : Vec Ideal S1024x1024 .bf16) (x1 : Vec Ideal S256x512 .bf16) (r : Fin 1024) (e : Fin 1024) :
    out1_3 x0 x1 (ix2 r e) = part x0 x1 256 (by omega) r e := by
  unfold_out out1_3
  canon_tiles x h
  all_goals
    idx_vars x
    obtain rfl := Fin.ext h0
  case piece0 => rw [part_group _ _ _ _ _ e 3 (by omega) x1 h1]; unfold_payloads; pointwise
  case piece1 => rw [part_group _ _ _ _ _ e 2 (by omega) x1 h1]; unfold_payloads; pointwise
  case piece2 => rw [part_group _ _ _ _ _ e 1 (by omega) x1 h1]; unfold_payloads; pointwise
  case piece3 => rw [part_group _ _ _ _ _ e 0 (by omega) x1 (by omega)]; unfold_payloads; pointwise

/-- The named scale is one over the root of 2064 times 256. -/
theorem ortho_val : Named.named (F := Ideal) Cert.Kernel2Ideal.κ "ortho" (φ := .f32) 0x3AB450FC#32
    = (((Real.sqrt 528384)⁻¹ : ℝ) : EReal) :=
  IdealRules.named_const.ideal_named_scalar _ _ _ _ rfl

/-- The mixing block from the six blocks it reads. -/
theorem out2_8_at (x0 x1 : Vec Ideal S2048x1024 .bf16) (x2 x3 : Vec Ideal S16x1024 .bf16) (x4 x5 : Vec Ideal S512x2048 .bf16)
    (x6 x7 : Vec Ideal S512x16 .bf16) (r : Fin 512) (e : Fin 1024) :
    out2_8 x0 x1 x2 x3 x4 x5 x6 x7 (ix2 r e)
      = ((((∑ t : Fin 2048, x4 (ix2 r t) * x0 (ix2 t e)) - ∑ t : Fin 2048, x5 (ix2 r t) * x1 (ix2 t e))
          + ∑ j : Fin 16, x6 (ix2 r j) * x2 (ix2 j e)) - ∑ j : Fin 16, x7 (ix2 r j) * x3 (ix2 j e))
        * (((Real.sqrt 528384)⁻¹ : ℝ) : EReal) := by
  canon_tiles x h
  idx_vars x
  obtain rfl := Fin.ext h0
  obtain rfl := Fin.ext h1
  unfold_payloads
  pointwise [ortho_val]

end Cert.Kernel2Ideal.Fourier

end
-- ==== Proof.Arrays2.lean ====
/-
  The Fourier calls' result arrays, as functions of the arrays they read: what the windows hold at a
  grid point, and what the blocks written there make up.
-/
module

public import proofs.«01_k».proof.Proof.Block2

@[expose] public section

set_option maxRecDepth 16384

noncomputable section

namespace Cert.Kernel2Ideal.Fourier

open Idealize.ShloMosaic Idealize.ShloMosaic.TcCoe Idealize.ShloMosaic.Tactic Idealize.SL.Sem
open Cert.Kernel2Ideal Cert.Kernel2Ideal.Gen Cert.Fourier

variable (V : (c : Dev nD) → (b : Ref sig .tc) → Buf (Elt Ideal) ((c : Thread nD τ).loc b)) (c : Dev nD)

theorem idx0 : ∀ t : Fin grid0.N, win0_0.index t = ![0, 4] ∧ win0_1.index t = ![0, 0] ∧ win0_2.index t = ![0, 0]
    ∧ win0_3.index t = ![0, 0] := by
  decide +kernel

theorem idx1 : ∀ t : Fin grid1.N, win1_0.index t = ![t.val, 4] ∧ win1_1.index t = ![0, 0] ∧ win1_2.index t = ![t.val, 0]
    ∧ win1_3.index t = ![t.val, 0] := by
  decide +kernel

theorem idx2 : ∀ t : Fin grid2.N, win2_0.index t = ![t.val / 4, 0] ∧ win2_1.index t = ![t.val / 4, 0]
    ∧ win2_2.index t = ![0, 0] ∧ win2_3.index t = ![0, 0] ∧ win2_4.index t = ![t.val % 4, 0]
    ∧ win2_5.index t = ![t.val % 4, 0] ∧ win2_6.index t = ![t.val % 4, 0] ∧ win2_7.index t = ![t.val % 4, 0]
    ∧ win2_8.index t = ![t.val, 0] := by
  decide +kernel

/-- Row `r` of grid point `t`: of the token rows' channel transform, of the mixing's result. -/
abbrev row1 (t : Fin cfg1.N) (r : Fin 1024) : Fin 8192 :=
  ⟨t.val * 1024 + r.val, by have := t.isLt; have : cfg1.N = 8 := rfl; omega⟩
abbrev row2 (t : Fin cfg2.N) (r : Fin 512) : Fin 8192 :=
  ⟨t.val * 512 + r.val, by have := t.isLt; have : cfg2.N = 16 := rfl; omega⟩

/-- The sample grid point `t` lies in, and row `r` of it among the sample's. -/
abbrev samp2 (t : Fin cfg2.N) : Fin 4 := ⟨t.val / 4, by have := t.isLt; have : cfg2.N = 16 := rfl; omega⟩
abbrev freq2 (t : Fin cfg2.N) (r : Fin 512) : Fin 2048 := ⟨t.val % 4 * 512 + r.val, by omega⟩

theorem read0_0 (t : Fin cfg0.N) (r : Fin 16) (k : Fin 1024) :
    iblk0 V c 0 t (ix2 r k) = V c main_arg1 (ix2 r ⟨4096 + k.val, by omega⟩) := by
  blk_ext [iblk0, idx0 t]

theorem read0_1 (t : Fin cfg0.N) (r : Fin 256) (k : Fin 512) : iblk0 V c 1 t (ix2 r k) = V c main_v18 (ix2 r k) := by
  blk_ext [iblk0, idx0 t]

theorem read1_0 (t : Fin cfg1.N) (r : Fin 1024) (k : Fin 1024) :
    iblk1 V c 0 t (ix2 r k) = V c main_arg0 (ix2 (row1 t r) ⟨4096 + k.val, by omega⟩) := by
  blk_ext [iblk1, idx1 t]

theorem read1_1 (t : Fin cfg1.N) (r : Fin 256) (k : Fin 512) : iblk1 V c 1 t (ix2 r k) = V c main_v18 (ix2 r k) := by
  blk_ext [iblk1, idx1 t]

theorem read2_0 (t : Fin cfg2.N) (r : Fin 2048) (k : Fin 1024) :
    iblk2 V c 0 t (ix2 r k) = V c main_v20_0 (ix2 (rowIx (samp2 t) r) k) := by
  unfold rowIx
  simp only [Nat.mul_comm 2048]
  blk_ext [iblk2, idx2 t]

theorem read2_1 (t : Fin cfg2.N) (r : Fin 2048) (k : Fin 1024) :
    iblk2 V c 1 t (ix2 r k) = V c main_v20_1 (ix2 (rowIx (samp2 t) r) k) := by
  unfold rowIx
  simp only [Nat.mul_comm 2048]
  blk_ext [iblk2, idx2 t]

theorem read2_2 (t : Fin cfg2.N) (r : Fin 16) (k : Fin 1024) : iblk2 V c 2 t (ix2 r k) = V c main_v19_0 (ix2 r k) := by
  blk_ext [iblk2, idx2 t]

theorem read2_3 (t : Fin cfg2.N) (r : Fin 16) (k : Fin 1024) : iblk2 V c 3 t (ix2 r k) = V c main_v19_1 (ix2 r k) := by
  blk_ext [iblk2, idx2 t]

theorem read2_4 (t : Fin cfg2.N) (r : Fin 512) (k : Fin 2048) :
    iblk2 V c 4 t (ix2 r k) = V c main_v59 (ix2 (freq2 t r) k) := by
  blk_ext [iblk2, idx2 t]

theorem read2_5 (t : Fin cfg2.N) (r : Fin 512) (k : Fin 2048) :
    iblk2 V c 5 t (ix2 r k) = V c main_v60 (ix2 (freq2 t r) k) := by
  blk_ext [iblk2, idx2 t]

theorem read2_6 (t : Fin cfg2.N) (r : Fin 512) (k : Fin 16) :
    iblk2 V c 6 t (ix2 r k) = V c main_v61 (ix2 (freq2 t r) k) := by
  blk_ext [iblk2, idx2 t]

theorem read2_7 (t : Fin cfg2.N) (r : Fin 512) (k : Fin 16) :
    iblk2 V c 7 t (ix2 r k) = V c main_v62 (ix2 (freq2 t r) k) := by
  blk_ext [iblk2, idx2 t]

/-- A row `f` by columns `o`, `o + 1`, … of the channel table, channel `e`. -/
def byTable (f : Fin 1024 → EReal) (o : ℕ) (ho : o ≤ 256) (e : Fin 1024) : EReal :=
  ∑ k : Fin 256, f ⟨256 * (e.val / 256) + k.val, by omega⟩ * V c main_v18 (ix2 k ⟨o + e.val % 256, by omega⟩)

theorem part0 (t : Fin cfg0.N) (o : ℕ) (ho : o ≤ 256) (r : Fin 16) (e : Fin 1024) :
    part (iblk0 V c 0 t) (iblk0 V c 1 t) o ho r e = byTable V c (metaRow (V c main_arg1) r) o ho e := by
  unfold part byTable metaRow
  exact Finset.sum_congr rfl fun k _ => congrArg₂ (· * ·) (read0_0 V c t r _) (read0_1 V c t k _)

theorem part1 (t : Fin cfg1.N) (o : ℕ) (ho : o ≤ 256) (r : Fin 1024) (e : Fin 1024) :
    part (iblk1 V c 0 t) (iblk1 V c 1 t) o ho r e = byTable V c (tokRow (V c main_arg0) (row1 t r)) o ho e := by
  unfold part byTable tokRow
  exact Finset.sum_congr rfl fun k _ => congrArg₂ (· * ·) (read1_0 V c t r _) (read1_1 V c t k _)

theorem arr_am : (dat0 V c).arrAt 2 cfg0.N
    = fun i : S16x1024.Idx => byTable V c (metaRow (V c main_arg1) (i 0)) 0 (by omega) (i 1) := by
  refine (dat0 V c).arrAt_eq_of_covers 2 _ (by decide +kernel) fun t hf y => ?_
  blk_simp
  rw [after0_2]
  obtain ⟨r, e, rfl⟩ : ∃ (r : Fin 16) (e : Fin 1024), y = ix2 r e := ⟨y 0, y 1, eq_ix2 y⟩
  have h : (win0_2.blk t).view.emb (ix2 r e) = ix2 r e := by blk_ext [idx0 t]
  rw [out0_2_at, part0, h]
  rfl

theorem arr_bm : (dat0 V c).arrAt 3 cfg0.N
    = fun i : S16x1024.Idx => byTable V c (metaRow (V c main_arg1) (i 0)) 256 (by omega) (i 1) := by
  refine (dat0 V c).arrAt_eq_of_covers 3 _ (by decide +kernel) fun t hf y => ?_
  blk_simp
  rw [after0_3]
  obtain ⟨r, e, rfl⟩ : ∃ (r : Fin 16) (e : Fin 1024), y = ix2 r e := ⟨y 0, y 1, eq_ix2 y⟩
  have h : (win0_3.blk t).view.emb (ix2 r e) = ix2 r e := by blk_ext [idx0 t]
  rw [out0_3_at, part0, h]
  rfl

theorem arr_a : (dat1 V c).arrAt 2 cfg1.N
    = fun i : S8192x1024.Idx => byTable V c (tokRow (V c main_arg0) (i 0)) 0 (by omega) (i 1) := by
  refine (dat1 V c).arrAt_eq_of_covers 2 _ (by decide +kernel) fun t hf y => ?_
  blk_simp
  rw [after1_2]
  obtain ⟨r, e, rfl⟩ : ∃ (r : Fin 1024) (e : Fin 1024), y = ix2 r e := ⟨y 0, y 1, eq_ix2 y⟩
  have h : (win1_2.blk t).view.emb (ix2 r e) = ix2 (row1 t r) e := by blk_ext [idx1 t]
  rw [out1_2_at, part1, h]
  rfl

theorem arr_b : (dat1 V c).arrAt 3 cfg1.N
    = fun i : S8192x1024.Idx => byTable V c (tokRow (V c main_arg0) (i 0)) 256 (by omega) (i 1) := by
  refine (dat1 V c).arrAt_eq_of_covers 3 _ (by decide +kernel) fun t hf y => ?_
  blk_simp
  rw [after1_3]
  obtain ⟨r, e, rfl⟩ : ∃ (r : Fin 1024) (e : Fin 1024), y = ix2 r e := ⟨y 0, y 1, eq_ix2 y⟩
  have h : (win1_3.blk t).view.emb (ix2 r e) = ix2 (row1 t r) e := by blk_ext [idx1 t]
  rw [out1_3_at, part1, h]
  rfl

/-- Row `k` of sample `b` of the mixing, channel `e`, by the arrays the third call reads. -/
def mixedOf (a b : S8192x1024.Idx → EReal) (am bm : S16x1024.Idx → EReal) (cx sx : S2048x2048.Idx → EReal)
    (cm sm : S2048x16.Idx → EReal) (n : Fin 4) (k : Fin 2048) (e : Fin 1024) : EReal :=
  ((((∑ t : Fin 2048, cx (ix2 k t) * a (ix2 (rowIx n t) e)) - ∑ t : Fin 2048, sx (ix2 k t) * b (ix2 (rowIx n t) e))
      + ∑ j : Fin 16, cm (ix2 k j) * am (ix2 j e)) - ∑ j : Fin 16, sm (ix2 k j) * bm (ix2 j e))
    * (((Real.sqrt 528384)⁻¹ : ℝ) : EReal)

def mixed (n : Fin 4) (k : Fin 2048) (e : Fin 1024) : EReal :=
  mixedOf (V c main_v20_0) (V c main_v20_1) (V c main_v19_0) (V c main_v19_1) (V c main_v59) (V c main_v60)
    (V c main_v61) (V c main_v62) n k e

theorem arr_y : (dat2 V c).arrAt 8 cfg2.N = fun i : S8192x1024.Idx =>
    mixed V c (sampOf (i 0)) (posOf (i 0)) (i 1) := by
  refine (dat2 V c).arrAt_eq_of_covers 8 _ (by decide +kernel) fun t hf y => ?_
  blk_simp
  rw [after2_8]
  obtain ⟨r, e, rfl⟩ : ∃ (r : Fin 512) (e : Fin 1024), y = ix2 r e := ⟨y 0, y 1, eq_ix2 y⟩
  have h : (win2_8.blk t).view.emb (ix2 r e) = ix2 (row2 t r) e := by blk_ext [idx2 t]
  have hb : samp2 t = sampOf (row2 t r) :=
    Fin.ext (show t.val / 4 = (t.val * 512 + r.val) / 2048 by omega)
  have hk : freq2 t r = posOf (row2 t r) :=
    Fin.ext (show t.val % 4 * 512 + r.val = (t.val * 512 + r.val) % 2048 by omega)
  rw [out2_8_at, h]
  simp only [read2_0, read2_1, read2_2, read2_3, read2_4, read2_5, read2_6, read2_7]
  exact congrArg₂ (fun b k => mixed V c b k e) hb hk

end Cert.Kernel2Ideal.Fourier

end
-- ==== Proof.Run2.lean ====
/-
  The whole run of the three Fourier calls, with what every buffer holds at its end.

  The generated frame says that the arguments end as they began. Its proof knows more: at the end every
  buffer holds what the last boundary's contents say. Here the same launch is read for the result as
  well.
-/
module

public import proofs.«01_k».proof.Proof.Gen.Kernel2Ideal.Frame

@[expose] public section

noncomputable section

namespace Cert.Kernel2Ideal.Fourier

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and at its end every buffer that outlives the launch holds what the fold through
    the program says (`W5`). -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The result is what the third call leaves. -/
theorem W5_y (c : Dev nD) : W5 m ρ c (Proc.devRef .tc main_v63) = (dat2 (V4 m ρ) c).arrAt 8 cfg2.N :=
  W5_arr m ρ c 8

/-- The third call reads the channel transforms as the first two calls leave them. -/
theorem V4_a (c : Dev nD) : V4 m ρ c main_v20_0 = (dat1 (V2 m ρ) c).arrAt 2 cfg1.N :=
  (W4_of m ρ c main_v20_0 (by decide +kernel)).trans (W3_arr m ρ c 2)
theorem V4_b (c : Dev nD) : V4 m ρ c main_v20_1 = (dat1 (V2 m ρ) c).arrAt 3 cfg1.N :=
  (W4_of m ρ c main_v20_1 (by decide +kernel)).trans (W3_arr m ρ c 3)
theorem V4_am (c : Dev nD) : V4 m ρ c main_v19_0 = (dat0 (V1 m ρ) c).arrAt 2 cfg0.N :=
  ((W4_of m ρ c main_v19_0 (by decide +kernel)).trans (W3_of m ρ c main_v19_0 (by decide +kernel))).trans (W2_arr m ρ c 2)
theorem V4_bm (c : Dev nD) : V4 m ρ c main_v19_1 = (dat0 (V1 m ρ) c).arrAt 3 cfg0.N :=
  ((W4_of m ρ c main_v19_1 (by decide +kernel)).trans (W3_of m ρ c main_v19_1 (by decide +kernel))).trans (W2_arr m ρ c 3)

/-- The channel table and the arguments are not changed by the first call. -/
theorem V2_cs (c : Dev nD) : V2 m ρ c main_v18 = V1 m ρ c main_v18 := W2_of m ρ c main_v18 (by decide +kernel)
theorem V2_p (c : Dev nD) : V2 m ρ c main_arg0 = m ((c : Thread nD τ).loc main_arg0) := W2_args m ρ c main_arg0 (by decide)
theorem V1_meta (c : Dev nD) : V1 m ρ c main_arg1 = m ((c : Thread nD τ).loc main_arg1) := W1_args m ρ c main_arg1 (by decide)

end Cert.Kernel2Ideal.Fourier

end
-- ==== Proof.Host2.lean ====
/- The tables the Fourier calls are called with, read at an index, and what the three calls together leave. -/
module

public import proofs.«01_k».proof.Proof.Arrays2
public import proofs.«01_k».proof.Proof.Run2

@[expose] public section

set_option maxRecDepth 16384

noncomputable section

namespace Cert.Kernel2Ideal.Fourier

open Idealize.ShloMosaic Idealize.ShloMosaic.TcCoe Idealize.ShloMosaic.Tactic Idealize.SL.Sem
open Cert.Kernel2Ideal Cert.Kernel2Ideal.Gen Cert.Fourier

variable (m : (ℓ : Loc nD τ sig) → Buf (Elt Ideal) ℓ) (ρ : Dev nD → PrngReg) (c : Dev nD)

/-- The word of a product's remainder. -/
theorem word_rem (u : ArithUnit) (a b n : ℕ) (h : a * b < 2 ^ 31) (h0 : 0 < n) (hn : n < 2 ^ 31) :
    IntOp.remsi u (BitVec.ofNat 32 a * BitVec.ofNat 32 b) (BitVec.ofNat 32 n) = BitVec.ofNat 32 (a * b % n) := by
  rw [← BitVec.ofNat_mul]
  exact rem_word u (a * b) n h h0 hn

theorem word_shift (a : ℕ) : BitVec.ofNat 32 a + 16#32 = BitVec.ofNat 32 (a + 16) := (BitVec.ofNat_add a 16).symm

/-- The cosine and the sine of the angle that a word of a remainder gives. -/
theorem cos_word (n a : ℕ) (h0 : 0 < n) (hn : n < 2 ^ 31) (w : BitVec 32) (hw : w = BitVec.ofNat 32 (a % n)) :
    Ideal.cos (Ideal.div (Ideal.ofBits .f32 0x40000000#32 * Ideal.acos (Ideal.ofBits .f32 0xBF800000#32)
      * FloatOps.sitofp (F := Ideal) .f32 w) (((n : ℕ) : ℝ) : EReal)) = cosT n a :=
  (congrArg Ideal.cos (angle n (a % n) (by omega) w hw (lt_trans (Nat.mod_lt a h0) hn))).trans (cosT_mod n a (by omega))

theorem sin_word (n a : ℕ) (h0 : 0 < n) (hn : n < 2 ^ 31) (w : BitVec 32) (hw : w = BitVec.ofNat 32 (a % n)) :
    Ideal.sin (Ideal.div (Ideal.ofBits .f32 0x40000000#32 * Ideal.acos (Ideal.ofBits .f32 0xBF800000#32)
      * FloatOps.sitofp (F := Ideal) .f32 w) (((n : ℕ) : ℝ) : EReal)) = sinT n a :=
  (congrArg Ideal.sin (angle n (a % n) (by omega) w hw (lt_trans (Nat.mod_lt a h0) hn))).trans (sinT_mod n a (by omega))

theorem lt_word {a b x y : ℕ} (ha : a ≤ x) (hb : b ≤ y) (h : x * y < 2 ^ 31) : a * b < 2 ^ 31 :=
  lt_of_le_of_lt (Nat.mul_le_mul ha hb) h

theorem host_cc (k d : Fin 256) : V1 m ρ c main_v18 (ix2 k ⟨0 + d.val, by omega⟩) = cosT 256 (k.val * d.val) := by
  simp only [V1, W1]
  entry_read
  pointwise
  rw [const_256]
  refine cos_word 256 (k.val * d.val) (by omega) (by omega) _ ?_
  exact word_rem _ k.val d.val 256 (lt_word (by omega) (by omega) (by norm_num : 256 * 256 < 2 ^ 31)) (by omega) (by omega)

theorem host_sc (k d : Fin 256) : V1 m ρ c main_v18 (ix2 k ⟨256 + d.val, by omega⟩) = sinT 256 (k.val * d.val) := by
  simp only [V1, W1]
  entry_read
  pointwise
  rw [const_256]
  refine sin_word 256 (k.val * d.val) (by omega) (by omega) _ ?_
  exact word_rem _ k.val d.val 256 (lt_word (by omega) (by omega) (by norm_num : 256 * 256 < 2 ^ 31)) (by omega) (by omega)

theorem host_cx (k t : Fin 2048) : V4 m ρ c main_v59 (ix2 k t) = cosT 2064 ((k.val + 16) * (t.val + 16)) := by
  simp only [V4, W4]
  entry_read
  pointwise
  rw [const_2064]
  refine cos_word 2064 _ (by omega) (by omega) _ ?_
  refine (congrArg₂ (fun p q => IntOp.remsi .host (p * q) 2064#32) (word_shift k.val) (word_shift t.val)).trans ?_
  exact word_rem _ (k.val + 16) (t.val + 16) 2064 (lt_word (by omega) (by omega) (by norm_num : 2064 * 2064 < 2 ^ 31))
    (by omega) (by omega)

theorem host_sx (k t : Fin 2048) : V4 m ρ c main_v60 (ix2 k t) = sinT 2064 ((k.val + 16) * (t.val + 16)) := by
  simp only [V4, W4]
  entry_read
  pointwise
  rw [const_2064]
  refine sin_word 2064 _ (by omega) (by omega) _ ?_
  refine (congrArg₂ (fun p q => IntOp.remsi .host (p * q) 2064#32) (word_shift k.val) (word_shift t.val)).trans ?_
  exact word_rem _ (k.val + 16) (t.val + 16) 2064 (lt_word (by omega) (by omega) (by norm_num : 2064 * 2064 < 2 ^ 31))
    (by omega) (by omega)

theorem host_cm (k : Fin 2048) (j : Fin 16) : V4 m ρ c main_v61 (ix2 k j) = cosT 2064 ((k.val + 16) * j.val) := by
  simp only [V4, W4]
  entry_read
  pointwise
  rw [const_2064]
  refine cos_word 2064 _ (by omega) (by omega) _ ?_
  refine (congrArg (fun p => IntOp.remsi .host (p * BitVec.ofNat 32 j.val) 2064#32) (word_shift k.val)).trans ?_
  exact word_rem _ (k.val + 16) j.val 2064 (lt_word (by omega) (by omega) (by norm_num : 2064 * 2064 < 2 ^ 31))
    (by omega) (by omega)

theorem host_sm (k : Fin 2048) (j : Fin 16) : V4 m ρ c main_v62 (ix2 k j) = sinT 2064 ((k.val + 16) * j.val) := by
  simp only [V4, W4]
  entry_read
  pointwise
  rw [const_2064]
  refine sin_word 2064 _ (by omega) (by omega) _ ?_
  refine (congrArg (fun p => IntOp.remsi .host (p * BitVec.ofNat 32 j.val) 2064#32) (word_shift k.val)).trans ?_
  exact word_rem _ (k.val + 16) j.val 2064 (lt_word (by omega) (by omega) (by norm_num : 2064 * 2064 < 2 ^ 31))
    (by omega) (by omega)

/-- A row by the channel table is its transform over the groups. -/
theorem byTable_c (f : Fin 1024 → EReal) (e : Fin 1024) : byTable (V1 m ρ) c f 0 (by omega) e = chan cosT f e := by
  unfold byTable chan
  exact Finset.sum_congr rfl fun k _ => congrArg (f _ * ·) (host_cc m ρ c k ⟨e.val % 256, by omega⟩)

theorem byTable_s (f : Fin 1024 → EReal) (e : Fin 1024) : byTable (V1 m ρ) c f 256 (by omega) e = chan sinT f e := by
  unfold byTable chan
  exact Finset.sum_congr rfl fun k _ => congrArg (f _ * ·) (host_sc m ρ c k ⟨e.val % 256, by omega⟩)

theorem byTable_old (f : Fin 1024 → EReal) (o : ℕ) (ho : o ≤ 256) (e : Fin 1024) :
    byTable (V2 m ρ) c f o ho e = byTable (V1 m ρ) c f o ho e := by
  unfold byTable
  rw [V2_cs]

/-- What the third call reads of the first two. -/
theorem at_a (i : Fin 8192) (e : Fin 1024) :
    V4 m ρ c main_v20_0 (ix2 i e) = chan cosT (tokRow (m ((c : Thread nD τ).loc main_arg0)) i) e := by
  rw [V4_a, arr_a, V2_p]
  exact (byTable_old m ρ c _ _ _ e).trans (byTable_c m ρ c _ e)

theorem at_b (i : Fin 8192) (e : Fin 1024) :
    V4 m ρ c main_v20_1 (ix2 i e) = chan sinT (tokRow (m ((c : Thread nD τ).loc main_arg0)) i) e := by
  rw [V4_b, arr_b, V2_p]
  exact (byTable_old m ρ c _ _ _ e).trans (byTable_s m ρ c _ e)

theorem at_am (j : Fin 16) (e : Fin 1024) :
    V4 m ρ c main_v19_0 (ix2 j e) = chan cosT (metaRow (m ((c : Thread nD τ).loc main_arg1)) j) e := by
  rw [V4_am, arr_am, V1_meta]
  exact byTable_c m ρ c _ e

theorem at_bm (j : Fin 16) (e : Fin 1024) :
    V4 m ρ c main_v19_1 (ix2 j e) = chan sinT (metaRow (m ((c : Thread nD τ).loc main_arg1)) j) e := by
  rw [V4_bm, arr_bm, V1_meta]
  exact byTable_s m ρ c _ e

/-- The result of the three calls, by sample and row. -/
theorem mixed_eq (n : Fin 4) (k : Fin 2048) (e : Fin 1024) : mixed (V4 m ρ) c n k e
    = rowOut (m ((c : Thread nD τ).loc main_arg0)) (m ((c : Thread nD τ).loc main_arg1)) n k e := by
  have h1 := Finset.sum_congr rfl fun (t : Fin 2048) (_ : t ∈ Finset.univ) =>
    congrArg₂ (fun p q : EReal => p * q) (host_cx m ρ c k t) (at_a m ρ c (rowIx n t) e)
  have h2 := Finset.sum_congr rfl fun (t : Fin 2048) (_ : t ∈ Finset.univ) =>
    congrArg₂ (fun p q : EReal => p * q) (host_sx m ρ c k t) (at_b m ρ c (rowIx n t) e)
  have h3 := Finset.sum_congr rfl fun (j : Fin 16) (_ : j ∈ Finset.univ) =>
    congrArg₂ (fun p q : EReal => p * q) (host_cm m ρ c k j) (at_am m ρ c j e)
  have h4 := Finset.sum_congr rfl fun (j : Fin 16) (_ : j ∈ Finset.univ) =>
    congrArg₂ (fun p q : EReal => p * q) (host_sm m ρ c k j) (at_bm m ρ c j e)
  exact congrArg (fun p : EReal => p * (((Real.sqrt 528384)⁻¹ : ℝ) : EReal)) (congrArg₂ (fun p q : EReal => p - q)
    (congrArg₂ (fun p q : EReal => p + q) (congrArg₂ (fun p q : EReal => p - q) h1 h2) h3) h4)

/-- The result of the three calls. -/
theorem out_y : W5 m ρ c (Proc.devRef .tc main_v63)
    = out (m ((c : Thread nD τ).loc main_arg0)) (m ((c : Thread nD τ).loc main_arg1)) := by
  rw [W5_y, arr_y]
  exact funext fun i => mixed_eq m ρ c (sampOf (i 0)) (posOf (i 0)) (i 1)

end Cert.Kernel2Ideal.Fourier

end
-- ==== Proof.Ref2.lean ====
/- The Fourier reference's values at an index, stage by stage, as the functions of `Fourier`. -/
module

public import proofs.«01_k».proof.Proof.Fourier
public import proofs.«01_k».proof.Proof.Gen.Reference2Ideal.Read
public import Idealize.ShloMosaic.Lib.Pointwise

@[expose] public section

set_option maxRecDepth 16384

noncomputable section

namespace Cert.Reference2Ideal.Fourier

open Idealize.ShloMosaic Idealize.ShloMosaic.TcCoe Idealize.ShloMosaic.Tactic Idealize.SL.Sem
open Cert.Reference2Ideal Cert.Reference2Ideal.Read Cert.Fourier

variable (x0 : (⟨S8192x6144, .bf16⟩ : BufTy).Contents (Elt Ideal)) (x1 : (⟨S16x6144, .bf16⟩ : BufTy).Contents (Elt Ideal))

/-- Row `t` of the 2064 rows of sample `b`: a meta row or a token row. -/
def rrow (b : Fin 4) (t : Fin 2064) : Fin 1024 → EReal :=
  if h : t.val < 16 then metaRow x1 ⟨t.val, h⟩ else tokRow x0 (rowIx b ⟨t.val - 16, by omega⟩)

theorem rrow_meta (b : Fin 4) (j : Fin 16) : rrow x0 x1 b ⟨j.val, by omega⟩ = metaRow x1 j := dif_pos j.isLt

theorem rrow_tok (b : Fin 4) (t : Fin 2048) : rrow x0 x1 b ⟨t.val + 16, by omega⟩ = tokRow x0 (rowIx b t) := by
  refine (dif_neg (show ¬ t.val + 16 < 16 by omega)).trans ?_
  exact congrArg (fun q => tokRow x0 (rowIx b q)) (Fin.ext (Nat.add_sub_cancel t.val 16))

/-- The two pairs of tables. -/
theorem ref_ct (k t : Fin 2064) : val_main_v22 (F := Ideal) (ix2 k t) = cosT 2064 (k.val * t.val) := by
  pointwise [val_main_v22, val_main_v21, val_main_v20, val_main_cst_1, val_main_v19, val_main_v18, val_main_v17,
    val_main_v16, val_main_v15, val_main_v14, val_main_v13, val_main_v12, val_main_v11, val_main_cst_0, val_main_v10,
    val_main_cst, val_main_v9]
  rw [const_2064]
  refine (congrArg Ideal.cos (angle 2064 (k.val * t.val) (by omega) _ (BitVec.ofNat_mul k.val t.val).symm ?_)).trans rfl
  have := Nat.mul_le_mul (Nat.le_of_lt k.isLt) (Nat.le_of_lt t.isLt); omega

theorem ref_st (k t : Fin 2064) : val_main_v23 (F := Ideal) (ix2 k t) = sinT 2064 (k.val * t.val) := by
  pointwise [val_main_v23, val_main_v21, val_main_v20, val_main_cst_1, val_main_v19, val_main_v18, val_main_v17,
    val_main_v16, val_main_v15, val_main_v14, val_main_v13, val_main_v12, val_main_v11, val_main_cst_0, val_main_v10,
    val_main_cst, val_main_v9]
  rw [const_2064]
  refine (congrArg Ideal.sin (angle 2064 (k.val * t.val) (by omega) _ (BitVec.ofNat_mul k.val t.val).symm ?_)).trans rfl
  have := Nat.mul_le_mul (Nat.le_of_lt k.isLt) (Nat.le_of_lt t.isLt); omega

theorem ref_cc (k d : Fin 256) : val_main_v37 (F := Ideal) (ix2 k d) = cosT 256 (k.val * d.val) := by
  pointwise [val_main_v37, val_main_v36, val_main_v35, val_main_cst_4, val_main_v34, val_main_v33, val_main_v32,
    val_main_v31, val_main_v30, val_main_v29, val_main_v28, val_main_v27, val_main_v26, val_main_cst_3, val_main_v25,
    val_main_cst_2, val_main_v24]
  rw [const_256]
  refine (congrArg Ideal.cos (angle 256 (k.val * d.val) (by omega) _ (BitVec.ofNat_mul k.val d.val).symm ?_)).trans rfl
  have := Nat.mul_le_mul (Nat.le_of_lt k.isLt) (Nat.le_of_lt d.isLt); omega

theorem ref_sc (k d : Fin 256) : val_main_v38 (F := Ideal) (ix2 k d) = sinT 256 (k.val * d.val) := by
  pointwise [val_main_v38, val_main_v36, val_main_v35, val_main_cst_4, val_main_v34, val_main_v33, val_main_v32,
    val_main_v31, val_main_v30, val_main_v29, val_main_v28, val_main_v27, val_main_v26, val_main_cst_3, val_main_v25,
    val_main_cst_2, val_main_v24]
  rw [const_256]
  refine (congrArg Ideal.sin (angle 256 (k.val * d.val) (by omega) _ (BitVec.ofNat_mul k.val d.val).symm ?_)).trans rfl
  have := Nat.mul_le_mul (Nat.le_of_lt k.isLt) (Nat.le_of_lt d.isLt); omega

/-- The rows the transforms take. -/
theorem ref_rows (b : Fin 4) (t : Fin 2064) (g : Fin 4) (k : Fin 256) :
    val_main_v8 (F := Ideal) x0 x1 (ix4 b t g k) = rrow x0 x1 b t ⟨256 * g.val + k.val, by omega⟩ := by
  pointwise [val_main_v8, val_main_v7, val_main_v6, val_main_v5, val_main_v4, val_main_v3, val_main_v2, val_main_v1,
    val_main_v0]
  unfold rrow metaRow tokRow rowIx
  split_ifs <;> simp only [Nat.mul_comm] <;> rfl

/-- The channel transform's two parts. -/
theorem ref_re (b : Fin 4) (t : Fin 2064) (g : Fin 4) (d : Fin 256) :
    val_main_v39 (F := Ideal) x0 x1 (ix4 b t g d) = chan cosT (rrow x0 x1 b t) ⟨256 * g.val + d.val, by omega⟩ := by
  have hd : (256 * g.val + d.val) / 256 = g.val := by omega
  have hm : (256 * g.val + d.val) % 256 = d.val := by omega
  pointwise [val_main_v39, ref_rows, ref_cc]
  unfold chan
  simp only [hd, hm]

theorem ref_im (b : Fin 4) (t : Fin 2064) (g : Fin 4) (d : Fin 256) :
    val_main_v40 (F := Ideal) x0 x1 (ix4 b t g d) = chan sinT (rrow x0 x1 b t) ⟨256 * g.val + d.val, by omega⟩ := by
  have hd : (256 * g.val + d.val) / 256 = g.val := by omega
  have hm : (256 * g.val + d.val) % 256 = d.val := by omega
  pointwise [val_main_v40, ref_rows, ref_sc]
  unfold chan
  simp only [hd, hm]

/-- The transform over the rows, meta rows and token rows apart. -/
theorem ref_c (b : Fin 4) (q : Fin 2064) (g : Fin 4) (d : Fin 256) : val_main_v42 (F := Ideal) x0 x1 (ix4 b q g d)
    = overMeta cosT q.val (fun j => chan cosT (metaRow x1 j) ⟨256 * g.val + d.val, by omega⟩)
      + overTok cosT q.val (fun t => chan cosT (tokRow x0 (rowIx b t)) ⟨256 * g.val + d.val, by omega⟩) := by
  pointwise [val_main_v42, val_main_v41, ref_re, ref_ct]
  rw [sum_rows]
  simp only [rrow_meta, rrow_tok]
  unfold overMeta overTok
  simp only [mul_comm (chan _ _ _)]

theorem ref_s (b : Fin 4) (q : Fin 2064) (g : Fin 4) (d : Fin 256) : val_main_v44 (F := Ideal) x0 x1 (ix4 b q g d)
    = overMeta sinT q.val (fun j => chan sinT (metaRow x1 j) ⟨256 * g.val + d.val, by omega⟩)
      + overTok sinT q.val (fun t => chan sinT (tokRow x0 (rowIx b t)) ⟨256 * g.val + d.val, by omega⟩) := by
  pointwise [val_main_v44, val_main_v43, ref_im, ref_st]
  rw [sum_rows]
  simp only [rrow_meta, rrow_tok]
  unfold overMeta overTok
  simp only [mul_comm (chan _ _ _)]

/-- The scaled real part of frequency `k + 16`, the meta rows being finite. -/
theorem ref_y (h : ∀ j e, Finite (metaRow x1 j e)) (b : Fin 4) (k : Fin 2048) (g : Fin 4) (d : Fin 256) :
    val_main_v48 (F := Ideal) x0 x1 (ix4 b ⟨k.val + 16, by omega⟩ g d)
      = rowOut x0 x1 b k ⟨256 * g.val + d.val, by omega⟩ := by
  pointwise [val_main_v48, val_main_v47, val_main_v46, val_main_cst_5, val_main_v45, ref_c, ref_s]
  exact mix_eq _ _ _ _ _ (finite_overMeta _ _ fun j => finite_chan _ _ fun e => h j e)

theorem ref_out (h : ∀ j e, Finite (metaRow x1 j e)) : val_main_v51 (F := Ideal) x0 x1 = out x0 x1 := by
  funext i
  obtain ⟨a, e, rfl⟩ : ∃ (a : Fin 8192) (e : Fin 1024), i = ix2 a e := ⟨i 0, i 1, eq_ix2 i⟩
  pointwise [val_main_v51, val_main_v50, val_main_v49]
  refine (congrArg (fun q => val_main_v48 (F := Ideal) x0 x1 (ix4 (sampOf a) q ⟨e.val / 256, by omega⟩ ⟨e.val % 256, by omega⟩))
    (Fin.ext (Nat.add_comm 16 (a.val % 2048)))).trans ((ref_y x0 x1 h (sampOf a) (posOf a) _ _).trans ?_)
  exact congrArg (rowOut x0 x1 (sampOf a) (posOf a)) (Fin.ext (Nat.div_add_mod e.val 256))

end Cert.Reference2Ideal.Fourier

end
-- ==== Proof.Meta2.lean ====
/- What the precondition says: every entry of the meta rows' projections is a finite number. -/
module

public import proofs.«01_k».proof.Pre_meta_finite
public import proofs.«01_k».proof.Proof.Gen.Pre_meta_finite
public import proofs.«01_k».proof.Proof.Fourier
public import Idealize.ShloMosaic.Lib.ReduceAll

@[expose] public section

noncomputable section

namespace Cert.Pre_meta_finite.Fourier

open Idealize.ShloMosaic Cert.Pre_meta_finite Cert.Fourier

theorem finite_of_pre (x0 : FVec Ideal S8192x6144 .bf16) (x1 : FVec Ideal S16x6144 .bf16)
    (h : fn (F := Ideal) x0 x1 = fun _ => 1#1) (i : S16x6144.Idx) : Finite (x1 i) := by
  have : Subsingleton S_.Idx := ⟨fun a b => funext fun k => k.elim0⟩
  have e := Host.reduce_andi_all _ _ _ _ (fun k => k.elim0) (congrFun h fun k => k.elim0) i
  have e' : BitVec.ofBool (decide (max (x1 i) (-(x1 i)) < Ideal.ofBits .f32 0x7F800000#32)) = 1#1 := e
  rw [const_top] at e'
  refine finite_of_abs_lt_top (of_decide_eq_true ?_)
  revert e'
  cases decide (max (x1 i) (-(x1 i)) < ⊤) <;> decide

theorem finite_meta (x0 : FVec Ideal S8192x6144 .bf16) (x1 : FVec Ideal S16x6144 .bf16)
    (h : fn (F := Ideal) x0 x1 = fun _ => 1#1) (j : Fin 16) (e : Fin 1024) : Finite (metaRow x1 j e) :=
  finite_of_pre x0 x1 h _

end Cert.Pre_meta_finite.Fourier

end
-- ==== Proof.ConvSpec.lean ====
/-
  The short convolution's arithmetic on one channel: five taps along the sequence, the logistic gate,
  and the unit length of a head. Both programs are read into these functions.
-/
module

public import proofs.«01_k».proof.Proof.Spec
public import Idealize.ShloMosaic.Lib.Pipeline.ValueKit

@[expose] public section

noncomputable section

namespace Cert.Layer

open Idealize.ShloMosaic

/-- Five neighbours `e` weighted by `w`, times the logistic of the sum. -/
def convGate (e w : Fin 5 → EReal) : EReal := silu (e 0 * w 0 + e 1 * w 1 + e 2 * w 2 + e 3 * w 3 + e 4 * w 4)

/-- Lane `l` of a head, over the head's length. -/
def unitHead (x : Fin 128 → EReal) (l : Fin 128) : EReal :=
  x l * Ideal.rsqrt ((∑ k, x k * x k) + Ideal.ofBits .f32 0x358637BD#32)

/-- Lane `k` of the head that channel `j` lies in. -/
def headLane (j : Fin 3072) (k : Fin 128) : Fin 3072 := ⟨128 * (j.val / 128) + k.val, by omega⟩

/-- Channel `j` of a token's row after the convolution `x`: the queries' and the keys' heads at unit length, the
    queries scaled, the values as they are. -/
def mixRow (x : Fin 3072 → EReal) (j : Fin 3072) : EReal :=
  if j.val < 1024 then unitHead (fun k => x (headLane j k)) ⟨j.val % 128, by omega⟩ * Ideal.ofBits .f32 0x3DB504F3#32
  else if j.val < 2048 then unitHead (fun k => x (headLane j k)) ⟨j.val % 128, by omega⟩
  else x j

/-- The row at distance `k - 2` of a tile's start: the tile's 256 rows `p`, two rows of `h` before and two after. -/
def around (p : Fin 256 → EReal) (h : Fin 16 → EReal) (k : Fin 260) : EReal :=
  if _ : k.val < 2 then h ⟨6 + k.val, by omega⟩
  else if _ : k.val < 258 then p ⟨k.val - 2, by omega⟩
  else h ⟨k.val - 250, by omega⟩

end Cert.Layer

end
-- ==== Proof.ConvBlock.lean ====
/-
  The convolution call's tile, column block by column block: each of the twelve blocks' payloads at an index.
-/
module

public import proofs.«01_k».proof.Proof.Gen.Kernel4Ideal.Frame
public import proofs.«01_k».proof.Proof.ConvSpec
public import Idealize.ShloMosaic.Lib.Pipeline.ValueKit
public import Idealize.ShloMosaic.Lib.Pipeline.ReadBack

@[expose] public section

set_option maxRecDepth 16384

noncomputable section

namespace Cert.Kernel4Ideal.Layer

open Idealize.ShloMosaic Idealize.ShloMosaic.TcCoe Idealize.ShloMosaic.Tactic Idealize.SL.Sem
open Cert.Kernel4Ideal Cert.Kernel4Ideal.Gen Cert.Layer

/-- The taps of one column inside a tile: the middle one on the rows `p`, the others on the rows `s` that the
    first selection leaves. -/
def tileMid (s : Fin 1024 → EReal) (p : Fin 256 → EReal) (w : Fin 5 → EReal) (r : Fin 256) : EReal :=
  p r * w 2 + s ⟨r.val, by omega⟩ * w 0 + s ⟨256 + r.val, by omega⟩ * w 1 + s ⟨512 + r.val, by omega⟩ * w 3
    + s ⟨768 + r.val, by omega⟩ * w 4

/-- A tile's column: on the outermost eight rows the taps on the rows `h` that the second selection leaves are
    added. -/
def tileConv (s : Fin 1024 → EReal) (p : Fin 256 → EReal) (h : Fin 32 → EReal) (w : Fin 5 → EReal) (r : Fin 256) : EReal :=
  if _ : r.val < 8 then
    tileMid s p w ⟨r.val, by omega⟩ + h ⟨r.val, by omega⟩ * w 0 + h ⟨8 + r.val, by omega⟩ * w 1
  else if _ : r.val - 8 < 240 then tileMid s p w ⟨8 + (r.val - 8), by omega⟩
  else tileMid s p w ⟨248 + (r.val - 8 - 240), by omega⟩ + h ⟨16 + (r.val - 8 - 240), by omega⟩ * w 3
    + h ⟨24 + (r.val - 8 - 240), by omega⟩ * w 4

variable (w : FVec Ideal S8x3072 .f32) (g : FVec Ideal S32x16 .bf16) (s : FVec Ideal S1024x256 .f32)
  (p : Vec Ideal S256x256 .bf16) (h : Vec Ideal S1x1x16x256 .bf16)

/-- Column `l` of the block of columns from `o` on, gated. -/
def col (o : ℕ) (ho : o + 256 ≤ 3072) (r : Fin 256) (l : Fin 256) : EReal :=
  silu (tileConv (fun q => s (ix2 q l)) (fun q => p (ix2 q l)) (fun q => ∑ k, g (ix2 q k) * h (ix4 0 0 k l))
    (fun n => w (ix2 ⟨n.val, by omega⟩ ⟨o + l.val, by omega⟩)) r)

theorem chunk0 (r : Fin 256) (l : Fin 256) :
    k0_pay8 w g s p h (ix2 r l)
      = col w g s p h 0 (by omega) r l := by
  unfold k0_pay8
  pointwise [silu, col, tileConv, tileMid]

theorem chunk1 (r : Fin 256) (l : Fin 256) :
    k0_pay15 w g s (k0_pay13 w s p) (k0_pay14 s) h (ix2 r l)
      = col w g s p h 256 (by omega) r l := by
  unfold k0_pay15 k0_pay13 k0_pay14
  pointwise [silu, col, tileConv, tileMid]

theorem chunk2 (r : Fin 256) (l : Fin 256) :
    k0_pay21 w g (k0_pay19 w s p) (k0_pay20 h) (constant S32x256 .f32 0x00000000#32) (ix2 r l)
      = col w g s p h 512 (by omega) r l := by
  unfold k0_pay21 k0_pay19 k0_pay20
  pointwise [silu, col, tileConv, tileMid]

theorem chunk3 (r : Fin 256) (l : Fin 256) :
    k0_pay32 w (k0_pay26 w s p) (k0_pay27 g h) (k0_pay28 w s p) (k0_pay29 w g s p h) (k0_pay30 g h) (k0_pay31 w) (ix2 r l)
      = col w g s p h 768 (by omega) r l := by
  unfold k0_pay32 k0_pay31 k0_pay30 k0_pay29 k0_pay28 k0_pay27 k0_pay26
  pointwise [silu, col, tileConv, tileMid]

theorem chunk4 (r : Fin 256) (l : Fin 256) :
    k0_pay38 w g s (k0_pay36 p) (k0_pay37 w) h (ix2 r l)
      = col w g s p h 1024 (by omega) r l := by
  unfold k0_pay38 k0_pay36 k0_pay37
  pointwise [silu, col, tileConv, tileMid]

theorem chunk5 (r : Fin 256) (l : Fin 256) :
    k0_pay51 w g s (k0_pay48 w p) (k0_pay49 s) (k0_pay50 w) h (ix2 r l)
      = col w g s p h 1280 (by omega) r l := by
  unfold k0_pay51 k0_pay48 k0_pay49 k0_pay50
  pointwise [silu, col, tileConv, tileMid]

theorem chunk6 (r : Fin 256) (l : Fin 256) :
    k0_pay64 w g s (k0_pay61 w s p) (k0_pay62 s) (k0_pay63 w) h (ix2 r l)
      = col w g s p h 1536 (by omega) r l := by
  unfold k0_pay64 k0_pay61 k0_pay62 k0_pay63
  pointwise [silu, col, tileConv, tileMid]

theorem chunk7 (r : Fin 256) (l : Fin 256) :
    k0_pay76 w g s (k0_pay74 w s p) (k0_pay75 s) h (ix2 r l)
      = col w g s p h 1792 (by omega) r l := by
  unfold k0_pay76 k0_pay74 k0_pay75
  pointwise [silu, col, tileConv, tileMid]

theorem chunk8 (r : Fin 256) (l : Fin 256) :
    k0_pay85 w g s (k0_pay84 w s p) h (ix2 r l)
      = col w g s p h 2048 (by omega) r l := by
  unfold k0_pay85 k0_pay84
  pointwise [silu, col, tileConv, tileMid]

theorem chunk9 (r : Fin 256) (l : Fin 256) :
    k0_pay89 w g s (k0_pay87 w p) (k0_pay88 w s) h (ix2 r l)
      = col w g s p h 2304 (by omega) r l := by
  unfold k0_pay89 k0_pay87 k0_pay88
  pointwise [silu, col, tileConv, tileMid]

theorem chunk10 (r : Fin 256) (l : Fin 256) :
    k0_pay93 (k0_pay91 w g s p h) (k0_pay92 w g s p h) (ix2 r l)
      = col w g s p h 2560 (by omega) r l := by
  unfold k0_pay93 k0_pay92 k0_pay91
  pointwise [silu, col, tileConv, tileMid]

theorem chunk11 (r : Fin 256) (l : Fin 256) :
    k0_pay100 (k0_pay94 w s p) (k0_pay96 w g s p h) (k0_pay97 w g s p h) (k0_pay98 g h) (k0_pay99 w) (ix2 r l)
      = col w g s p h 2816 (by omega) r l := by
  unfold k0_pay100 k0_pay96 k0_pay97 k0_pay98 k0_pay99 k0_pay95 k0_pay94
  pointwise [silu, col, tileConv, tileMid]

end Cert.Kernel4Ideal.Layer

end
-- ==== Proof.ConvTile.lean ====
/-
  The tile selections of the convolution call: each leaves one neighbouring row, or nothing.
-/
module

public import proofs.«01_k».proof.Proof.ConvBlock

@[expose] public section

set_option maxRecDepth 16384

noncomputable section

namespace Cert.Kernel4Ideal.Layer

open Idealize.ShloMosaic Idealize.ShloMosaic.TcCoe Idealize.ShloMosaic.Tactic Idealize.SL.Sem
open Cert.Kernel4Ideal Cert.Kernel4Ideal.Gen Cert.Layer

/-- The second selection's rows. -/
abbrev selH : FVec Ideal S32x16 .bf16 :=
  k0_pay5 (iota .tc S8x16 32 [0] iota_S8x16_d0_w32) (iota .tc S8x16 32 [1] iota_S8x16_d1_w32) k0_pay4
    (Scalar.ofBits .f32 0x3F800000#32)

/-- A lane's number as a word, against a row's moved by `m`. -/
theorem word (m r c : ℕ) (hr : r < 256) (hc : c < 256) (hm : m < 4294967296) :
    (BitVec.ofNat 32 c).toNat = (IntOp.addi (BitVec.ofNat 32 r) (BitVec.ofNat 32 m)).toNat
      ↔ c = (r + m) % 4294967296 := by
  unfold IntOp.addi
  rw [BitVec.toNat_add, BitVec.toNat_ofNat, BitVec.toNat_ofNat, BitVec.toNat_ofNat]
  rw [Nat.mod_eq_of_lt (show c < 2 ^ 32 by omega), Nat.mod_eq_of_lt (show r < 2 ^ 32 by omega),
    Nat.mod_eq_of_lt (show m < 2 ^ 32 by omega)]

/-- A choice by that test. -/
theorem choose (P : Prop) [Decidable P] (m r c : ℕ) (hr : r < 256) (hc : c < 256) (hm : m < 4294967296)
    (e : c = (r + m) % 4294967296 ↔ P) (x y : EReal) :
    Scalar.select (IntOp.cmpi .eq (BitVec.ofNat 32 c) (IntOp.addi (BitVec.ofNat 32 r) (BitVec.ofNat 32 m))) x y
      = if P then x else y := by
  rw [WordCmp.cmpi_eq_eq_toNat, Scalar.select_decide]
  simp only [word m r c hr hc hm, e]

theorem sel0 (r c : Fin 256) : (k0_pay3 (F := Ideal)) (ix2 ⟨r.val, by omega⟩ c) = if c.val + 2 = r.val then 1 else 0 := by
  unfold k0_pay3
  pointwise []
  exact choose (c.val + 2 = r.val) 4294967294 r.val c.val r.isLt c.isLt (by omega) (by omega) 1 0

theorem sel1 (r c : Fin 256) : (k0_pay3 (F := Ideal)) (ix2 ⟨256 + r.val, by omega⟩ c) = if c.val + 1 = r.val then 1 else 0 := by
  unfold k0_pay3
  pointwise []
  exact choose (c.val + 1 = r.val) 4294967295 r.val c.val r.isLt c.isLt (by omega) (by omega) 1 0

theorem sel2 (r c : Fin 256) : (k0_pay3 (F := Ideal)) (ix2 ⟨512 + r.val, by omega⟩ c) = if c.val = r.val + 1 then 1 else 0 := by
  unfold k0_pay3
  pointwise []
  have e : 512 + r.val - 256 - 256 = r.val := by omega
  repeat first | rw [dif_neg (by omega)] | rw [dif_pos (by omega)]
  simp only [e]
  exact choose (c.val = r.val + 1) 1 r.val c.val r.isLt c.isLt (by omega) (by omega) 1 0

theorem sel3 (r c : Fin 256) : (k0_pay3 (F := Ideal)) (ix2 ⟨768 + r.val, by omega⟩ c) = if c.val = r.val + 2 then 1 else 0 := by
  unfold k0_pay3
  pointwise []
  have e : 768 + r.val - 256 - 256 - 256 = r.val := by omega
  repeat first | rw [dif_neg (by omega)] | rw [dif_pos (by omega)]
  simp only [e]
  exact choose (c.val = r.val + 2) 2 r.val c.val r.isLt c.isLt (by omega) (by omega) 1 0

theorem edge0 : ∀ (r : Fin 8) (c : Fin 16),
    IntOp.andi (IntOp.cmpi .slt (BitVec.ofNat 32 r.val) 2#32) (IntOp.cmpi .eq (BitVec.ofNat 32 c.val) (IntOp.addi (IntOp.addi (8#32) (BitVec.ofNat 32 r.val)) 4294967294#32))
      = BitVec.ofBool (decide (r.val < 2 ∧ c.val = 6 + r.val)) := by
  decide +kernel

theorem selh0 (r : Fin 8) (c : Fin 16) : selH (ix2 ⟨r.val, by omega⟩ c) = if r.val < 2 ∧ c.val = 6 + r.val then 1 else 0 := by
  unfold selH k0_pay5 k0_pay4
  pointwise []
  rw [edge0 r c, Scalar.select_decide]

theorem edge1 : ∀ (r : Fin 8) (c : Fin 16),
    IntOp.andi (IntOp.cmpi .slt (BitVec.ofNat 32 r.val) 1#32) (IntOp.cmpi .eq (BitVec.ofNat 32 c.val) (IntOp.addi (IntOp.addi (8#32) (BitVec.ofNat 32 r.val)) 4294967295#32))
      = BitVec.ofBool (decide (r.val < 1 ∧ c.val = 7 + r.val)) := by
  decide +kernel

theorem selh1 (r : Fin 8) (c : Fin 16) : selH (ix2 ⟨8 + r.val, by omega⟩ c) = if r.val < 1 ∧ c.val = 7 + r.val then 1 else 0 := by
  unfold selH k0_pay5 k0_pay4
  pointwise []
  rw [edge1 r c, Scalar.select_decide]

theorem edge2 : ∀ (r : Fin 8) (c : Fin 16),
    IntOp.andi (IntOp.cmpi .sge (BitVec.ofNat 32 r.val) 7#32) (IntOp.cmpi .eq (BitVec.ofNat 32 c.val) (IntOp.addi (BitVec.ofNat 32 r.val) 1#32))
      = BitVec.ofBool (decide (7 ≤ r.val ∧ c.val = r.val + 1)) := by
  decide +kernel

theorem selh2 (r : Fin 8) (c : Fin 16) : selH (ix2 ⟨16 + r.val, by omega⟩ c) = if 7 ≤ r.val ∧ c.val = r.val + 1 then 1 else 0 := by
  unfold selH k0_pay5 k0_pay4
  pointwise []
  have e : 16 + r.val - 8 - 8 = r.val := by omega
  repeat first | rw [dif_neg (by omega)] | rw [dif_pos (by omega)]
  simp only [e]
  rw [edge2 r c, Scalar.select_decide]

theorem edge3 : ∀ (r : Fin 8) (c : Fin 16),
    IntOp.andi (IntOp.cmpi .sge (BitVec.ofNat 32 r.val) 6#32) (IntOp.cmpi .eq (BitVec.ofNat 32 c.val) (IntOp.addi (BitVec.ofNat 32 r.val) 2#32))
      = BitVec.ofBool (decide (6 ≤ r.val ∧ c.val = r.val + 2)) := by
  decide +kernel

theorem selh3 (r : Fin 8) (c : Fin 16) : selH (ix2 ⟨24 + r.val, by omega⟩ c) = if 6 ≤ r.val ∧ c.val = r.val + 2 then 1 else 0 := by
  unfold selH k0_pay5 k0_pay4
  pointwise []
  have e : 24 + r.val - 8 - 8 - 8 = r.val := by omega
  repeat first | rw [dif_neg (by omega)] | rw [dif_pos (by omega)]
  simp only [e]
  rw [edge3 r c, Scalar.select_decide]

theorem sum_pick {n : ℕ} (P : Fin n → Prop) [DecidablePred P] (f : Fin n → EReal) (c : Fin n) (hP : ∀ k, P k ↔ k = c) :
    ∑ k, (if P k then (1 : EReal) else 0) * f k = f c := by
  simp only [hP, ite_mul, one_mul, zero_mul, Finset.sum_ite_eq', Finset.mem_univ, if_true]

theorem sum_none {n : ℕ} (P : Fin n → Prop) [DecidablePred P] (f : Fin n → EReal) (hP : ∀ k, ¬ P k) :
    ∑ k, (if P k then (1 : EReal) else 0) * f k = 0 := by
  simp only [hP, if_false, zero_mul, Finset.sum_const_zero]

variable (p : Fin 256 → EReal) (h : Fin 16 → EReal) (r : Fin 256)

/-- What the first selection leaves of the rows `p`, and the second of the rows `h`. -/
abbrev shifted (q : Fin 1024) : EReal := ∑ c, (k0_pay3 (F := Ideal)) (ix2 q c) * p c
abbrev edges (q : Fin 32) : EReal := ∑ c, selH (ix2 q c) * h c

theorem shifted0 (hr : 2 ≤ r.val + 0 ∧ r.val + 0 < 258) :
    shifted p ⟨r.val, by omega⟩ = around p h ⟨r.val + 0, by omega⟩ := by
  unfold shifted around
  simp only [sel0]
  rw [dif_neg (by show ¬ r.val + 0 < 2; omega), dif_pos (by show r.val + 0 < 258; omega)]
  exact sum_pick _ p _ fun k => by rw [Fin.ext_iff]; show _ ↔ k.val = r.val + 0 - 2; omega

theorem shifted0_out (hr : r.val + 0 < 2 ∨ 258 ≤ r.val + 0) : shifted p ⟨r.val, by omega⟩ = 0 := by
  unfold shifted
  simp only [sel0]
  exact sum_none _ p fun k => by omega

theorem shifted1 (hr : 2 ≤ r.val + 1 ∧ r.val + 1 < 258) :
    shifted p ⟨256 + r.val, by omega⟩ = around p h ⟨r.val + 1, by omega⟩ := by
  unfold shifted around
  simp only [sel1]
  rw [dif_neg (by show ¬ r.val + 1 < 2; omega), dif_pos (by show r.val + 1 < 258; omega)]
  exact sum_pick _ p _ fun k => by rw [Fin.ext_iff]; show _ ↔ k.val = r.val + 1 - 2; omega

theorem shifted1_out (hr : r.val + 1 < 2 ∨ 258 ≤ r.val + 1) : shifted p ⟨256 + r.val, by omega⟩ = 0 := by
  unfold shifted
  simp only [sel1]
  exact sum_none _ p fun k => by omega

theorem shifted2 (hr : 2 ≤ r.val + 3 ∧ r.val + 3 < 258) :
    shifted p ⟨512 + r.val, by omega⟩ = around p h ⟨r.val + 3, by omega⟩ := by
  unfold shifted around
  simp only [sel2]
  rw [dif_neg (by show ¬ r.val + 3 < 2; omega), dif_pos (by show r.val + 3 < 258; omega)]
  exact sum_pick _ p _ fun k => by rw [Fin.ext_iff]; show _ ↔ k.val = r.val + 3 - 2; omega

theorem shifted2_out (hr : r.val + 3 < 2 ∨ 258 ≤ r.val + 3) : shifted p ⟨512 + r.val, by omega⟩ = 0 := by
  unfold shifted
  simp only [sel2]
  exact sum_none _ p fun k => by omega

theorem shifted3 (hr : 2 ≤ r.val + 4 ∧ r.val + 4 < 258) :
    shifted p ⟨768 + r.val, by omega⟩ = around p h ⟨r.val + 4, by omega⟩ := by
  unfold shifted around
  simp only [sel3]
  rw [dif_neg (by show ¬ r.val + 4 < 2; omega), dif_pos (by show r.val + 4 < 258; omega)]
  exact sum_pick _ p _ fun k => by rw [Fin.ext_iff]; show _ ↔ k.val = r.val + 4 - 2; omega

theorem shifted3_out (hr : r.val + 4 < 2 ∨ 258 ≤ r.val + 4) : shifted p ⟨768 + r.val, by omega⟩ = 0 := by
  unfold shifted
  simp only [sel3]
  exact sum_none _ p fun k => by omega

theorem edges0 (q : Fin 8) (hr : q.val + 0 < 2) :
    edges h ⟨q.val, by omega⟩ = around p h ⟨q.val + 0, by omega⟩ := by
  unfold edges around
  simp only [selh0]
  rw [dif_pos (by show q.val + 0 < 2; omega)]
  exact sum_pick _ h _ fun k => by rw [Fin.ext_iff]; show _ ↔ k.val = 6 + (q.val + 0); omega

theorem edges0_out (q : Fin 8) (hr : 2 ≤ q.val + 0) : edges h ⟨q.val, by omega⟩ = 0 := by
  unfold edges
  simp only [selh0]
  exact sum_none _ h fun k => by omega

theorem edges1 (q : Fin 8) (hr : q.val + 1 < 2) :
    edges h ⟨8 + q.val, by omega⟩ = around p h ⟨q.val + 1, by omega⟩ := by
  unfold edges around
  simp only [selh1]
  rw [dif_pos (by show q.val + 1 < 2; omega)]
  exact sum_pick _ h _ fun k => by rw [Fin.ext_iff]; show _ ↔ k.val = 6 + (q.val + 1); omega

theorem edges1_out (q : Fin 8) (hr : 2 ≤ q.val + 1) : edges h ⟨8 + q.val, by omega⟩ = 0 := by
  unfold edges
  simp only [selh1]
  exact sum_none _ h fun k => by omega

theorem edges2 (q : Fin 8) (hr : 258 ≤ 248 + q.val + 3) :
    edges h ⟨16 + q.val, by omega⟩ = around p h ⟨248 + q.val + 3, by omega⟩ := by
  unfold edges around
  simp only [selh2]
  rw [dif_neg (by show ¬ 248 + q.val + 3 < 2; omega), dif_neg (by show ¬ 248 + q.val + 3 < 258; omega)]
  exact sum_pick _ h _ fun k => by rw [Fin.ext_iff]; show _ ↔ k.val = 248 + q.val + 3 - 250; omega

theorem edges2_out (q : Fin 8) (hr : 248 + q.val + 3 < 258) : edges h ⟨16 + q.val, by omega⟩ = 0 := by
  unfold edges
  simp only [selh2]
  exact sum_none _ h fun k => by omega

theorem edges3 (q : Fin 8) (hr : 258 ≤ 248 + q.val + 4) :
    edges h ⟨24 + q.val, by omega⟩ = around p h ⟨248 + q.val + 4, by omega⟩ := by
  unfold edges around
  simp only [selh3]
  rw [dif_neg (by show ¬ 248 + q.val + 4 < 2; omega), dif_neg (by show ¬ 248 + q.val + 4 < 258; omega)]
  exact sum_pick _ h _ fun k => by rw [Fin.ext_iff]; show _ ↔ k.val = 248 + q.val + 4 - 250; omega

theorem edges3_out (q : Fin 8) (hr : 248 + q.val + 4 < 258) : edges h ⟨24 + q.val, by omega⟩ = 0 := by
  unfold edges
  simp only [selh3]
  exact sum_none _ h fun k => by omega

theorem around_mid : around p h ⟨r.val + 2, by omega⟩ = p r := by
  unfold around
  rw [dif_neg (by show ¬ r.val + 2 < 2; omega), dif_pos (by show r.val + 2 < 258; omega)]
  exact congrArg p (Fin.ext (by show r.val + 2 - 2 = r.val; omega))

/-- A tile's column is the convolution of the rows around. -/
theorem tileConv_eq (w : Fin 5 → EReal) : silu (tileConv (shifted p) p (edges h) w r)
    = convGate (fun n => around p h ⟨r.val + n.val, by omega⟩) w := by
  show _ = silu (around p h ⟨r.val + 0, by omega⟩ * w 0 + around p h ⟨r.val + 1, by omega⟩ * w 1
    + around p h ⟨r.val + 2, by omega⟩ * w 2 + around p h ⟨r.val + 3, by omega⟩ * w 3 + around p h ⟨r.val + 4, by omega⟩ * w 4)
  congr 1
  rw [around_mid p h r]
  unfold tileConv
  split_ifs with h8 h248
  · have e0 := edges0 p h ⟨r.val, h8⟩
    have e1 := edges1 p h ⟨r.val, h8⟩
    have o0 := edges0_out h ⟨r.val, h8⟩
    have o1 := edges1_out h ⟨r.val, h8⟩
    unfold tileMid
    simp only [] at e0 e1 o0 o1 ⊢
    rw [shifted2 p h r (by omega), shifted3 p h r (by omega)]
    by_cases h0 : r.val = 0
    · rw [shifted0_out p r (by omega), shifted1_out p r (by omega), e0 (by omega), e1 (by omega)]
      simp only [zero_mul, add_zero]
      abel
    · by_cases h1 : r.val = 1
      · rw [shifted0_out p r (by omega), shifted1 p h r (by omega), e0 (by omega), o1 (by omega)]
        simp only [zero_mul, add_zero]
        abel
      · rw [shifted0 p h r (by omega), shifted1 p h r (by omega), o0 (by omega), o1 (by omega)]
        simp only [zero_mul, add_zero]
        abel
  · have e : 8 + (r.val - 8) = r.val := by omega
    unfold tileMid
    simp only [e]
    rw [shifted0 p h r (by omega), shifted1 p h r (by omega), shifted2 p h r (by omega), shifted3 p h r (by omega)]
    abel
  · have e : 248 + (r.val - 8 - 240) = r.val := by omega
    have e2 := edges2 p h ⟨r.val - 8 - 240, by omega⟩
    have e3 := edges3 p h ⟨r.val - 8 - 240, by omega⟩
    have o2 := edges2_out h ⟨r.val - 8 - 240, by omega⟩
    have o3 := edges3_out h ⟨r.val - 8 - 240, by omega⟩
    unfold tileMid
    simp only [e] at e2 e3 o2 o3 ⊢
    rw [shifted0 p h r (by omega), shifted1 p h r (by omega)]
    by_cases h5 : r.val = 255
    · rw [shifted2_out p r (by omega), shifted3_out p r (by omega), e2 (by omega), e3 (by omega)]
      simp only [zero_mul, add_zero]
      abel
    · by_cases h4 : r.val = 254
      · rw [shifted2 p h r (by omega), shifted3_out p r (by omega), o2 (by omega), e3 (by omega)]
        simp only [zero_mul, add_zero]
        abel
      · rw [shifted2 p h r (by omega), shifted3 p h r (by omega), o2 (by omega), o3 (by omega)]
        simp only [zero_mul, add_zero]
        abel

theorem rows_sel (P : Vec Ideal S256x256 .bf16) (q : Fin 1024) (l : Fin 256) :
    k0_pay6 k0_pay3 P (ix2 q l) = shifted (fun c => P (ix2 c l)) q := by
  unfold k0_pay6
  pointwise [shifted]

theorem col_eq (w : FVec Ideal S8x3072 .f32) (P : Vec Ideal S256x256 .bf16) (H : Vec Ideal S1x1x16x256 .bf16) (o : ℕ)
    (ho : o + 256 ≤ 3072) (l : Fin 256) : col w selH (k0_pay6 k0_pay3 P) P H o ho r l
      = convGate (fun n => around (fun q => P (ix2 q l)) (fun k => H (ix4 0 0 k l)) ⟨r.val + n.val, by omega⟩)
          (fun n => w (ix2 ⟨n.val, by omega⟩ ⟨o + l.val, by omega⟩)) := by
  unfold col
  rw [← tileConv_eq]
  simp only [rows_sel]

end Cert.Kernel4Ideal.Layer

end
-- ==== Proof.ConvHeads.lean ====
/-
  The heads of the convolution call's tile: each piece that the call stores, at an index, as the token's row.
-/
module

public import proofs.«01_k».proof.Proof.ConvTile

@[expose] public section

set_option maxRecDepth 16384

noncomputable section

namespace Cert.Kernel4Ideal.Layer

open Idealize.ShloMosaic Idealize.ShloMosaic.TcCoe Idealize.ShloMosaic.Tactic Idealize.SL.Sem
open Cert.Kernel4Ideal Cert.Kernel4Ideal.Gen Cert.Layer

variable (w : FVec Ideal S8x3072 .f32) (g : FVec Ideal S32x16 .bf16) (s : FVec Ideal S1024x256 .f32)
  (p : Vec Ideal S256x256 .bf16) (h : Vec Ideal S1x1x16x256 .bf16)

theorem half_q0a (r : Fin 256) (l : Fin 128) :
    k0_pay10 (k0_pay9 w g s p h) (ix2 r l)
      = unitHead (fun k => col w g s p h 0 (by omega) r ⟨k.val, by omega⟩) l * Ideal.ofBits .f32 0x3DB504F3#32 := by
  unfold k0_pay10 k0_pay9
  pointwise [unitHead, chunk0]
  rw [mul_assoc]

theorem half_q0b (r : Fin 256) (l : Fin 128) :
    k0_pay11 (k0_pay8 w g s p h) (ix2 r l)
      = unitHead (fun k => col w g s p h 0 (by omega) r ⟨128 + k.val, by omega⟩) l * Ideal.ofBits .f32 0x3DB504F3#32 := by
  unfold k0_pay11
  pointwise [unitHead, chunk0]
  rw [mul_assoc]

theorem half_q1a (r : Fin 256) (l : Fin 128) :
    k0_pay16 w g s (k0_pay13 w s p) (k0_pay14 s) h (ix2 r l)
      = unitHead (fun k => col w g s p h 256 (by omega) r ⟨k.val, by omega⟩) l * Ideal.ofBits .f32 0x3DB504F3#32 := by
  unfold k0_pay16
  pointwise [unitHead, chunk1]
  rw [mul_assoc]

theorem half_q1b (r : Fin 256) (l : Fin 128) :
    k0_pay17 (k0_pay15 w g s (k0_pay13 w s p) (k0_pay14 s) h) (ix2 r l)
      = unitHead (fun k => col w g s p h 256 (by omega) r ⟨128 + k.val, by omega⟩) l * Ideal.ofBits .f32 0x3DB504F3#32 := by
  unfold k0_pay17
  pointwise [unitHead, chunk1]
  rw [mul_assoc]

theorem half_q2a (r : Fin 256) (l : Fin 128) :
    k0_pay22 w g (k0_pay19 w s p) (k0_pay20 h) (constant S32x256 .f32 0x00000000#32) (ix2 r l)
      = unitHead (fun k => col w g s p h 512 (by omega) r ⟨k.val, by omega⟩) l * Ideal.ofBits .f32 0x3DB504F3#32 := by
  unfold k0_pay22
  pointwise [unitHead, chunk2]
  rw [mul_assoc]

theorem half_q2b (r : Fin 256) (l : Fin 128) :
    k0_pay24 (k0_pay23 w g (k0_pay19 w s p) (k0_pay20 h) (constant S32x256 .f32 0x00000000#32)) (ix2 r l)
      = unitHead (fun k => col w g s p h 512 (by omega) r ⟨128 + k.val, by omega⟩) l * Ideal.ofBits .f32 0x3DB504F3#32 := by
  unfold k0_pay24 k0_pay23
  pointwise [unitHead, chunk2]
  rw [mul_assoc]

theorem half_q3a (r : Fin 256) (l : Fin 128) :
    k0_pay33 w (k0_pay26 w s p) (k0_pay27 g h) (k0_pay28 w s p) (k0_pay29 w g s p h) (k0_pay30 g h) (k0_pay31 w) (ix2 r l)
      = unitHead (fun k => col w g s p h 768 (by omega) r ⟨k.val, by omega⟩) l * Ideal.ofBits .f32 0x3DB504F3#32 := by
  unfold k0_pay33
  pointwise [unitHead, chunk3]
  rw [mul_assoc]

theorem half_q3b (r : Fin 256) (l : Fin 128) :
    k0_pay34 w (k0_pay26 w s p) (k0_pay27 g h) (k0_pay28 w s p) (k0_pay29 w g s p h) (k0_pay30 g h) (k0_pay31 w) (ix2 r l)
      = unitHead (fun k => col w g s p h 768 (by omega) r ⟨128 + k.val, by omega⟩) l * Ideal.ofBits .f32 0x3DB504F3#32 := by
  unfold k0_pay34
  pointwise [unitHead, chunk3]
  rw [mul_assoc]

theorem half_k4a (r : Fin 256) (l : Fin 128) :
    k0_pay42 (k0_pay39 w g s (k0_pay36 p) (k0_pay37 w) h) (k0_pay40 w g s (k0_pay36 p) (k0_pay37 w) h) (ix2 r l)
      = unitHead (fun k => col w g s p h 1024 (by omega) r ⟨k.val, by omega⟩) l := by
  unfold k0_pay42 k0_pay41 k0_pay40 k0_pay39
  pointwise [unitHead, chunk4]

theorem half_k4b (r : Fin 256) (l : Fin 128) :
    k0_pay45 (k0_pay38 w g s (k0_pay36 p) (k0_pay37 w) h) (ix2 r l)
      = unitHead (fun k => col w g s p h 1024 (by omega) r ⟨128 + k.val, by omega⟩) l := by
  unfold k0_pay45 k0_pay44
  pointwise [unitHead, chunk4]

theorem half_k5a (r : Fin 256) (l : Fin 128) :
    k0_pay55 (k0_pay52 w g s (k0_pay48 w p) (k0_pay49 s) (k0_pay50 w) h) (k0_pay53 w g s (k0_pay48 w p) (k0_pay49 s) (k0_pay50 w) h) (ix2 r l)
      = unitHead (fun k => col w g s p h 1280 (by omega) r ⟨k.val, by omega⟩) l := by
  unfold k0_pay55 k0_pay54 k0_pay53 k0_pay52
  pointwise [unitHead, chunk5]

theorem half_k5b (r : Fin 256) (l : Fin 128) :
    k0_pay58 (k0_pay51 w g s (k0_pay48 w p) (k0_pay49 s) (k0_pay50 w) h) (ix2 r l)
      = unitHead (fun k => col w g s p h 1280 (by omega) r ⟨128 + k.val, by omega⟩) l := by
  unfold k0_pay58 k0_pay57
  pointwise [unitHead, chunk5]

theorem half_k6a (r : Fin 256) (l : Fin 128) :
    k0_pay68 (k0_pay65 w g s (k0_pay61 w s p) (k0_pay62 s) (k0_pay63 w) h) (k0_pay66 w g s (k0_pay61 w s p) (k0_pay62 s) (k0_pay63 w) h) (ix2 r l)
      = unitHead (fun k => col w g s p h 1536 (by omega) r ⟨k.val, by omega⟩) l := by
  unfold k0_pay68 k0_pay67 k0_pay66 k0_pay65
  pointwise [unitHead, chunk6]

theorem half_k6b (r : Fin 256) (l : Fin 128) :
    k0_pay71 (k0_pay64 w g s (k0_pay61 w s p) (k0_pay62 s) (k0_pay63 w) h) (ix2 r l)
      = unitHead (fun k => col w g s p h 1536 (by omega) r ⟨128 + k.val, by omega⟩) l := by
  unfold k0_pay71 k0_pay70
  pointwise [unitHead, chunk6]

theorem half_k7a (r : Fin 256) (l : Fin 128) :
    k0_pay78 w g s (k0_pay74 w s p) (k0_pay75 s) h (ix2 r l)
      = unitHead (fun k => col w g s p h 1792 (by omega) r ⟨k.val, by omega⟩) l := by
  unfold k0_pay78 k0_pay77
  pointwise [unitHead, chunk7]

theorem half_k7b (r : Fin 256) (l : Fin 128) :
    k0_pay81 (k0_pay76 w g s (k0_pay74 w s p) (k0_pay75 s) h) (ix2 r l)
      = unitHead (fun k => col w g s p h 1792 (by omega) r ⟨128 + k.val, by omega⟩) l := by
  unfold k0_pay81 k0_pay80
  pointwise [unitHead, chunk7]

theorem half_kt4a (r : Fin 256) (l : Fin 128) :
    k0_pay43 (k0_pay39 w g s (k0_pay36 p) (k0_pay37 w) h) (k0_pay40 w g s (k0_pay36 p) (k0_pay37 w) h) (ix2 l r)
      = unitHead (fun k => col w g s p h 1024 (by omega) r ⟨k.val, by omega⟩) l := by
  unfold k0_pay43 k0_pay41 k0_pay40 k0_pay39
  pointwise [unitHead, chunk4]

theorem half_kt4b (r : Fin 256) (l : Fin 128) :
    k0_pay46 (k0_pay38 w g s (k0_pay36 p) (k0_pay37 w) h) (ix2 l r)
      = unitHead (fun k => col w g s p h 1024 (by omega) r ⟨128 + k.val, by omega⟩) l := by
  unfold k0_pay46 k0_pay44
  pointwise [unitHead, chunk4]

theorem half_kt5a (r : Fin 256) (l : Fin 128) :
    k0_pay56 (k0_pay52 w g s (k0_pay48 w p) (k0_pay49 s) (k0_pay50 w) h) (k0_pay53 w g s (k0_pay48 w p) (k0_pay49 s) (k0_pay50 w) h) (ix2 l r)
      = unitHead (fun k => col w g s p h 1280 (by omega) r ⟨k.val, by omega⟩) l := by
  unfold k0_pay56 k0_pay54 k0_pay53 k0_pay52
  pointwise [unitHead, chunk5]

theorem half_kt5b (r : Fin 256) (l : Fin 128) :
    k0_pay59 (k0_pay51 w g s (k0_pay48 w p) (k0_pay49 s) (k0_pay50 w) h) (ix2 l r)
      = unitHead (fun k => col w g s p h 1280 (by omega) r ⟨128 + k.val, by omega⟩) l := by
  unfold k0_pay59 k0_pay57
  pointwise [unitHead, chunk5]

theorem half_kt6a (r : Fin 256) (l : Fin 128) :
    k0_pay69 (k0_pay65 w g s (k0_pay61 w s p) (k0_pay62 s) (k0_pay63 w) h) (k0_pay66 w g s (k0_pay61 w s p) (k0_pay62 s) (k0_pay63 w) h) (ix2 l r)
      = unitHead (fun k => col w g s p h 1536 (by omega) r ⟨k.val, by omega⟩) l := by
  unfold k0_pay69 k0_pay67 k0_pay66 k0_pay65
  pointwise [unitHead, chunk6]

theorem half_kt6b (r : Fin 256) (l : Fin 128) :
    k0_pay72 (k0_pay64 w g s (k0_pay61 w s p) (k0_pay62 s) (k0_pay63 w) h) (ix2 l r)
      = unitHead (fun k => col w g s p h 1536 (by omega) r ⟨128 + k.val, by omega⟩) l := by
  unfold k0_pay72 k0_pay70
  pointwise [unitHead, chunk6]

theorem half_kt7a (r : Fin 256) (l : Fin 128) :
    k0_pay79 (k0_pay77 w g s (k0_pay74 w s p) (k0_pay75 s) h) (ix2 l r)
      = unitHead (fun k => col w g s p h 1792 (by omega) r ⟨k.val, by omega⟩) l := by
  unfold k0_pay79 k0_pay77
  pointwise [unitHead, chunk7]

theorem half_kt7b (r : Fin 256) (l : Fin 128) :
    k0_pay82 (k0_pay76 w g s (k0_pay74 w s p) (k0_pay75 s) h) (ix2 l r)
      = unitHead (fun k => col w g s p h 1792 (by omega) r ⟨128 + k.val, by omega⟩) l := by
  unfold k0_pay82 k0_pay80
  pointwise [unitHead, chunk7]

/-- Row `r` of a tile after the convolution: the tile's rows `x0`, the neighbours' `x1`, the weights `x3`. -/
def tileRow (x0 : Vec Ideal S256x3072 .bf16) (x1 : Vec Ideal S1x1x16x3072 .bf16) (x3 : Vec Ideal S8x3072 .f32) (r : Fin 256)
    (j : Fin 3072) : EReal :=
  convGate (fun n => around (fun q => x0 (ix2 q j)) (fun k => x1 (ix4 0 0 k j)) ⟨r.val + n.val, by omega⟩)
    (fun n => x3 (ix2 ⟨n.val, by omega⟩ j))

theorem mixRow_q (x : Fin 3072 → EReal) (o : ℕ) (hm : o % 128 = 0) (ho : o + 128 ≤ 1024) (f : Fin 128 → Fin 3072)
    (hf : ∀ k, (f k).val = o + k.val) (l : Fin 128) (j : Fin 3072) (hj : j.val = o + l.val) :
    unitHead (fun k => x (f k)) l * Ideal.ofBits .f32 0x3DB504F3#32 = mixRow x j := by
  unfold mixRow
  rw [if_pos (by omega)]
  have e : f = headLane j := funext fun k => Fin.ext (by rw [hf k]; show _ = 128 * (j.val / 128) + k.val; omega)
  have e' : l = ⟨j.val % 128, by omega⟩ := Fin.ext (by show l.val = j.val % 128; omega)
  rw [← e, ← e']

theorem mixRow_k (x : Fin 3072 → EReal) (o : ℕ) (hm : o % 128 = 0) (ho : 1024 ≤ o ∧ o + 128 ≤ 2048) (f : Fin 128 → Fin 3072)
    (hf : ∀ k, (f k).val = o + k.val) (l : Fin 128) (j : Fin 3072) (hj : j.val = o + l.val) :
    unitHead (fun k => x (f k)) l = mixRow x j := by
  unfold mixRow
  rw [if_neg (by omega), if_pos (by omega)]
  have e : f = headLane j := funext fun k => Fin.ext (by rw [hf k]; show _ = 128 * (j.val / 128) + k.val; omega)
  have e' : l = ⟨j.val % 128, by omega⟩ := Fin.ext (by show l.val = j.val % 128; omega)
  rw [← e, ← e']

theorem mixRow_v (x : Fin 3072 → EReal) (j i : Fin 3072) (h : 2048 ≤ j.val) (hj : j.val = i.val) : x i = mixRow x j := by
  obtain rfl := Fin.ext hj
  unfold mixRow
  rw [if_neg (by omega), if_neg (by omega)]

variable (x0 : Vec Ideal S256x3072 .bf16) (x1 : Vec Ideal S1x1x16x3072 .bf16) (x3 : Vec Ideal S8x3072 .f32)
  (W : FVec Ideal S8x3072 .f32) (P : Vec Ideal S256x256 .bf16) (H : Vec Ideal S1x1x16x256 .bf16)
  (hW : ∀ (n : Fin 8) (j : Fin 3072), W (ix2 n j) = x3 (ix2 n j))

include hW in
theorem col_row (o : ℕ) (ho : o + 256 ≤ 3072) (hP : ∀ q l : Fin 256, P (ix2 q l) = x0 (ix2 q ⟨o + l.val, by omega⟩))
    (hH : ∀ (k : Fin 16) (l : Fin 256), H (ix4 0 0 k l) = x1 (ix4 0 0 k ⟨o + l.val, by omega⟩)) (r l : Fin 256) :
    col W selH (k0_pay6 k0_pay3 P) P H o ho r l = tileRow x0 x1 x3 r ⟨o + l.val, by omega⟩ := by
  rw [col_eq]
  unfold tileRow
  simp only [hP, hH, hW]

include hW in
theorem at_q0a (hP : ∀ q l : Fin 256, P (ix2 q l) = x0 (ix2 q ⟨0 + l.val, by omega⟩))
    (hH : ∀ (k : Fin 16) (l : Fin 256), H (ix4 0 0 k l) = x1 (ix4 0 0 k ⟨0 + l.val, by omega⟩)) (r : Fin 256) (l : Fin 128)
    (j : Fin 3072) (hj : j.val = 0 + l.val) :
    k0_pay10 (k0_pay9 W selH (k0_pay6 k0_pay3 P) P H) (ix2 r l)
      = mixRow (tileRow x0 x1 x3 r) j := by
  refine (half_q0a _ _ _ _ _ r l).trans ?_
  rw [show (fun k : Fin 128 => col W selH (k0_pay6 k0_pay3 P) P H 0 (by omega) r ⟨k.val, by omega⟩)
    = fun k => tileRow x0 x1 x3 r ⟨0 + k.val, by omega⟩ from
      funext fun k => col_row x0 x1 x3 W P H hW 0 (by omega) hP hH r _]
  exact mixRow_q _ 0 rfl (by omega) _ (fun k => by show 0 + k.val = 0 + k.val; omega) l j hj

include hW in
theorem at_q0b (hP : ∀ q l : Fin 256, P (ix2 q l) = x0 (ix2 q ⟨0 + l.val, by omega⟩))
    (hH : ∀ (k : Fin 16) (l : Fin 256), H (ix4 0 0 k l) = x1 (ix4 0 0 k ⟨0 + l.val, by omega⟩)) (r : Fin 256) (l : Fin 128)
    (j : Fin 3072) (hj : j.val = 128 + l.val) :
    k0_pay11 (k0_pay8 W selH (k0_pay6 k0_pay3 P) P H) (ix2 r l)
      = mixRow (tileRow x0 x1 x3 r) j := by
  refine (half_q0b _ _ _ _ _ r l).trans ?_
  rw [show (fun k : Fin 128 => col W selH (k0_pay6 k0_pay3 P) P H 0 (by omega) r ⟨128 + k.val, by omega⟩)
    = fun k => tileRow x0 x1 x3 r ⟨0 + (128 + k.val), by omega⟩ from
      funext fun k => col_row x0 x1 x3 W P H hW 0 (by omega) hP hH r _]
  exact mixRow_q _ 128 rfl (by omega) _ (fun k => by show 0 + (128 + k.val) = 128 + k.val; omega) l j hj

include hW in
theorem at_q1a (hP : ∀ q l : Fin 256, P (ix2 q l) = x0 (ix2 q ⟨256 + l.val, by omega⟩))
    (hH : ∀ (k : Fin 16) (l : Fin 256), H (ix4 0 0 k l) = x1 (ix4 0 0 k ⟨256 + l.val, by omega⟩)) (r : Fin 256) (l : Fin 128)
    (j : Fin 3072) (hj : j.val = 256 + l.val) :
    k0_pay16 W selH (k0_pay7 k0_pay3 P) (k0_pay13 W (k0_pay7 k0_pay3 P) P) (k0_pay14 (k0_pay7 k0_pay3 P)) H (ix2 r l)
      = mixRow (tileRow x0 x1 x3 r) j := by
  refine (half_q1a _ _ _ _ _ r l).trans ?_
  rw [show (fun k : Fin 128 => col W selH (k0_pay7 k0_pay3 P) P H 256 (by omega) r ⟨k.val, by omega⟩)
    = fun k => tileRow x0 x1 x3 r ⟨256 + k.val, by omega⟩ from
      funext fun k => col_row x0 x1 x3 W P H hW 256 (by omega) hP hH r _]
  exact mixRow_q _ 256 rfl (by omega) _ (fun k => by show 256 + k.val = 256 + k.val; omega) l j hj

include hW in
theorem at_q1b (hP : ∀ q l : Fin 256, P (ix2 q l) = x0 (ix2 q ⟨256 + l.val, by omega⟩))
    (hH : ∀ (k : Fin 16) (l : Fin 256), H (ix4 0 0 k l) = x1 (ix4 0 0 k ⟨256 + l.val, by omega⟩)) (r : Fin 256) (l : Fin 128)
    (j : Fin 3072) (hj : j.val = 384 + l.val) :
    k0_pay17 (k0_pay15 W selH (k0_pay7 k0_pay3 P) (k0_pay13 W (k0_pay7 k0_pay3 P) P) (k0_pay14 (k0_pay7 k0_pay3 P)) H) (ix2 r l)
      = mixRow (tileRow x0 x1 x3 r) j := by
  refine (half_q1b _ _ _ _ _ r l).trans ?_
  rw [show (fun k : Fin 128 => col W selH (k0_pay7 k0_pay3 P) P H 256 (by omega) r ⟨128 + k.val, by omega⟩)
    = fun k => tileRow x0 x1 x3 r ⟨256 + (128 + k.val), by omega⟩ from
      funext fun k => col_row x0 x1 x3 W P H hW 256 (by omega) hP hH r _]
  exact mixRow_q _ 384 rfl (by omega) _ (fun k => by show 256 + (128 + k.val) = 384 + k.val; omega) l j hj

include hW in
theorem at_q2a (hP : ∀ q l : Fin 256, P (ix2 q l) = x0 (ix2 q ⟨512 + l.val, by omega⟩))
    (hH : ∀ (k : Fin 16) (l : Fin 256), H (ix4 0 0 k l) = x1 (ix4 0 0 k ⟨512 + l.val, by omega⟩)) (r : Fin 256) (l : Fin 128)
    (j : Fin 3072) (hj : j.val = 512 + l.val) :
    k0_pay22 W selH (k0_pay19 W (k0_pay12 k0_pay3 P) P) (k0_pay20 H) (constant S32x256 .f32 0x00000000#32) (ix2 r l)
      = mixRow (tileRow x0 x1 x3 r) j := by
  refine (half_q2a _ _ _ _ _ r l).trans ?_
  rw [show (fun k : Fin 128 => col W selH (k0_pay12 k0_pay3 P) P H 512 (by omega) r ⟨k.val, by omega⟩)
    = fun k => tileRow x0 x1 x3 r ⟨512 + k.val, by omega⟩ from
      funext fun k => col_row x0 x1 x3 W P H hW 512 (by omega) hP hH r _]
  exact mixRow_q _ 512 rfl (by omega) _ (fun k => by show 512 + k.val = 512 + k.val; omega) l j hj

include hW in
theorem at_q2b (hP : ∀ q l : Fin 256, P (ix2 q l) = x0 (ix2 q ⟨512 + l.val, by omega⟩))
    (hH : ∀ (k : Fin 16) (l : Fin 256), H (ix4 0 0 k l) = x1 (ix4 0 0 k ⟨512 + l.val, by omega⟩)) (r : Fin 256) (l : Fin 128)
    (j : Fin 3072) (hj : j.val = 640 + l.val) :
    k0_pay24 (k0_pay23 W selH (k0_pay19 W (k0_pay12 k0_pay3 P) P) (k0_pay20 H) (constant S32x256 .f32 0x00000000#32)) (ix2 r l)
      = mixRow (tileRow x0 x1 x3 r) j := by
  refine (half_q2b _ _ _ _ _ r l).trans ?_
  rw [show (fun k : Fin 128 => col W selH (k0_pay12 k0_pay3 P) P H 512 (by omega) r ⟨128 + k.val, by omega⟩)
    = fun k => tileRow x0 x1 x3 r ⟨512 + (128 + k.val), by omega⟩ from
      funext fun k => col_row x0 x1 x3 W P H hW 512 (by omega) hP hH r _]
  exact mixRow_q _ 640 rfl (by omega) _ (fun k => by show 512 + (128 + k.val) = 640 + k.val; omega) l j hj

include hW in
theorem at_q3a (hP : ∀ q l : Fin 256, P (ix2 q l) = x0 (ix2 q ⟨768 + l.val, by omega⟩))
    (hH : ∀ (k : Fin 16) (l : Fin 256), H (ix4 0 0 k l) = x1 (ix4 0 0 k ⟨768 + l.val, by omega⟩)) (r : Fin 256) (l : Fin 128)
    (j : Fin 3072) (hj : j.val = 768 + l.val) :
    k0_pay33 W (k0_pay26 W (k0_pay18 k0_pay3 P) P) (k0_pay27 selH H) (k0_pay28 W (k0_pay18 k0_pay3 P) P) (k0_pay29 W selH (k0_pay18 k0_pay3 P) P H) (k0_pay30 selH H) (k0_pay31 W) (ix2 r l)
      = mixRow (tileRow x0 x1 x3 r) j := by
  refine (half_q3a _ _ _ _ _ r l).trans ?_
  rw [show (fun k : Fin 128 => col W selH (k0_pay18 k0_pay3 P) P H 768 (by omega) r ⟨k.val, by omega⟩)
    = fun k => tileRow x0 x1 x3 r ⟨768 + k.val, by omega⟩ from
      funext fun k => col_row x0 x1 x3 W P H hW 768 (by omega) hP hH r _]
  exact mixRow_q _ 768 rfl (by omega) _ (fun k => by show 768 + k.val = 768 + k.val; omega) l j hj

include hW in
theorem at_q3b (hP : ∀ q l : Fin 256, P (ix2 q l) = x0 (ix2 q ⟨768 + l.val, by omega⟩))
    (hH : ∀ (k : Fin 16) (l : Fin 256), H (ix4 0 0 k l) = x1 (ix4 0 0 k ⟨768 + l.val, by omega⟩)) (r : Fin 256) (l : Fin 128)
    (j : Fin 3072) (hj : j.val = 896 + l.val) :
    k0_pay34 W (k0_pay26 W (k0_pay18 k0_pay3 P) P) (k0_pay27 selH H) (k0_pay28 W (k0_pay18 k0_pay3 P) P) (k0_pay29 W selH (k0_pay18 k0_pay3 P) P H) (k0_pay30 selH H) (k0_pay31 W) (ix2 r l)
      = mixRow (tileRow x0 x1 x3 r) j := by
  refine (half_q3b _ _ _ _ _ r l).trans ?_
  rw [show (fun k : Fin 128 => col W selH (k0_pay18 k0_pay3 P) P H 768 (by omega) r ⟨128 + k.val, by omega⟩)
    = fun k => tileRow x0 x1 x3 r ⟨768 + (128 + k.val), by omega⟩ from
      funext fun k => col_row x0 x1 x3 W P H hW 768 (by omega) hP hH r _]
  exact mixRow_q _ 896 rfl (by omega) _ (fun k => by show 768 + (128 + k.val) = 896 + k.val; omega) l j hj

include hW in
theorem at_k4a (hP : ∀ q l : Fin 256, P (ix2 q l) = x0 (ix2 q ⟨1024 + l.val, by omega⟩))
    (hH : ∀ (k : Fin 16) (l : Fin 256), H (ix4 0 0 k l) = x1 (ix4 0 0 k ⟨1024 + l.val, by omega⟩)) (r : Fin 256) (l : Fin 128)
    (j : Fin 3072) (hj : j.val = 1024 + l.val) :
    k0_pay42 (k0_pay39 W selH (k0_pay25 k0_pay3 P) (k0_pay36 P) (k0_pay37 W) H) (k0_pay40 W selH (k0_pay25 k0_pay3 P) (k0_pay36 P) (k0_pay37 W) H) (ix2 r l)
      = mixRow (tileRow x0 x1 x3 r) j := by
  refine (half_k4a _ _ _ _ _ r l).trans ?_
  rw [show (fun k : Fin 128 => col W selH (k0_pay25 k0_pay3 P) P H 1024 (by omega) r ⟨k.val, by omega⟩)
    = fun k => tileRow x0 x1 x3 r ⟨1024 + k.val, by omega⟩ from
      funext fun k => col_row x0 x1 x3 W P H hW 1024 (by omega) hP hH r _]
  exact mixRow_k _ 1024 rfl (by omega) _ (fun k => by show 1024 + k.val = 1024 + k.val; omega) l j hj

include hW in
theorem at_k4b (hP : ∀ q l : Fin 256, P (ix2 q l) = x0 (ix2 q ⟨1024 + l.val, by omega⟩))
    (hH : ∀ (k : Fin 16) (l : Fin 256), H (ix4 0 0 k l) = x1 (ix4 0 0 k ⟨1024 + l.val, by omega⟩)) (r : Fin 256) (l : Fin 128)
    (j : Fin 3072) (hj : j.val = 1152 + l.val) :
    k0_pay45 (k0_pay38 W selH (k0_pay25 k0_pay3 P) (k0_pay36 P) (k0_pay37 W) H) (ix2 r l)
      = mixRow (tileRow x0 x1 x3 r) j := by
  refine (half_k4b _ _ _ _ _ r l).trans ?_
  rw [show (fun k : Fin 128 => col W selH (k0_pay25 k0_pay3 P) P H 1024 (by omega) r ⟨128 + k.val, by omega⟩)
    = fun k => tileRow x0 x1 x3 r ⟨1024 + (128 + k.val), by omega⟩ from
      funext fun k => col_row x0 x1 x3 W P H hW 1024 (by omega) hP hH r _]
  exact mixRow_k _ 1152 rfl (by omega) _ (fun k => by show 1024 + (128 + k.val) = 1152 + k.val; omega) l j hj

include hW in
theorem at_k5a (hP : ∀ q l : Fin 256, P (ix2 q l) = x0 (ix2 q ⟨1280 + l.val, by omega⟩))
    (hH : ∀ (k : Fin 16) (l : Fin 256), H (ix4 0 0 k l) = x1 (ix4 0 0 k ⟨1280 + l.val, by omega⟩)) (r : Fin 256) (l : Fin 128)
    (j : Fin 3072) (hj : j.val = 1280 + l.val) :
    k0_pay55 (k0_pay52 W selH (k0_pay35 k0_pay3 P) (k0_pay48 W P) (k0_pay49 (k0_pay35 k0_pay3 P)) (k0_pay50 W) H) (k0_pay53 W selH (k0_pay35 k0_pay3 P) (k0_pay48 W P) (k0_pay49 (k0_pay35 k0_pay3 P)) (k0_pay50 W) H) (ix2 r l)
      = mixRow (tileRow x0 x1 x3 r) j := by
  refine (half_k5a _ _ _ _ _ r l).trans ?_
  rw [show (fun k : Fin 128 => col W selH (k0_pay35 k0_pay3 P) P H 1280 (by omega) r ⟨k.val, by omega⟩)
    = fun k => tileRow x0 x1 x3 r ⟨1280 + k.val, by omega⟩ from
      funext fun k => col_row x0 x1 x3 W P H hW 1280 (by omega) hP hH r _]
  exact mixRow_k _ 1280 rfl (by omega) _ (fun k => by show 1280 + k.val = 1280 + k.val; omega) l j hj

include hW in
theorem at_k5b (hP : ∀ q l : Fin 256, P (ix2 q l) = x0 (ix2 q ⟨1280 + l.val, by omega⟩))
    (hH : ∀ (k : Fin 16) (l : Fin 256), H (ix4 0 0 k l) = x1 (ix4 0 0 k ⟨1280 + l.val, by omega⟩)) (r : Fin 256) (l : Fin 128)
    (j : Fin 3072) (hj : j.val = 1408 + l.val) :
    k0_pay58 (k0_pay51 W selH (k0_pay35 k0_pay3 P) (k0_pay48 W P) (k0_pay49 (k0_pay35 k0_pay3 P)) (k0_pay50 W) H) (ix2 r l)
      = mixRow (tileRow x0 x1 x3 r) j := by
  refine (half_k5b _ _ _ _ _ r l).trans ?_
  rw [show (fun k : Fin 128 => col W selH (k0_pay35 k0_pay3 P) P H 1280 (by omega) r ⟨128 + k.val, by omega⟩)
    = fun k => tileRow x0 x1 x3 r ⟨1280 + (128 + k.val), by omega⟩ from
      funext fun k => col_row x0 x1 x3 W P H hW 1280 (by omega) hP hH r _]
  exact mixRow_k _ 1408 rfl (by omega) _ (fun k => by show 1280 + (128 + k.val) = 1408 + k.val; omega) l j hj

include hW in
theorem at_k6a (hP : ∀ q l : Fin 256, P (ix2 q l) = x0 (ix2 q ⟨1536 + l.val, by omega⟩))
    (hH : ∀ (k : Fin 16) (l : Fin 256), H (ix4 0 0 k l) = x1 (ix4 0 0 k ⟨1536 + l.val, by omega⟩)) (r : Fin 256) (l : Fin 128)
    (j : Fin 3072) (hj : j.val = 1536 + l.val) :
    k0_pay68 (k0_pay65 W selH (k0_pay47 k0_pay3 P) (k0_pay61 W (k0_pay47 k0_pay3 P) P) (k0_pay62 (k0_pay47 k0_pay3 P)) (k0_pay63 W) H) (k0_pay66 W selH (k0_pay47 k0_pay3 P) (k0_pay61 W (k0_pay47 k0_pay3 P) P) (k0_pay62 (k0_pay47 k0_pay3 P)) (k0_pay63 W) H) (ix2 r l)
      = mixRow (tileRow x0 x1 x3 r) j := by
  refine (half_k6a _ _ _ _ _ r l).trans ?_
  rw [show (fun k : Fin 128 => col W selH (k0_pay47 k0_pay3 P) P H 1536 (by omega) r ⟨k.val, by omega⟩)
    = fun k => tileRow x0 x1 x3 r ⟨1536 + k.val, by omega⟩ from
      funext fun k => col_row x0 x1 x3 W P H hW 1536 (by omega) hP hH r _]
  exact mixRow_k _ 1536 rfl (by omega) _ (fun k => by show 1536 + k.val = 1536 + k.val; omega) l j hj

include hW in
theorem at_k6b (hP : ∀ q l : Fin 256, P (ix2 q l) = x0 (ix2 q ⟨1536 + l.val, by omega⟩))
    (hH : ∀ (k : Fin 16) (l : Fin 256), H (ix4 0 0 k l) = x1 (ix4 0 0 k ⟨1536 + l.val, by omega⟩)) (r : Fin 256) (l : Fin 128)
    (j : Fin 3072) (hj : j.val = 1664 + l.val) :
    k0_pay71 (k0_pay64 W selH (k0_pay47 k0_pay3 P) (k0_pay61 W (k0_pay47 k0_pay3 P) P) (k0_pay62 (k0_pay47 k0_pay3 P)) (k0_pay63 W) H) (ix2 r l)
      = mixRow (tileRow x0 x1 x3 r) j := by
  refine (half_k6b _ _ _ _ _ r l).trans ?_
  rw [show (fun k : Fin 128 => col W selH (k0_pay47 k0_pay3 P) P H 1536 (by omega) r ⟨128 + k.val, by omega⟩)
    = fun k => tileRow x0 x1 x3 r ⟨1536 + (128 + k.val), by omega⟩ from
      funext fun k => col_row x0 x1 x3 W P H hW 1536 (by omega) hP hH r _]
  exact mixRow_k _ 1664 rfl (by omega) _ (fun k => by show 1536 + (128 + k.val) = 1664 + k.val; omega) l j hj

include hW in
theorem at_k7a (hP : ∀ q l : Fin 256, P (ix2 q l) = x0 (ix2 q ⟨1792 + l.val, by omega⟩))
    (hH : ∀ (k : Fin 16) (l : Fin 256), H (ix4 0 0 k l) = x1 (ix4 0 0 k ⟨1792 + l.val, by omega⟩)) (r : Fin 256) (l : Fin 128)
    (j : Fin 3072) (hj : j.val = 1792 + l.val) :
    k0_pay78 W selH (k0_pay60 k0_pay3 P) (k0_pay74 W (k0_pay60 k0_pay3 P) P) (k0_pay75 (k0_pay60 k0_pay3 P)) H (ix2 r l)
      = mixRow (tileRow x0 x1 x3 r) j := by
  refine (half_k7a _ _ _ _ _ r l).trans ?_
  rw [show (fun k : Fin 128 => col W selH (k0_pay60 k0_pay3 P) P H 1792 (by omega) r ⟨k.val, by omega⟩)
    = fun k => tileRow x0 x1 x3 r ⟨1792 + k.val, by omega⟩ from
      funext fun k => col_row x0 x1 x3 W P H hW 1792 (by omega) hP hH r _]
  exact mixRow_k _ 1792 rfl (by omega) _ (fun k => by show 1792 + k.val = 1792 + k.val; omega) l j hj

include hW in
theorem at_k7b (hP : ∀ q l : Fin 256, P (ix2 q l) = x0 (ix2 q ⟨1792 + l.val, by omega⟩))
    (hH : ∀ (k : Fin 16) (l : Fin 256), H (ix4 0 0 k l) = x1 (ix4 0 0 k ⟨1792 + l.val, by omega⟩)) (r : Fin 256) (l : Fin 128)
    (j : Fin 3072) (hj : j.val = 1920 + l.val) :
    k0_pay81 (k0_pay76 W selH (k0_pay60 k0_pay3 P) (k0_pay74 W (k0_pay60 k0_pay3 P) P) (k0_pay75 (k0_pay60 k0_pay3 P)) H) (ix2 r l)
      = mixRow (tileRow x0 x1 x3 r) j := by
  refine (half_k7b _ _ _ _ _ r l).trans ?_
  rw [show (fun k : Fin 128 => col W selH (k0_pay60 k0_pay3 P) P H 1792 (by omega) r ⟨128 + k.val, by omega⟩)
    = fun k => tileRow x0 x1 x3 r ⟨1792 + (128 + k.val), by omega⟩ from
      funext fun k => col_row x0 x1 x3 W P H hW 1792 (by omega) hP hH r _]
  exact mixRow_k _ 1920 rfl (by omega) _ (fun k => by show 1792 + (128 + k.val) = 1920 + k.val; omega) l j hj

include hW in
theorem at_kt4a (hP : ∀ q l : Fin 256, P (ix2 q l) = x0 (ix2 q ⟨1024 + l.val, by omega⟩))
    (hH : ∀ (k : Fin 16) (l : Fin 256), H (ix4 0 0 k l) = x1 (ix4 0 0 k ⟨1024 + l.val, by omega⟩)) (r : Fin 256) (l : Fin 128)
    (j : Fin 3072) (hj : j.val = 1024 + l.val) :
    k0_pay43 (k0_pay39 W selH (k0_pay25 k0_pay3 P) (k0_pay36 P) (k0_pay37 W) H) (k0_pay40 W selH (k0_pay25 k0_pay3 P) (k0_pay36 P) (k0_pay37 W) H) (ix2 l r)
      = mixRow (tileRow x0 x1 x3 r) j := by
  refine (half_kt4a _ _ _ _ _ r l).trans ?_
  rw [show (fun k : Fin 128 => col W selH (k0_pay25 k0_pay3 P) P H 1024 (by omega) r ⟨k.val, by omega⟩)
    = fun k => tileRow x0 x1 x3 r ⟨1024 + k.val, by omega⟩ from
      funext fun k => col_row x0 x1 x3 W P H hW 1024 (by omega) hP hH r _]
  exact mixRow_k _ 1024 rfl (by omega) _ (fun k => by show 1024 + k.val = 1024 + k.val; omega) l j hj

include hW in
theorem at_kt4b (hP : ∀ q l : Fin 256, P (ix2 q l) = x0 (ix2 q ⟨1024 + l.val, by omega⟩))
    (hH : ∀ (k : Fin 16) (l : Fin 256), H (ix4 0 0 k l) = x1 (ix4 0 0 k ⟨1024 + l.val, by omega⟩)) (r : Fin 256) (l : Fin 128)
    (j : Fin 3072) (hj : j.val = 1152 + l.val) :
    k0_pay46 (k0_pay38 W selH (k0_pay25 k0_pay3 P) (k0_pay36 P) (k0_pay37 W) H) (ix2 l r)
      = mixRow (tileRow x0 x1 x3 r) j := by
  refine (half_kt4b _ _ _ _ _ r l).trans ?_
  rw [show (fun k : Fin 128 => col W selH (k0_pay25 k0_pay3 P) P H 1024 (by omega) r ⟨128 + k.val, by omega⟩)
    = fun k => tileRow x0 x1 x3 r ⟨1024 + (128 + k.val), by omega⟩ from
      funext fun k => col_row x0 x1 x3 W P H hW 1024 (by omega) hP hH r _]
  exact mixRow_k _ 1152 rfl (by omega) _ (fun k => by show 1024 + (128 + k.val) = 1152 + k.val; omega) l j hj

include hW in
theorem at_kt5a (hP : ∀ q l : Fin 256, P (ix2 q l) = x0 (ix2 q ⟨1280 + l.val, by omega⟩))
    (hH : ∀ (k : Fin 16) (l : Fin 256), H (ix4 0 0 k l) = x1 (ix4 0 0 k ⟨1280 + l.val, by omega⟩)) (r : Fin 256) (l : Fin 128)
    (j : Fin 3072) (hj : j.val = 1280 + l.val) :
    k0_pay56 (k0_pay52 W selH (k0_pay35 k0_pay3 P) (k0_pay48 W P) (k0_pay49 (k0_pay35 k0_pay3 P)) (k0_pay50 W) H) (k0_pay53 W selH (k0_pay35 k0_pay3 P) (k0_pay48 W P) (k0_pay49 (k0_pay35 k0_pay3 P)) (k0_pay50 W) H) (ix2 l r)
      = mixRow (tileRow x0 x1 x3 r) j := by
  refine (half_kt5a _ _ _ _ _ r l).trans ?_
  rw [show (fun k : Fin 128 => col W selH (k0_pay35 k0_pay3 P) P H 1280 (by omega) r ⟨k.val, by omega⟩)
    = fun k => tileRow x0 x1 x3 r ⟨1280 + k.val, by omega⟩ from
      funext fun k => col_row x0 x1 x3 W P H hW 1280 (by omega) hP hH r _]
  exact mixRow_k _ 1280 rfl (by omega) _ (fun k => by show 1280 + k.val = 1280 + k.val; omega) l j hj

include hW in
theorem at_kt5b (hP : ∀ q l : Fin 256, P (ix2 q l) = x0 (ix2 q ⟨1280 + l.val, by omega⟩))
    (hH : ∀ (k : Fin 16) (l : Fin 256), H (ix4 0 0 k l) = x1 (ix4 0 0 k ⟨1280 + l.val, by omega⟩)) (r : Fin 256) (l : Fin 128)
    (j : Fin 3072) (hj : j.val = 1408 + l.val) :
    k0_pay59 (k0_pay51 W selH (k0_pay35 k0_pay3 P) (k0_pay48 W P) (k0_pay49 (k0_pay35 k0_pay3 P)) (k0_pay50 W) H) (ix2 l r)
      = mixRow (tileRow x0 x1 x3 r) j := by
  refine (half_kt5b _ _ _ _ _ r l).trans ?_
  rw [show (fun k : Fin 128 => col W selH (k0_pay35 k0_pay3 P) P H 1280 (by omega) r ⟨128 + k.val, by omega⟩)
    = fun k => tileRow x0 x1 x3 r ⟨1280 + (128 + k.val), by omega⟩ from
      funext fun k => col_row x0 x1 x3 W P H hW 1280 (by omega) hP hH r _]
  exact mixRow_k _ 1408 rfl (by omega) _ (fun k => by show 1280 + (128 + k.val) = 1408 + k.val; omega) l j hj

include hW in
theorem at_kt6a (hP : ∀ q l : Fin 256, P (ix2 q l) = x0 (ix2 q ⟨1536 + l.val, by omega⟩))
    (hH : ∀ (k : Fin 16) (l : Fin 256), H (ix4 0 0 k l) = x1 (ix4 0 0 k ⟨1536 + l.val, by omega⟩)) (r : Fin 256) (l : Fin 128)
    (j : Fin 3072) (hj : j.val = 1536 + l.val) :
    k0_pay69 (k0_pay65 W selH (k0_pay47 k0_pay3 P) (k0_pay61 W (k0_pay47 k0_pay3 P) P) (k0_pay62 (k0_pay47 k0_pay3 P)) (k0_pay63 W) H) (k0_pay66 W selH (k0_pay47 k0_pay3 P) (k0_pay61 W (k0_pay47 k0_pay3 P) P) (k0_pay62 (k0_pay47 k0_pay3 P)) (k0_pay63 W) H) (ix2 l r)
      = mixRow (tileRow x0 x1 x3 r) j := by
  refine (half_kt6a _ _ _ _ _ r l).trans ?_
  rw [show (fun k : Fin 128 => col W selH (k0_pay47 k0_pay3 P) P H 1536 (by omega) r ⟨k.val, by omega⟩)
    = fun k => tileRow x0 x1 x3 r ⟨1536 + k.val, by omega⟩ from
      funext fun k => col_row x0 x1 x3 W P H hW 1536 (by omega) hP hH r _]
  exact mixRow_k _ 1536 rfl (by omega) _ (fun k => by show 1536 + k.val = 1536 + k.val; omega) l j hj

include hW in
theorem at_kt6b (hP : ∀ q l : Fin 256, P (ix2 q l) = x0 (ix2 q ⟨1536 + l.val, by omega⟩))
    (hH : ∀ (k : Fin 16) (l : Fin 256), H (ix4 0 0 k l) = x1 (ix4 0 0 k ⟨1536 + l.val, by omega⟩)) (r : Fin 256) (l : Fin 128)
    (j : Fin 3072) (hj : j.val = 1664 + l.val) :
    k0_pay72 (k0_pay64 W selH (k0_pay47 k0_pay3 P) (k0_pay61 W (k0_pay47 k0_pay3 P) P) (k0_pay62 (k0_pay47 k0_pay3 P)) (k0_pay63 W) H) (ix2 l r)
      = mixRow (tileRow x0 x1 x3 r) j := by
  refine (half_kt6b _ _ _ _ _ r l).trans ?_
  rw [show (fun k : Fin 128 => col W selH (k0_pay47 k0_pay3 P) P H 1536 (by omega) r ⟨128 + k.val, by omega⟩)
    = fun k => tileRow x0 x1 x3 r ⟨1536 + (128 + k.val), by omega⟩ from
      funext fun k => col_row x0 x1 x3 W P H hW 1536 (by omega) hP hH r _]
  exact mixRow_k _ 1664 rfl (by omega) _ (fun k => by show 1536 + (128 + k.val) = 1664 + k.val; omega) l j hj

include hW in
theorem at_kt7a (hP : ∀ q l : Fin 256, P (ix2 q l) = x0 (ix2 q ⟨1792 + l.val, by omega⟩))
    (hH : ∀ (k : Fin 16) (l : Fin 256), H (ix4 0 0 k l) = x1 (ix4 0 0 k ⟨1792 + l.val, by omega⟩)) (r : Fin 256) (l : Fin 128)
    (j : Fin 3072) (hj : j.val = 1792 + l.val) :
    k0_pay79 (k0_pay77 W selH (k0_pay60 k0_pay3 P) (k0_pay74 W (k0_pay60 k0_pay3 P) P) (k0_pay75 (k0_pay60 k0_pay3 P)) H) (ix2 l r)
      = mixRow (tileRow x0 x1 x3 r) j := by
  refine (half_kt7a _ _ _ _ _ r l).trans ?_
  rw [show (fun k : Fin 128 => col W selH (k0_pay60 k0_pay3 P) P H 1792 (by omega) r ⟨k.val, by omega⟩)
    = fun k => tileRow x0 x1 x3 r ⟨1792 + k.val, by omega⟩ from
      funext fun k => col_row x0 x1 x3 W P H hW 1792 (by omega) hP hH r _]
  exact mixRow_k _ 1792 rfl (by omega) _ (fun k => by show 1792 + k.val = 1792 + k.val; omega) l j hj

include hW in
theorem at_kt7b (hP : ∀ q l : Fin 256, P (ix2 q l) = x0 (ix2 q ⟨1792 + l.val, by omega⟩))
    (hH : ∀ (k : Fin 16) (l : Fin 256), H (ix4 0 0 k l) = x1 (ix4 0 0 k ⟨1792 + l.val, by omega⟩)) (r : Fin 256) (l : Fin 128)
    (j : Fin 3072) (hj : j.val = 1920 + l.val) :
    k0_pay82 (k0_pay76 W selH (k0_pay60 k0_pay3 P) (k0_pay74 W (k0_pay60 k0_pay3 P) P) (k0_pay75 (k0_pay60 k0_pay3 P)) H) (ix2 l r)
      = mixRow (tileRow x0 x1 x3 r) j := by
  refine (half_kt7b _ _ _ _ _ r l).trans ?_
  rw [show (fun k : Fin 128 => col W selH (k0_pay60 k0_pay3 P) P H 1792 (by omega) r ⟨128 + k.val, by omega⟩)
    = fun k => tileRow x0 x1 x3 r ⟨1792 + (128 + k.val), by omega⟩ from
      funext fun k => col_row x0 x1 x3 W P H hW 1792 (by omega) hP hH r _]
  exact mixRow_k _ 1920 rfl (by omega) _ (fun k => by show 1792 + (128 + k.val) = 1920 + k.val; omega) l j hj

include hW in
theorem at_v8a (hP : ∀ q l : Fin 256, P (ix2 q l) = x0 (ix2 q ⟨2048 + l.val, by omega⟩))
    (hH : ∀ (k : Fin 16) (l : Fin 256), H (ix4 0 0 k l) = x1 (ix4 0 0 k ⟨2048 + l.val, by omega⟩)) (r : Fin 256) (l : Fin 256)
    (j : Fin 3072) (hj : j.val = 2048 + l.val) :
    k0_pay85 W selH (k0_pay73 k0_pay3 P) (k0_pay84 W (k0_pay73 k0_pay3 P) P) H (ix2 r l)
      = mixRow (tileRow x0 x1 x3 r) j := by
  refine (chunk8 _ _ _ _ _ r l).trans ((col_row x0 x1 x3 W P H hW 2048 (by omega) hP hH r l).trans ?_)
  exact mixRow_v _ j _ (by omega) hj

include hW in
theorem at_v9a (hP : ∀ q l : Fin 256, P (ix2 q l) = x0 (ix2 q ⟨2304 + l.val, by omega⟩))
    (hH : ∀ (k : Fin 16) (l : Fin 256), H (ix4 0 0 k l) = x1 (ix4 0 0 k ⟨2304 + l.val, by omega⟩)) (r : Fin 256) (l : Fin 256)
    (j : Fin 3072) (hj : j.val = 2304 + l.val) :
    k0_pay89 W selH (k0_pay83 k0_pay3 P) (k0_pay87 W P) (k0_pay88 W (k0_pay83 k0_pay3 P)) H (ix2 r l)
      = mixRow (tileRow x0 x1 x3 r) j := by
  refine (chunk9 _ _ _ _ _ r l).trans ((col_row x0 x1 x3 W P H hW 2304 (by omega) hP hH r l).trans ?_)
  exact mixRow_v _ j _ (by omega) hj

include hW in
theorem at_v10a (hP : ∀ q l : Fin 256, P (ix2 q l) = x0 (ix2 q ⟨2560 + l.val, by omega⟩))
    (hH : ∀ (k : Fin 16) (l : Fin 256), H (ix4 0 0 k l) = x1 (ix4 0 0 k ⟨2560 + l.val, by omega⟩)) (r : Fin 256) (l : Fin 256)
    (j : Fin 3072) (hj : j.val = 2560 + l.val) :
    k0_pay93 (k0_pay91 W selH (k0_pay86 k0_pay3 P) P H) (k0_pay92 W selH (k0_pay86 k0_pay3 P) P H) (ix2 r l)
      = mixRow (tileRow x0 x1 x3 r) j := by
  refine (chunk10 _ _ _ _ _ r l).trans ((col_row x0 x1 x3 W P H hW 2560 (by omega) hP hH r l).trans ?_)
  exact mixRow_v _ j _ (by omega) hj

include hW in
theorem at_v11a (hP : ∀ q l : Fin 256, P (ix2 q l) = x0 (ix2 q ⟨2816 + l.val, by omega⟩))
    (hH : ∀ (k : Fin 16) (l : Fin 256), H (ix4 0 0 k l) = x1 (ix4 0 0 k ⟨2816 + l.val, by omega⟩)) (r : Fin 256) (l : Fin 256)
    (j : Fin 3072) (hj : j.val = 2816 + l.val) :
    k0_pay100 (k0_pay94 W (k0_pay90 k0_pay3 P) P) (k0_pay96 W selH (k0_pay90 k0_pay3 P) P H) (k0_pay97 W selH (k0_pay90 k0_pay3 P) P H) (k0_pay98 selH H) (k0_pay99 W) (ix2 r l)
      = mixRow (tileRow x0 x1 x3 r) j := by
  refine (chunk11 _ _ _ _ _ r l).trans ((col_row x0 x1 x3 W P H hW 2816 (by omega) hP hH r l).trans ?_)
  exact mixRow_v _ j _ (by omega) hj

end Cert.Kernel4Ideal.Layer

end
-- ==== Proof.ConvOut.lean ====
/-
  The convolution call's two result blocks at an index.
-/
module

public import proofs.«01_k».proof.Proof.ConvHeads

@[expose] public section

set_option maxRecDepth 16384

noncomputable section

namespace Cert.Kernel4Ideal.Layer

open Idealize.ShloMosaic Idealize.ShloMosaic.TcCoe Idealize.ShloMosaic.Tactic Idealize.SL.Sem
open Cert.Kernel4Ideal Cert.Kernel4Ideal.Gen Cert.Layer

theorem out5_at (c : Dev nD) (t : Fin cfg0.N) (b0 : Vec Ideal S256x3072 .bf16) (b1 : Vec Ideal S1x1x16x3072 .bf16)
    (b2 : Vec Ideal S256x128 .f32) (b3 : Vec Ideal S8x3072 .f32) (b4 : Vec Ideal S8x128 .f32) (r : Fin 256) (j : Fin 3072) :
    out0_A_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) b0 b1 b2 b3 b4
      (ix2 r j) = mixRow (tileRow b0 b1 b3 r) j := by
  unfold out0_A_5
  rw [View.read_writes_junk_eq_canon]
  unfold kernelRun0_A
  dsimp only
  sl_unfold_words
  simp only [View.readAt_eq_ld, (hs0_0 t).read_unread, (hs0_1 t).read_unread, (hs0_3 t).read_unread]
  canon_tiles x h using View.cover_of_tiledBy _ ![256, 128] (by sl_kernel_rfl) _
  all_goals
    idx_vars x
    obtain rfl := Fin.ext h0
  case piece0 =>
    exact at_v11a b0 b1 b3 _ _ _ (fun n j => by unfold k0_pay2; pointwise [])
      (fun q l => by pointwise []) (fun k l => by pointwise []) _ _ _ h1
  case piece1 =>
    exact at_v10a b0 b1 b3 _ _ _ (fun n j => by unfold k0_pay2; pointwise [])
      (fun q l => by pointwise []) (fun k l => by pointwise []) _ _ _ h1
  case piece2 =>
    exact at_v9a b0 b1 b3 _ _ _ (fun n j => by unfold k0_pay2; pointwise [])
      (fun q l => by pointwise []) (fun k l => by pointwise []) _ _ _ h1
  case piece3 =>
    exact at_v8a b0 b1 b3 _ _ _ (fun n j => by unfold k0_pay2; pointwise [])
      (fun q l => by pointwise []) (fun k l => by pointwise []) _ _ _ h1
  case piece4 =>
    exact at_k7b b0 b1 b3 _ _ _ (fun n j => by unfold k0_pay2; pointwise [])
      (fun q l => by pointwise []) (fun k l => by pointwise []) _ _ _ h1
  case piece5 =>
    exact at_k7a b0 b1 b3 _ _ _ (fun n j => by unfold k0_pay2; pointwise [])
      (fun q l => by pointwise []) (fun k l => by pointwise []) _ _ _ h1
  case piece6 =>
    exact at_k6b b0 b1 b3 _ _ _ (fun n j => by unfold k0_pay2; pointwise [])
      (fun q l => by pointwise []) (fun k l => by pointwise []) _ _ _ h1
  case piece7 =>
    exact at_k6a b0 b1 b3 _ _ _ (fun n j => by unfold k0_pay2; pointwise [])
      (fun q l => by pointwise []) (fun k l => by pointwise []) _ _ _ h1
  case piece8 =>
    exact at_k5b b0 b1 b3 _ _ _ (fun n j => by unfold k0_pay2; pointwise [])
      (fun q l => by pointwise []) (fun k l => by pointwise []) _ _ _ h1
  case piece9 =>
    exact at_k5a b0 b1 b3 _ _ _ (fun n j => by unfold k0_pay2; pointwise [])
      (fun q l => by pointwise []) (fun k l => by pointwise []) _ _ _ h1
  case piece10 =>
    exact at_k4b b0 b1 b3 _ _ _ (fun n j => by unfold k0_pay2; pointwise [])
      (fun q l => by pointwise []) (fun k l => by pointwise []) _ _ _ h1
  case piece11 =>
    exact at_k4a b0 b1 b3 _ _ _ (fun n j => by unfold k0_pay2; pointwise [])
      (fun q l => by pointwise []) (fun k l => by pointwise []) _ _ _ h1
  case piece12 =>
    exact at_q3b b0 b1 b3 _ _ _ (fun n j => by unfold k0_pay2; pointwise [])
      (fun q l => by pointwise []) (fun k l => by pointwise []) _ _ _ h1
  case piece13 =>
    exact at_q3a b0 b1 b3 _ _ _ (fun n j => by unfold k0_pay2; pointwise [])
      (fun q l => by pointwise []) (fun k l => by pointwise []) _ _ _ h1
  case piece14 =>
    exact at_q2b b0 b1 b3 _ _ _ (fun n j => by unfold k0_pay2; pointwise [])
      (fun q l => by pointwise []) (fun k l => by pointwise []) _ _ _ h1
  case piece15 =>
    exact at_q2a b0 b1 b3 _ _ _ (fun n j => by unfold k0_pay2; pointwise [])
      (fun q l => by pointwise []) (fun k l => by pointwise []) _ _ _ h1
  case piece16 =>
    exact at_q1b b0 b1 b3 _ _ _ (fun n j => by unfold k0_pay2; pointwise [])
      (fun q l => by pointwise []) (fun k l => by pointwise []) _ _ _ h1
  case piece17 =>
    exact at_q1a b0 b1 b3 _ _ _ (fun n j => by unfold k0_pay2; pointwise [])
      (fun q l => by pointwise []) (fun k l => by pointwise []) _ _ _ h1
  case piece18 =>
    exact at_q0b b0 b1 b3 _ _ _ (fun n j => by unfold k0_pay2; pointwise [])
      (fun q l => by pointwise []) (fun k l => by pointwise []) _ _ _ h1
  case piece19 =>
    exact at_q0a b0 b1 b3 _ _ _ (fun n j => by unfold k0_pay2; pointwise [])
      (fun q l => by pointwise []) (fun k l => by pointwise []) _ _ _ (by omega)

theorem out6_at (c : Dev nD) (t : Fin cfg0.N) (b0 : Vec Ideal S256x3072 .bf16) (b1 : Vec Ideal S1x1x16x3072 .bf16)
    (b2 : Vec Ideal S256x128 .f32) (b3 : Vec Ideal S8x3072 .f32) (b4 : Vec Ideal S8x128 .f32) (r : Fin 256) (a : Fin 1024) :
    out0_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) b0 b1 b2 b3 b4
      (ix2 a r) = mixRow (tileRow b0 b1 b3 r) ⟨1024 + a.val, by omega⟩ := by
  unfold out0_A_6
  rw [View.read_writes_junk_eq_canon]
  unfold kernelRun0_A
  dsimp only
  sl_unfold_words
  simp only [View.readAt_eq_ld, (hs0_0 t).read_unread, (hs0_1 t).read_unread, (hs0_3 t).read_unread]
  canon_tiles x h using View.cover_of_tiledBy _ ![128, 256] (by sl_kernel_rfl) _
  all_goals
    idx_vars x
    obtain rfl := Fin.ext h1
  case piece0 =>
    exact at_kt7b b0 b1 b3 _ _ _ (fun n j => by unfold k0_pay2; pointwise [])
      (fun q l => by pointwise []) (fun k l => by pointwise []) _ _ _ (by show 1024 + a.val = 1920 + _; omega)
  case piece1 =>
    exact at_kt7a b0 b1 b3 _ _ _ (fun n j => by unfold k0_pay2; pointwise [])
      (fun q l => by pointwise []) (fun k l => by pointwise []) _ _ _ (by show 1024 + a.val = 1792 + _; omega)
  case piece2 =>
    exact at_kt6b b0 b1 b3 _ _ _ (fun n j => by unfold k0_pay2; pointwise [])
      (fun q l => by pointwise []) (fun k l => by pointwise []) _ _ _ (by show 1024 + a.val = 1664 + _; omega)
  case piece3 =>
    exact at_kt6a b0 b1 b3 _ _ _ (fun n j => by unfold k0_pay2; pointwise [])
      (fun q l => by pointwise []) (fun k l => by pointwise []) _ _ _ (by show 1024 + a.val = 1536 + _; omega)
  case piece4 =>
    exact at_kt5b b0 b1 b3 _ _ _ (fun n j => by unfold k0_pay2; pointwise [])
      (fun q l => by pointwise []) (fun k l => by pointwise []) _ _ _ (by show 1024 + a.val = 1408 + _; omega)
  case piece5 =>
    exact at_kt5a b0 b1 b3 _ _ _ (fun n j => by unfold k0_pay2; pointwise [])
      (fun q l => by pointwise []) (fun k l => by pointwise []) _ _ _ (by show 1024 + a.val = 1280 + _; omega)
  case piece6 =>
    exact at_kt4b b0 b1 b3 _ _ _ (fun n j => by unfold k0_pay2; pointwise [])
      (fun q l => by pointwise []) (fun k l => by pointwise []) _ _ _ (by show 1024 + a.val = 1152 + _; omega)
  case piece7 =>
    exact at_kt4a b0 b1 b3 _ _ _ (fun n j => by unfold k0_pay2; pointwise [])
      (fun q l => by pointwise []) (fun k l => by pointwise []) _ _ _ (by show 1024 + a.val = 1024 + _; omega)

end Cert.Kernel4Ideal.Layer

end
-- ==== Proof.ConvReads.lean ====
/-
  What the convolution call's windows hold at a grid point, read at an index of the arrays.
-/
module

public import proofs.«01_k».proof.Proof.Gen.Kernel4Ideal.Frame
public import Idealize.ShloMosaic.Lib.Pointwise
public import Idealize.ShloMosaic.Lib.Pipeline.ValueKit

@[expose] public section

set_option maxRecDepth 16384

noncomputable section

namespace Cert.Kernel4Ideal.Layer

open Idealize.ShloMosaic Idealize.ShloMosaic.TcCoe Idealize.ShloMosaic.Tactic Idealize.SL.Sem
open Cert.Kernel4Ideal Cert.Kernel4Ideal.Gen

variable (m : (ℓ : Loc nD τ sig) → Buf (Elt Ideal) ℓ) (c : Dev nD)

theorem idx0 : ∀ t : Fin grid0.N, win0_0.index t = ![t.val, 0] ∧ win0_1.index t = ![t.val / 8, t.val % 8, 0, 0]
    ∧ win0_3.index t = ![0, 0] ∧ win0_5.index t = ![t.val, 0] ∧ win0_6.index t = ![0, t.val] := by
  decide +kernel

/-- Row `r` of grid point `t`, and the point's sequence and tile. -/
abbrev row0 (t : Fin cfg0.N) (r : Fin 256) : Fin 8192 :=
  ⟨t.val * 256 + r.val, by have := t.isLt; have : cfg0.N = 32 := rfl; omega⟩
abbrev seq0 (t : Fin cfg0.N) : Fin 4 := ⟨t.val / 8, by have := t.isLt; have : cfg0.N = 32 := rfl; omega⟩
abbrev tile0 (t : Fin cfg0.N) : Fin 8 := ⟨t.val % 8, by omega⟩

theorem read0_0 (t : Fin cfg0.N) (r : Fin 256) (k : Fin 3072) :
    iblk m c 0 t (ix2 r k) = V m c main_arg0 (ix2 (row0 t r) ⟨k.val, by omega⟩) := by
  blk_ext [iblk, idx0 t]

theorem read0_1 (t : Fin cfg0.N) (r : Fin 16) (k : Fin 3072) :
    iblk m c 1 t (ix4 0 0 r k) = V m c main_v27 (ix4 (seq0 t) (tile0 t) r k) := by
  blk_ext [iblk, idx0 t]

theorem read0_3 (t : Fin cfg0.N) (r : Fin 8) (k : Fin 3072) :
    iblk m c 3 t (ix2 r k) = V m c main_v14 (ix2 r k) := by
  blk_ext [iblk, idx0 t]

end Cert.Kernel4Ideal.Layer

end
-- ==== Proof.ConvTok.lean ====
/-
  The rows of four sequences with the sixteen meta tokens before each and nothing after: what stands next to a
  token, and the token's row after the short convolution.
-/
module

public import proofs.«01_k».proof.Proof.ConvSpec
public import proofs.«01_k».proof.Proof.SampleSpec

@[expose] public section

noncomputable section

namespace Cert.Layer

open Idealize.ShloMosaic

/-- Channel `j` at distance `u - 2` of the start of sequence `s`: the last two meta rows, the sequence, and zero. -/
def tok (p : (⟨2, ![8192, 6144]⟩ : Shape).Idx → EReal) (h : (⟨2, ![16, 6144]⟩ : Shape).Idx → EReal) (s : Fin 4)
    (j : Fin 3072) (u : Fin 2052) : EReal :=
  if _ : u.val < 2 then h (ix2 ⟨14 + u.val, by omega⟩ ⟨j.val, by omega⟩)
  else if _ : u.val < 2050 then p (ix2 (rowAt s ⟨u.val - 2, by omega⟩) ⟨j.val, by omega⟩)
  else 0

/-- Token `t` of sequence `s` after the convolution. -/
def tokRow (p : (⟨2, ![8192, 6144]⟩ : Shape).Idx → EReal) (h : (⟨2, ![16, 6144]⟩ : Shape).Idx → EReal)
    (w : (⟨3, ![1, 5, 3072]⟩ : Shape).Idx → EReal) (s : Fin 4) (t : Fin 2048) (j : Fin 3072) : EReal :=
  convGate (fun n => tok p h s j ⟨t.val + n.val, by omega⟩) fun n => w (ix3 0 n j)

/-- Key channel `a` of a row. -/
def keyMix (x : Fin 3072 → EReal) (a : Fin 1024) : EReal := mixRow x ⟨1024 + a.val, by omega⟩

end Cert.Layer

end
-- ==== Proof.ConvArrays.lean ====
/-
  The convolution call's two result arrays, as functions of the arrays it reads.
-/
module

public import proofs.«01_k».proof.Proof.ConvOut
public import proofs.«01_k».proof.Proof.ConvReads
public import proofs.«01_k».proof.Proof.ConvTok

@[expose] public section

set_option maxRecDepth 16384

noncomputable section

namespace Cert.Kernel4Ideal.Layer

open Idealize.ShloMosaic Idealize.ShloMosaic.TcCoe Idealize.ShloMosaic.Tactic Idealize.SL.Sem
open Cert.Kernel4Ideal Cert.Kernel4Ideal.Gen Cert.Layer

variable (m : (ℓ : Loc nD τ sig) → Buf (Elt Ideal) ℓ) (c : Dev nD)

/-- The neighbour at distance `n - 2` of row `i`, in channel `j`: of the row's own tile, or of the rows around it. -/
def near (i : Fin 8192) (j : Fin 3072) (n : Fin 5) : EReal :=
  around (fun q => V m c main_arg0 (ix2 ⟨i.val / 256 * 256 + q.val, by omega⟩ ⟨j.val, by omega⟩))
    (fun k => V m c main_v27 (ix4 ⟨i.val / 256 / 8, by omega⟩ ⟨i.val / 256 % 8, by omega⟩ k j)) ⟨i.val % 256 + n.val, by omega⟩

/-- Row `i` after the convolution. -/
def convRow (i : Fin 8192) (j : Fin 3072) : EReal :=
  convGate (near m c i j) fun n => V m c main_v14 (ix2 ⟨n.val, by omega⟩ j)

theorem tileRow_read (t : Fin cfg0.N) (r : Fin 256) :
    tileRow (iblk m c 0 t) (iblk m c 1 t) (iblk m c 3 t) r = convRow m c (row0 t r) := by
  funext j
  unfold tileRow convRow near
  simp only [read0_0, read0_1, read0_3]
  have h1 : (row0 t r).val / 256 = t.val := by show (t.val * 256 + r.val) / 256 = t.val; omega
  have h2 : (row0 t r).val % 256 = r.val := by show (t.val * 256 + r.val) % 256 = r.val; omega
  simp only [h1, h2]

theorem arr_qkv : (dats m 0 c).arrAt 5 cfg0.N
    = fun i : S8192x3072.Idx => mixRow (convRow m c (i 0)) (i 1) := by
  refine (dats m 0 c).arrAt_eq_of_covers 5 _ (by decide +kernel) fun t hf y => ?_
  blk_simp
  rw [after0_5]
  obtain ⟨r, j, rfl⟩ : ∃ (r : Fin 256) (j : Fin 3072), y = ix2 r j := ⟨y 0, y 1, eq_ix2 y⟩
  have e : (win0_5.blk t).view.emb (ix2 r j) = ix2 (row0 t r) j := by blk_ext [idx0 t]
  unfold outsAt0
  dsimp only
  rw [out5_at, tileRow_read, e]
  rfl

theorem arr_kt : (dats m 0 c).arrAt 6 cfg0.N
    = fun i : S1024x8192.Idx => keyMix (convRow m c (i 1)) (i 0) := by
  refine (dats m 0 c).arrAt_eq_of_covers 6 _ (by decide +kernel) fun t hf y => ?_
  blk_simp
  rw [after0_6]
  obtain ⟨a, r, rfl⟩ : ∃ (a : Fin 1024) (r : Fin 256), y = ix2 a r := ⟨y 0, y 1, eq_ix2 y⟩
  have e : (win0_6.blk t).view.emb (ix2 a r) = ix2 a (row0 t r) := by blk_ext [idx0 t]
  unfold outsAt0
  dsimp only
  rw [out6_at, tileRow_read, e]
  rfl

end Cert.Kernel4Ideal.Layer

end
-- ==== Proof.ConvHalo.lean ====
/- The rows around each tile, as the host lays them out. -/
module

public import proofs.«01_k».proof.Proof.ConvTok
public import proofs.«01_k».proof.Proof.ConvReads

@[expose] public section

set_option maxRecDepth 16384

noncomputable section

namespace Cert.Kernel4Ideal.Layer

open Idealize.ShloMosaic Idealize.ShloMosaic.TcCoe Idealize.ShloMosaic.Tactic Idealize.SL.Sem
open Cert.Kernel4Ideal Cert.Kernel4Ideal.Gen Cert.Layer

section
variable (p : Vec Ideal S8192x6144 .bf16) (h : Vec Ideal S16x6144 .bf16)

/-- The two rows before each tile. -/
theorem rows_before (s : Fin 4) (b : Fin 8) (k : Fin 2) (j : Fin 3072) :
    (concatenate S4x8x2x3072 1
      [⟨S4x1x2x3072, broadcastInDim S4x1x2x3072 ![0, 1, 2, 3] bcast_S1x1x2x3072_S4x1x2x3072_0_1_2_3
          (broadcastInDim S1x1x2x3072 ![2, 3] bcast_S2x3072_S1x1x2x3072_2_3
            (extractStridedSlice S2x3072 ![14, 0] h slices_S16x6144_S2x3072_14_0))⟩,
        ⟨S4x7x2x3072, extractStridedSlice S4x7x2x3072 ![0, 0, 0, 0]
          (extractStridedSlice S4x8x2x3072 ![0, 0, 254, 0] (shapeCast S4x8x256x6144 p shapeCasts_S8192x6144_S4x8x256x6144)
            slices_S4x8x256x6144_S4x8x2x3072_0_0_254_0) slices_S4x8x2x3072_S4x7x2x3072_0_0_0_0⟩]
      concatenates_S4x1x2x3072_S4x7x2x3072_S4x8x2x3072_d1 : Vec Ideal S4x8x2x3072 .bf16) (ix4 s b k j)
      = tok p h s j ⟨b.val * 256 + k.val, by omega⟩ := by
  pointwise
  unfold tok
  by_cases hb : b.val = 0
  · rw [dif_pos (by omega), dif_pos (show b.val * 256 + k.val < 2 by omega)]
    exact congrArg (fun q => h (ix2 q ⟨j.val, by omega⟩)) (Fin.ext (show 14 + k.val = 14 + (b.val * 256 + k.val) by omega))
  · rw [dif_neg (by omega), dif_neg (show ¬ b.val * 256 + k.val < 2 by omega),
      dif_pos (show b.val * 256 + k.val < 2050 by omega)]
    exact congrArg (fun q => p (ix2 q ⟨j.val, by omega⟩))
      (Fin.ext (show s.val * 2048 + (b.val - 1) * 256 + (254 + k.val) = s.val * 2048 + (b.val * 256 + k.val - 2) by omega))

/-- The two rows after each tile. -/
theorem rows_after (s : Fin 4) (b : Fin 8) (k : Fin 2) (j : Fin 3072) :
    (concatenate S4x8x2x3072 1
      [⟨S4x7x2x3072, extractStridedSlice S4x7x2x3072 ![0, 1, 0, 0]
          (extractStridedSlice S4x8x2x3072 ![0, 0, 0, 0] (shapeCast S4x8x256x6144 p shapeCasts_S8192x6144_S4x8x256x6144)
            slices_S4x8x256x6144_S4x8x2x3072_0_0_0_0) slices_S4x8x2x3072_S4x7x2x3072_0_1_0_0⟩,
        ⟨S4x1x2x3072, broadcastInDim S4x1x2x3072 ![] bcast_S_S4x1x2x3072 (constant (F := Ideal) S_ .bf16 0x0000#16)⟩]
      concatenates_S4x7x2x3072_S4x1x2x3072_S4x8x2x3072_d1 : Vec Ideal S4x8x2x3072 .bf16) (ix4 s b k j)
      = tok p h s j ⟨b.val * 256 + 258 + k.val, by omega⟩ := by
  pointwise
  unfold tok
  by_cases hb : b.val < 7
  · rw [dif_pos hb, dif_neg (show ¬ b.val * 256 + 258 + k.val < 2 by omega),
      dif_pos (show b.val * 256 + 258 + k.val < 2050 by omega)]
    exact congrArg (fun q => p (ix2 q ⟨j.val, by omega⟩))
      (Fin.ext (show s.val * 2048 + (1 + b.val) * 256 + k.val = s.val * 2048 + (b.val * 256 + 258 + k.val - 2) by omega))
  · rw [dif_neg hb, dif_neg (show ¬ b.val * 256 + 258 + k.val < 2 by omega),
      dif_neg (show ¬ b.val * 256 + 258 + k.val < 2050 by omega)]

end

section
variable (σ : Valuation τ sig (Elt Ideal))

/-- The operations before the last, which joins the four parts. -/
abbrev hostPre : List (HloOp τ sig (Elt Ideal)) := hostOps0_2.take 14

theorem pre22 (s : Fin 4) (b : Fin 8) (k : Fin 2) (j : Fin 3072) :
    StableHlo.after hostPre σ (Proc.devRef .tc main_v22) (ix4 s b k j)
      = tok (σ (Proc.devRef .tc main_arg0)) (σ (Proc.devRef .tc main_arg1)) s j ⟨b.val * 256 + k.val, by omega⟩ := by
  simp only [hostPre, hostOps0_2, List.take_succ_cons, List.take_zero]
  entry_read
  exact rows_before (σ (Proc.devRef .tc main_arg0)) (σ (Proc.devRef .tc main_arg1)) s b k j

theorem pre25 (s : Fin 4) (b : Fin 8) (k : Fin 2) (j : Fin 3072) :
    StableHlo.after hostPre σ (Proc.devRef .tc main_v25) (ix4 s b k j)
      = tok (σ (Proc.devRef .tc main_arg0)) (σ (Proc.devRef .tc main_arg1)) s j ⟨b.val * 256 + 258 + k.val, by omega⟩ := by
  simp only [hostPre, hostOps0_2, List.take_succ_cons, List.take_zero]
  entry_read
  exact rows_after (σ (Proc.devRef .tc main_arg0)) (σ (Proc.devRef .tc main_arg1)) s b k j

theorem halo_split : StableHlo.after hostOps0_2 σ (Proc.devRef .tc main_v27)
    = concatenate S4x8x16x3072 2 [⟨S4x8x6x3072, StableHlo.after hostPre σ (Proc.devRef .tc main_v26)⟩,
        ⟨S4x8x2x3072, StableHlo.after hostPre σ (Proc.devRef .tc main_v22)⟩,
        ⟨S4x8x2x3072, StableHlo.after hostPre σ (Proc.devRef .tc main_v25)⟩,
        ⟨S4x8x6x3072, StableHlo.after hostPre σ (Proc.devRef .tc main_v26)⟩]
        concatenates_S4x8x6x3072_S4x8x2x3072_S4x8x2x3072_S4x8x6x3072_S4x8x16x3072_d2 := by
  simp only [hostPre, hostOps0_2, List.take_succ_cons, List.take_zero, StableHlo.after_cons, StableHlo.after_nil]
  exact StableHlo.nary4_result _ _ _ _

theorem halo_prev (s : Fin 4) (b : Fin 8) (k : Fin 2) (j : Fin 3072) :
    StableHlo.after hostOps0_2 σ (Proc.devRef .tc main_v27) (ix4 s b ⟨6 + k.val, by omega⟩ j)
      = tok (σ (Proc.devRef .tc main_arg0)) (σ (Proc.devRef .tc main_arg1)) s j ⟨b.val * 256 + k.val, by omega⟩ := by
  rw [halo_split, ← pre22]
  pointwise

theorem halo_next (s : Fin 4) (b : Fin 8) (k : Fin 2) (j : Fin 3072) :
    StableHlo.after hostOps0_2 σ (Proc.devRef .tc main_v27) (ix4 s b ⟨8 + k.val, by omega⟩ j)
      = tok (σ (Proc.devRef .tc main_arg0)) (σ (Proc.devRef .tc main_arg1)) s j ⟨b.val * 256 + 258 + k.val, by omega⟩ := by
  rw [halo_split, ← pre25]
  pointwise
  rw [dif_neg (by omega), dif_neg (by omega), dif_pos (by omega)]
  exact congrArg (fun q => StableHlo.after hostPre σ (Proc.devRef .tc main_v25) (ix4 s b q j))
    (Fin.ext (show 8 + k.val - 6 - 2 = k.val by omega))

end

end Cert.Kernel4Ideal.Layer

end
-- ==== Proof.ConvHost.lean ====
/- The arrays the convolution kernel is called with, read at an index as entries of the program's arguments. -/
module

public import proofs.«01_k».proof.Proof.ConvArrays
public import proofs.«01_k».proof.Proof.ConvHalo

@[expose] public section

set_option maxRecDepth 16384

noncomputable section

namespace Cert.Kernel4Ideal.Layer

open Idealize.ShloMosaic Idealize.ShloMosaic.TcCoe Idealize.ShloMosaic.Tactic Idealize.SL.Sem
open Cert.Kernel4Ideal Cert.Kernel4Ideal.Gen Cert.Layer

variable (m : (ℓ : Loc nD τ sig) → Buf (Elt Ideal) ℓ) (c : Dev nD)

/-- The projected rows and the meta rows of the launch, and the taps. -/
abbrev pArr : (⟨2, ![8192, 6144]⟩ : Shape).Idx → EReal := m ((c : Thread nD τ).loc main_arg0)
abbrev hArr : (⟨2, ![16, 6144]⟩ : Shape).Idx → EReal := m ((c : Thread nD τ).loc main_arg1)
abbrev wArr : (⟨3, ![1, 5, 3072]⟩ : Shape).Idx → EReal := m ((c : Thread nD τ).loc main_arg3)

theorem host_w (n : Fin 5) (j : Fin 3072) :
    V m c main_v14 (ix2 ⟨n.val, by omega⟩ j) = wArr m c (ix3 0 n j) := by
  simp only [V, hostOps0, hostOps0_1, hostOps0_2, List.flatten_cons, List.flatten_nil, List.append_nil, List.cons_append, List.nil_append]
  entry_read
  change pad S8x3072 ![0, 0] ![3, 0] ![0, 0] (shapeCast S5x3072 (wArr m c) shapeCasts_S1x5x3072_S5x3072)
    (sitofp (F := Ideal) .f32 (constantI S_ 32 0#32)) pads_S5x3072_S8x3072_030_000 h_S_ (ix2 ⟨n.val, _⟩ j) = _
  pointwise

/-- The contents the last stretch of host operations starts from, where the arguments are still the launch's. -/
abbrev midVal : Valuation τ sig (Elt Ideal) := StableHlo.after hostOps0_1 (StableHlo.after hostOps0 fun b => m (c, b))

theorem mid_p : midVal m c (Proc.devRef .tc main_arg0) = pArr m c := by
  unfold midVal
  simp only [hostOps0, hostOps0_1]
  entry_read
  rfl

theorem mid_h : midVal m c (Proc.devRef .tc main_arg1) = hArr m c := by
  unfold midVal
  simp only [hostOps0, hostOps0_1]
  entry_read
  rfl

theorem after_join (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

theorem V_mid (b : Ref sig .tc) : V m c b = StableHlo.after hostOps0_2 (midVal m c) (Proc.devRef .tc b) := by
  unfold V
  rw [List.flatten_cons, List.flatten_cons, List.flatten_cons, List.flatten_nil, List.append_nil, after_join, after_join]

theorem host_p (i : Fin 8192) (k : Fin 6144) : V m c main_arg0 (ix2 i k) = pArr m c (ix2 i k) :=
  congrFun (V_main_arg0 m c) _

theorem host_prev (s : Fin 4) (b : Fin 8) (k : Fin 2) (j : Fin 3072) : V m c main_v27 (ix4 s b ⟨6 + k.val, by omega⟩ j)
    = tok (pArr m c) (hArr m c) s j ⟨b.val * 256 + k.val, by omega⟩ := by
  refine (congrFun (V_mid m c main_v27) _).trans ((halo_prev (midVal m c) s b k j).trans ?_)
  exact congrArg₂ (fun p h => tok p h s j ⟨b.val * 256 + k.val, by omega⟩) (mid_p m c) (mid_h m c)

theorem host_next (s : Fin 4) (b : Fin 8) (k : Fin 2) (j : Fin 3072) : V m c main_v27 (ix4 s b ⟨8 + k.val, by omega⟩ j)
    = tok (pArr m c) (hArr m c) s j ⟨b.val * 256 + 258 + k.val, by omega⟩ := by
  refine (congrFun (V_mid m c main_v27) _).trans ((halo_next (midVal m c) s b k j).trans ?_)
  exact congrArg₂ (fun p h => tok p h s j ⟨b.val * 256 + 258 + k.val, by omega⟩) (mid_p m c) (mid_h m c)

/-- The row's neighbours, by sequence and place. -/
theorem near_of (p : Fin 8192 → EReal) (g : Fin 4 → Fin 8 → Fin 16 → EReal) (h : Fin 4 → Fin 2052 → EReal)
    (hp : ∀ (s : Fin 4) (u : Fin 2048), p (rowAt s u) = h s ⟨u.val + 2, by omega⟩)
    (h1 : ∀ s b (k : Fin 2), g s b ⟨6 + k.val, by omega⟩ = h s ⟨b.val * 256 + k.val, by omega⟩)
    (h2 : ∀ s b (k : Fin 2), g s b ⟨8 + k.val, by omega⟩ = h s ⟨b.val * 256 + 258 + k.val, by omega⟩)
    (i : Fin 8192) (n : Fin 5) :
    around (fun q => p ⟨i.val / 256 * 256 + q.val, by omega⟩)
        (fun k => g ⟨i.val / 256 / 8, by omega⟩ ⟨i.val / 256 % 8, by omega⟩ k) ⟨i.val % 256 + n.val, by omega⟩
      = h (seqOf i) ⟨(placeOf i).val + n.val, by omega⟩ := by
  have hu : (placeOf i).val = i.val / 256 % 8 * 256 + i.val % 256 := by show i.val % 2048 = _; omega
  have hs : (⟨i.val / 256 / 8, by omega⟩ : Fin 4) = seqOf i := Fin.ext (show i.val / 256 / 8 = i.val / 2048 by omega)
  unfold around
  rw [hs]
  by_cases c1 : i.val % 256 + n.val < 2
  · rw [dif_pos c1]
    refine (h1 (seqOf i) ⟨i.val / 256 % 8, by omega⟩ ⟨i.val % 256 + n.val, c1⟩).trans ?_
    exact congrArg (h _) (Fin.ext (show i.val / 256 % 8 * 256 + (i.val % 256 + n.val) = (placeOf i).val + n.val by omega))
  · by_cases c2 : i.val % 256 + n.val < 258
    · rw [dif_neg c1, dif_pos c2]
      refine Eq.trans (congrArg p (Fin.ext ?_)) ((hp (seqOf i) ⟨(placeOf i).val + n.val - 2, by omega⟩).trans ?_)
      · show i.val / 256 * 256 + (i.val % 256 + n.val - 2) = i.val / 2048 * 2048 + ((placeOf i).val + n.val - 2)
        omega
      · exact congrArg (h _) (Fin.ext (show (placeOf i).val + n.val - 2 + 2 = (placeOf i).val + n.val by omega))
    · rw [dif_neg c1, dif_neg c2]
      refine Eq.trans (congrArg (g _ _) (Fin.ext ?_))
        ((h2 (seqOf i) ⟨i.val / 256 % 8, by omega⟩ ⟨i.val % 256 + n.val - 258, by omega⟩).trans ?_)
      · show i.val % 256 + n.val - 250 = 8 + (i.val % 256 + n.val - 258)
        omega
      · exact congrArg (h _) (Fin.ext
          (show i.val / 256 % 8 * 256 + 258 + (i.val % 256 + n.val - 258) = (placeOf i).val + n.val by omega))

theorem tok_mid (p : (⟨2, ![8192, 6144]⟩ : Shape).Idx → EReal) (h : (⟨2, ![16, 6144]⟩ : Shape).Idx → EReal) (s : Fin 4)
    (j : Fin 3072) (u : Fin 2048) : p (ix2 (rowAt s u) ⟨j.val, by omega⟩) = tok p h s j ⟨u.val + 2, by omega⟩ := by
  unfold tok
  rw [dif_neg (show ¬ u.val + 2 < 2 by omega), dif_pos (show u.val + 2 < 2050 by omega)]
  rfl

theorem near_eq (i : Fin 8192) (j : Fin 3072) (n : Fin 5) :
    near m c i j n = tok (pArr m c) (hArr m c) (seqOf i) j ⟨(placeOf i).val + n.val, by omega⟩ :=
  near_of (fun q => V m c main_arg0 (ix2 q ⟨j.val, by omega⟩)) (fun s b k => V m c main_v27 (ix4 s b k j))
    (fun s u => tok (pArr m c) (hArr m c) s j u)
    (fun s u => (host_p m c _ _).trans (tok_mid (pArr m c) (hArr m c) s j u))
    (fun s b k => host_prev m c s b k j) (fun s b k => host_next m c s b k j) i n

theorem convRow_eq (i : Fin 8192) :
    convRow m c i = tokRow (pArr m c) (hArr m c) (wArr m c) (seqOf i) (placeOf i) := by
  funext j
  unfold convRow tokRow
  exact congrArg₂ convGate (funext fun n => near_eq m c i j n) (funext fun n => host_w m c n j)

/-- The program's two results. -/
theorem out_qkv : (dats m 0 c).arrAt 5 cfg0.N = fun i : S8192x3072.Idx =>
    mixRow (tokRow (pArr m c) (hArr m c) (wArr m c) (seqOf (i 0)) (placeOf (i 0))) (i 1) := by
  rw [arr_qkv]
  funext i
  exact congrArg (fun x => mixRow x (i 1)) (convRow_eq m c (i 0))

theorem out_kt : (dats m 0 c).arrAt 6 cfg0.N = fun i : S1024x8192.Idx =>
    keyMix (tokRow (pArr m c) (hArr m c) (wArr m c) (seqOf (i 1)) (placeOf (i 1))) (i 0) := by
  rw [arr_kt]
  funext i
  exact congrArg (fun x => keyMix x (i 0)) (convRow_eq m c (i 1))

end Cert.Kernel4Ideal.Layer

end
-- ==== Proof.ConvRef.lean ====
/- The convolution reference's values at an index, as the rows of `ConvTok`. -/
module

public import proofs.«01_k».proof.Proof.ConvTok
public import proofs.«01_k».proof.Proof.Gen.Reference4Ideal.Read
public import Idealize.ShloMosaic.Lib.Pointwise

@[expose] public section

set_option maxRecDepth 16384

noncomputable section

namespace Cert.Reference4Ideal.Layer

open Idealize.ShloMosaic Idealize.ShloMosaic.TcCoe Idealize.ShloMosaic.Tactic Idealize.SL.Sem
open Cert.Reference4Ideal Cert.Reference4Ideal.Read Cert.Layer

variable (x0 : (⟨S8192x6144, .bf16⟩ : BufTy).Contents (Elt Ideal)) (x1 : (⟨S16x6144, .bf16⟩ : BufTy).Contents (Elt Ideal))
  (x3 : (⟨S1x5x3072, .f32⟩ : BufTy).Contents (Elt Ideal))

/-- The padded rows, from two before a sequence's first token. -/
theorem ref_pad (s : Fin 4) (u : Fin 2052) (j : Fin 3072) :
    val_main_v8 (F := Ideal) x0 x1 (ix3 s ⟨16 + u.val, by omega⟩ j) = tok x0 x1 s j u := by
  pointwise [val_main_v8, val_main_v7, val_main_v6, val_main_v5, val_main_v4, val_main_v3, val_main_v2, val_main_v1,
    val_main_v0, val_main_call0_v0, val_main_c]
  unfold tok
  by_cases h1 : u.val < 2
  · rw [dif_pos (by omega), dif_pos (by omega), dif_pos h1]
    exact congrArg (fun q => x1 (ix2 q ⟨j.val, by omega⟩)) (Fin.ext (show 16 + u.val - 2 = 14 + u.val by omega))
  · by_cases h2 : u.val < 2050
    · rw [dif_pos (by omega), dif_neg (by omega), dif_neg h1, dif_pos h2]
      exact congrArg (fun q => x0 (ix2 q ⟨j.val, by omega⟩))
        (Fin.ext (show s.val * 2048 + (16 + u.val - 2 - 16) = s.val * 2048 + (u.val - 2) by omega))
    · rw [dif_neg (by omega), dif_neg h1, dif_neg h2]
      exact EReal.coe_eq_zero.2 (by norm_num)

/-- A channel after the five taps and the gate. -/
theorem ref_conv (s : Fin 4) (t : Fin 2048) (j : Fin 3072) :
    val_main_v45 (F := Ideal) x0 x1 x3 (ix3 s ⟨16 + t.val, by omega⟩ j) = tokRow x0 x1 x3 s t j := by
  have h (n : Fin 5) (q : Fin 2068) (hq : q.val = 16 + (t.val + n.val)) :
      val_main_v8 (F := Ideal) x0 x1 (ix3 s q j) = tok x0 x1 s j ⟨t.val + n.val, by omega⟩ :=
    (congrArg (fun q => val_main_v8 (F := Ideal) x0 x1 (ix3 s q j)) (Fin.ext hq)).trans (ref_pad x0 x1 s ⟨t.val + n.val, by omega⟩ j)
  show _ = silu (tok x0 x1 s j ⟨t.val + (0 : Fin 5).val, _⟩ * x3 (ix3 0 0 j) + tok x0 x1 s j ⟨t.val + (1 : Fin 5).val, _⟩ * x3 (ix3 0 1 j)
    + tok x0 x1 s j ⟨t.val + (2 : Fin 5).val, _⟩ * x3 (ix3 0 2 j) + tok x0 x1 s j ⟨t.val + (3 : Fin 5).val, _⟩ * x3 (ix3 0 3 j)
    + tok x0 x1 s j ⟨t.val + (4 : Fin 5).val, _⟩ * x3 (ix3 0 4 j))
  rw [← h 0 ⟨16 + t.val, by omega⟩ (by show 16 + t.val = 16 + (t.val + 0); omega),
    ← h 1 ⟨1 + (16 + t.val), by omega⟩ (by show 1 + (16 + t.val) = 16 + (t.val + 1); omega),
    ← h 2 ⟨2 + (16 + t.val), by omega⟩ (by show 2 + (16 + t.val) = 16 + (t.val + 2); omega),
    ← h 3 ⟨3 + (16 + t.val), by omega⟩ (by show 3 + (16 + t.val) = 16 + (t.val + 3); omega),
    ← h 4 ⟨4 + (16 + t.val), by omega⟩ (by show 4 + (16 + t.val) = 16 + (t.val + 4); omega)]
  pointwise [val_main_v45, val_main_call1_v5, val_main_call1_v4, val_main_call1_cst_0, val_main_call1_v3, val_main_call1_v2,
    val_main_call1_cst, val_main_call1_v1, val_main_call1_v0, val_main_v44, val_main_v43, val_main_v42, val_main_v41,
    val_main_v40, val_main_v39, val_main_v38, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_cst, val_main_v14, val_main_v13, val_main_v12, val_main_v11, val_main_v10,
    val_main_v9, silu]
  have e (z : EReal) : z * Ideal.div 1 (1 + Ideal.exp (-z)) = z * Ideal.logistic z := rfl
  exact e _

theorem ref_qlane (s : Fin 4) (t : Fin 2048) (hd : Fin 8) (l : Fin 128) :
    val_main_v47 (F := Ideal) x0 x1 x3 (ix4 s ⟨16 + t.val, by omega⟩ hd l)
      = tokRow x0 x1 x3 s t ⟨hd.val * 128 + l.val, by omega⟩ := by
  have key : val_main_v47 (F := Ideal) x0 x1 x3 (ix4 s ⟨16 + t.val, by omega⟩ hd l)
      = val_main_v45 (F := Ideal) x0 x1 x3 (ix3 s ⟨16 + t.val, by omega⟩ ⟨hd.val * 128 + l.val, by omega⟩) := by
    pointwise [val_main_v47, val_main_v46]
  rw [key, ref_conv]

theorem ref_klane (s : Fin 4) (t : Fin 2048) (hd : Fin 8) (l : Fin 128) :
    val_main_v59 (F := Ideal) x0 x1 x3 (ix4 s ⟨16 + t.val, by omega⟩ hd l)
      = tokRow x0 x1 x3 s t ⟨1024 + (hd.val * 128 + l.val), by omega⟩ := by
  have key : val_main_v59 (F := Ideal) x0 x1 x3 (ix4 s ⟨16 + t.val, by omega⟩ hd l)
      = val_main_v45 (F := Ideal) x0 x1 x3 (ix3 s ⟨16 + t.val, by omega⟩ ⟨1024 + (hd.val * 128 + l.val), by omega⟩) := by
    pointwise [val_main_v59, val_main_v58]
  rw [key, ref_conv]

/-- A head's lane over the head's length, as the host computes it. -/
theorem head_host (y : Fin 128 → EReal) (l : Fin 128) (a z : Elt Ideal .f32) (ha : a = y l) (hz : z = ∑ k, y k * y k) :
    FloatOps.mulf (F := Ideal) (φ := .f32) a (FloatOps.hostUnary .rsqrt (FloatOps.addf (FloatOps.ofBits .f32 0x00000000#32 + z)
      (FloatOps.ofBits .f32 0x358637BD#32))) = unitHead y l := by
  subst ha hz
  unfold unitHead
  show y l * Ideal.rsqrt (Ideal.ofBits .f32 0x00000000#32 + (∑ k, y k * y k) + Ideal.ofBits .f32 0x358637BD#32) = _
  rw [Ideal.ofBits_zero_f32, zero_add]

theorem ref_qunit (s : Fin 4) (t : Fin 2048) (hd : Fin 8) (l : Fin 128) :
    val_main_v55 (F := Ideal) x0 x1 x3 (ix4 s ⟨16 + t.val, by omega⟩ hd l)
      = unitHead (fun k => tokRow x0 x1 x3 s t ⟨hd.val * 128 + k.val, by omega⟩) l := by
  have e (k : Fin 128) : idx_main_v49 (idx_main_v50 (idx_main_v54 (ix4 s ⟨16 + t.val, by omega⟩ hd l))) k
      = ix4 s ⟨16 + t.val, by omega⟩ hd k :=
    funext fun a => match a with | ⟨0, _⟩ => rfl | ⟨1, _⟩ => rfl | ⟨2, _⟩ => rfl | ⟨3, _⟩ => rfl
  have h (k : Fin 128) : val_main_v48 (F := Ideal) x0 x1 x3
      (idx_main_v49 (idx_main_v50 (idx_main_v54 (ix4 s ⟨16 + t.val, by omega⟩ hd l))) k)
      = tokRow x0 x1 x3 s t ⟨hd.val * 128 + k.val, by omega⟩ * tokRow x0 x1 x3 s t ⟨hd.val * 128 + k.val, by omega⟩ :=
    (congrArg (val_main_v48 (F := Ideal) x0 x1 x3) (e k)).trans ((val_main_v48_apply x0 x1 x3 _).trans
      (congrArg (fun z : EReal => z * z) (ref_qlane x0 x1 x3 s t hd k)))
  rw [val_main_v55_apply, val_main_v54_apply, val_main_v53_apply, val_main_v52_apply, val_main_v51_apply,
    val_main_cst_1_apply, val_main_v50_apply, val_main_v49_apply, val_main_cst_0_apply]
  exact head_host _ l _ _ (ref_qlane x0 x1 x3 s t hd l) (Finset.sum_congr rfl fun k _ => h k)

theorem ref_q (s : Fin 4) (t : Fin 2048) (hd : Fin 8) (l : Fin 128) :
    val_main_v57 (F := Ideal) x0 x1 x3 (ix4 s ⟨16 + t.val, by omega⟩ hd l)
      = unitHead (fun k => tokRow x0 x1 x3 s t ⟨hd.val * 128 + k.val, by omega⟩) l * Ideal.ofBits .f32 0x3DB504F3#32 := by
  rw [val_main_v57_apply, val_main_v56_apply, val_main_cst_2_apply]
  exact congrArg (fun z : EReal => z * Ideal.ofBits .f32 0x3DB504F3#32) (ref_qunit x0 x1 x3 s t hd l)

theorem ref_k (s : Fin 4) (t : Fin 2048) (hd : Fin 8) (l : Fin 128) :
    val_main_v67 (F := Ideal) x0 x1 x3 (ix4 s ⟨16 + t.val, by omega⟩ hd l)
      = unitHead (fun k => tokRow x0 x1 x3 s t ⟨1024 + (hd.val * 128 + k.val), by omega⟩) l := by
  have e (k : Fin 128) : idx_main_v61 (idx_main_v62 (idx_main_v66 (ix4 s ⟨16 + t.val, by omega⟩ hd l))) k
      = ix4 s ⟨16 + t.val, by omega⟩ hd k :=
    funext fun a => match a with | ⟨0, _⟩ => rfl | ⟨1, _⟩ => rfl | ⟨2, _⟩ => rfl | ⟨3, _⟩ => rfl
  have h (k : Fin 128) : val_main_v60 (F := Ideal) x0 x1 x3
      (idx_main_v61 (idx_main_v62 (idx_main_v66 (ix4 s ⟨16 + t.val, by omega⟩ hd l))) k)
      = tokRow x0 x1 x3 s t ⟨1024 + (hd.val * 128 + k.val), by omega⟩
        * tokRow x0 x1 x3 s t ⟨1024 + (hd.val * 128 + k.val), by omega⟩ :=
    (congrArg (val_main_v60 (F := Ideal) x0 x1 x3) (e k)).trans ((val_main_v60_apply x0 x1 x3 _).trans
      (congrArg (fun z : EReal => z * z) (ref_klane x0 x1 x3 s t hd k)))
  rw [val_main_v67_apply, val_main_v66_apply, val_main_v65_apply, val_main_v64_apply, val_main_v63_apply,
    val_main_cst_4_apply, val_main_v62_apply, val_main_v61_apply, val_main_cst_3_apply]
  exact head_host _ l _ _ (ref_klane x0 x1 x3 s t hd l) (Finset.sum_congr rfl fun k _ => h k)

/-- The three thirds of a token's row. -/
theorem ref_qrow (i : Fin 8192) (e : Fin 1024) : val_main_v70 (F := Ideal) x0 x1 x3 (ix2 i e)
    = mixRow (tokRow x0 x1 x3 (seqOf i) (placeOf i)) ⟨e.val, by omega⟩ := by
  have key : val_main_v70 (F := Ideal) x0 x1 x3 (ix2 i e) = val_main_v57 (F := Ideal) x0 x1 x3
      (ix4 (seqOf i) ⟨16 + (placeOf i).val, by omega⟩ ⟨e.val / 128, by omega⟩ ⟨e.val % 128, by omega⟩) := by
    pointwise [val_main_v70, val_main_v69, val_main_v68]
    rfl
  rw [key, ref_q]
  unfold mixRow
  rw [if_pos (show e.val < 1024 from e.isLt)]
  refine congrArg (fun x => unitHead x ⟨e.val % 128, by omega⟩ * Ideal.ofBits .f32 0x3DB504F3#32) (funext fun k => ?_)
  exact congrArg (tokRow x0 x1 x3 _ _) (Fin.ext (show e.val / 128 * 128 + k.val = 128 * (e.val / 128) + k.val by omega))

theorem ref_krow (i : Fin 8192) (e : Fin 1024) : val_main_v73 (F := Ideal) x0 x1 x3 (ix2 i e)
    = keyMix (tokRow x0 x1 x3 (seqOf i) (placeOf i)) e := by
  have key : val_main_v73 (F := Ideal) x0 x1 x3 (ix2 i e) = val_main_v67 (F := Ideal) x0 x1 x3
      (ix4 (seqOf i) ⟨16 + (placeOf i).val, by omega⟩ ⟨e.val / 128, by omega⟩ ⟨e.val % 128, by omega⟩) := by
    pointwise [val_main_v73, val_main_v72, val_main_v71]
    rfl
  rw [key, ref_k]
  unfold keyMix mixRow
  rw [if_neg (show ¬ 1024 + e.val < 1024 by omega), if_pos (show 1024 + e.val < 2048 by omega)]
  have hl : (⟨(1024 + e.val) % 128, by omega⟩ : Fin 128) = ⟨e.val % 128, by omega⟩ :=
    Fin.ext (show (1024 + e.val) % 128 = e.val % 128 by omega)
  refine congrArg₂ unitHead (funext fun k => ?_) hl.symm
  exact congrArg (tokRow x0 x1 x3 _ _)
    (Fin.ext (show 1024 + (e.val / 128 * 128 + k.val) = 128 * ((1024 + e.val) / 128) + k.val by omega))

theorem ref_vrow (i : Fin 8192) (e : Fin 1024) : val_main_v76 (F := Ideal) x0 x1 x3 (ix2 i e)
    = mixRow (tokRow x0 x1 x3 (seqOf i) (placeOf i)) ⟨2048 + e.val, by omega⟩ := by
  have key : val_main_v76 (F := Ideal) x0 x1 x3 (ix2 i e) = val_main_v45 (F := Ideal) x0 x1 x3
      (ix3 (seqOf i) ⟨16 + (placeOf i).val, by omega⟩ ⟨2048 + e.val, by omega⟩) := by
    pointwise [val_main_v76, val_main_v75, val_main_v74]
    rfl
  rw [key, ref_conv]
  unfold mixRow
  rw [if_neg (show ¬ 2048 + e.val < 1024 by omega), if_neg (show ¬ 2048 + e.val < 2048 by omega)]

/-- The first result: every token's row. -/
theorem ref_qkv : val_main_v78 (F := Ideal) x0 x1 x3 = fun i : S8192x3072.Idx =>
    mixRow (tokRow x0 x1 x3 (seqOf (i 0)) (placeOf (i 0))) (i 1) := by
  funext y
  obtain ⟨i, j, rfl⟩ : ∃ (i : Fin 8192) (j : Fin 3072), y = ix2 i j := ⟨y 0, y 1, eq_ix2 y⟩
  show _ = mixRow (tokRow x0 x1 x3 (seqOf i) (placeOf i)) j
  pointwise [val_main_v78, val_main_v77, ref_qrow, ref_krow, ref_vrow]
  by_cases h1 : j.val < 1024
  · rw [dif_pos h1]
  · by_cases h2 : j.val < 2048
    · rw [dif_neg h1, dif_pos (by omega)]
      exact congrArg (mixRow _) (Fin.ext (show 1024 + (j.val - 1024) = j.val by omega))
    · rw [dif_neg h1, dif_neg (by omega)]
      exact congrArg (mixRow _) (Fin.ext (show 2048 + (j.val - 1024 - 1024) = j.val by omega))

/-- The second result: the keys, turned over. -/
theorem ref_kt : val_main_v80 (F := Ideal) x0 x1 x3 = fun i : S1024x8192.Idx =>
    keyMix (tokRow x0 x1 x3 (seqOf (i 1)) (placeOf (i 1))) (i 0) := by
  funext y
  obtain ⟨a, i, rfl⟩ : ∃ (a : Fin 1024) (i : Fin 8192), y = ix2 a i := ⟨y 0, y 1, eq_ix2 y⟩
  show _ = keyMix (tokRow x0 x1 x3 (seqOf i) (placeOf i)) a
  pointwise [val_main_v80, val_main_v79, ref_krow]

end Cert.Reference4Ideal.Layer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_meta_finite
public import proofs.«01_k».proof.Proof.Host
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Ref
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.SampleHost
public import proofs.«01_k».proof.Proof.SampleRef
public import proofs.«01_k».proof.Proof.Host2
public import proofs.«01_k».proof.Proof.Ref2
public import proofs.«01_k».proof.Proof.Meta2
public import proofs.«01_k».proof.Proof.ConvHost
public import proofs.«01_k».proof.Proof.ConvRef
public import Idealize.ShloMosaic.Adequacy
public import Idealize.ShloMosaic.Init

@[expose] public section

noncomputable section

namespace Cert.Proof

open Idealize.ShloMosaic Idealize.ShloMosaic.TcCoe Idealize.SL.Sem

/-- The reference runs to its end with the arguments kept; it has no semaphore. -/
theorem frame_reference : Cert.quiescent_ReferenceIdeal (hReferenceIdeal := Cert.ReferenceIdeal.Gen.facts) := fun m ρ _ =>
  (θ_run _ _ _).mono (fun r h => ⟨fun c => (h c).2.2.2, sem_eq_zero_of_no_sems (by decide) r.2⟩)
    (Cert.ReferenceIdeal.Value.run m ρ)

section

open Cert.KernelIdeal Cert.KernelIdeal.Gen Cert.KernelIdeal.Layer

/-- The kernel and the reference leave the same three arrays: on both sides each row is the one the row functions name. -/
theorem same : Cert.algebraic_KernelIdeal_ReferenceIdeal (hKernelIdeal := Cert.KernelIdeal.Gen.facts)
    (hReferenceIdeal := Cert.ReferenceIdeal.Gen.facts) := by
  intro m g m' g' _ hagree
  refine ⟨_, _, _, (θ_run _ _ _).mono (fun r h c =>
      ⟨(h c _ (mem_uc main_v20_0 (by decide))).trans (out_p m g c),
        (h c _ (mem_uc main_v20_1 (by decide))).trans (out_ba m g c),
        (h c _ (mem_uc main_v21 (by decide))).trans (out_y m g c),
        (h c _ (mem_uc main_arg0 (by decide))).trans (W3_main_arg0 m g c),
        (h c _ (mem_uc main_arg1 (by decide))).trans (W3_main_arg1 m g c),
        (h c _ (mem_uc main_arg2 (by decide))).trans (W3_main_arg2 m g c),
        (h c _ (mem_uc main_arg3 (by decide))).trans (W3_main_arg3 m g c),
        (h c _ (mem_uc main_arg4 (by decide))).trans (W3_main_arg4 m g c),
        (h c _ (mem_uc main_arg5 (by decide))).trans (W3_main_arg5 m g c),
        (h c _ (mem_uc main_arg6 (by decide))).trans (W3_main_arg6 m g c),
        (h c _ (mem_uc main_arg7 (by decide))).trans (W3_main_arg7 m g c),
        (h c _ (mem_uc main_arg8 (by decide))).trans (W3_main_arg8 m g c),
        (h c _ (mem_uc main_arg9 (by decide))).trans (W3_main_arg9 m g c),
        (h c _ (mem_uc main_arg10 (by decide))).trans (W3_main_arg10 m g c),
        (h c _ (mem_uc main_arg11 (by decide))).trans (W3_main_arg11 m g c),
        (h c _ (mem_uc main_arg12 (by decide))).trans (W3_main_arg12 m g c),
        (h c _ (mem_uc main_arg13 (by decide))).trans (W3_main_arg13 m g c)⟩)
      (run_all m g),
    (θ_run _ _ _).mono (fun r h c => ⟨(h c).1.trans ?_, (h c).2.1.trans ?_, (h c).2.2.1.trans ?_, (h c).2.2.2⟩)
      (Cert.ReferenceIdeal.Value.run m' g')⟩
  · obtain ⟨h0, h1, h2, h3, h4, h5, h6, h7, h8, h9, h10, h11, h12, h13⟩ := hagree c
    rw [← h0, ← h4, ← h5, ← h6]
    exact (Cert.ReferenceIdeal.Read.val_main_v126_eq _).trans (Cert.ReferenceIdeal.Layer.ref_p _ _ _ _)
  · obtain ⟨h0, h1, h2, h3, h4, h5, h6, h7, h8, h9, h10, h11, h12, h13⟩ := hagree c
    rw [← h0, ← h4, ← h5, ← h6]
    exact (Cert.ReferenceIdeal.Read.val_main_v127_eq _).trans (Cert.ReferenceIdeal.Layer.ref_ba _ _ _ _)
  · obtain ⟨h0, h1, h2, h3, h4, h5, h6, h7, h8, h9, h10, h11, h12, h13⟩ := hagree c
    rw [← h0, ← h1, ← h2, ← h3, ← h4, ← h5, ← h6, ← h7, ← h8, ← h9, ← h10, ← h11, ← h12, ← h13]
    exact (Cert.ReferenceIdeal.Read.val_main_v128_eq _).trans (Cert.ReferenceIdeal.Layer.ref_y _ _ _ _ _ _ _ _ _ _ _ _ _ _)

end

/-- The Fourier reference runs to its end with the arguments kept; it has no semaphore. -/
theorem frame_reference2 : Cert.quiescent_Reference2Ideal (hReference2Ideal := Cert.Reference2Ideal.Gen.facts) := fun m ρ _ =>
  (θ_run _ _ _).mono (fun r h => ⟨fun c => (h c).2, sem_eq_zero_of_no_sems (by decide) r.2⟩)
    (Cert.Reference2Ideal.Value.run m ρ)

section

open Cert.Kernel2Ideal Cert.Kernel2Ideal.Gen Cert.Kernel2Ideal.Fourier

/-- The Fourier calls and their reference leave the same rows, the meta rows' projections being finite. -/
theorem same2 : Cert.algebraic_Kernel2Ideal_Reference2Ideal_pre_meta_finite (hKernel2Ideal := Cert.Kernel2Ideal.Gen.facts)
    (hReference2Ideal := Cert.Reference2Ideal.Gen.facts) (hPre_meta_finite := Cert.Pre_meta_finite.Gen.facts) := by
  intro m g m' g' hpre hagree
  refine ⟨_, (θ_run _ _ _).mono (fun r h c =>
      ⟨(h c _ (mem_uc main_v63 (by decide))).trans (out_y m g c),
        (h c _ (mem_uc main_arg0 (by decide))).trans (W5_main_arg0 m g c),
        (h c _ (mem_uc main_arg1 (by decide))).trans (W5_main_arg1 m g c)⟩)
      (run_all m g),
    (θ_run _ _ _).mono (fun r h c => ⟨(h c).1.trans ?_, (h c).2⟩)
      (Cert.Reference2Ideal.Value.run m' g')⟩
  obtain ⟨h0, h1⟩ := hagree c
  have hm := Cert.Pre_meta_finite.Fourier.finite_meta _ _ (hpre c)
  rw [← h1] at hm
  rw [← h0, ← h1]
  exact (Cert.Reference2Ideal.Read.val_main_v51_eq m' c).trans (Cert.Reference2Ideal.Fourier.ref_out _ _ hm)

end

/-- The reference at the sample's shapes runs to its end with the arguments kept; it has no semaphore. -/
theorem frame_reference3 : Cert.quiescent_Reference3Ideal (hReference3Ideal := Cert.Reference3Ideal.Gen.facts) := fun m ρ _ =>
  (θ_run _ _ _).mono (fun r h => ⟨fun c => (h c).2.2.2, sem_eq_zero_of_no_sems (by decide) r.2⟩)
    (Cert.Reference3Ideal.Value.run m ρ)

section

open Cert.Kernel3Ideal Cert.Kernel3Ideal.Gen Cert.Kernel3Ideal.Layer

/-- The kernel and the reference leave the same three arrays at the sample's shapes: on both sides each row is the one the row functions name. -/
theorem same3 : Cert.algebraic_Kernel3Ideal_Reference3Ideal (hKernel3Ideal := Cert.Kernel3Ideal.Gen.facts)
    (hReference3Ideal := Cert.Reference3Ideal.Gen.facts) := by
  intro m g m' g' _ hagree
  refine ⟨_, _, _, (θ_run _ _ _).mono (fun r h c =>
      ⟨(h c _ (mem_uc main_v20_0 (by decide))).trans (out_p m g c),
        (h c _ (mem_uc main_v20_1 (by decide))).trans (out_ba m g c),
        (h c _ (mem_uc main_v21 (by decide))).trans (out_y m g c),
        (h c _ (mem_uc main_arg0 (by decide))).trans (W3_main_arg0 m g c),
        (h c _ (mem_uc main_arg1 (by decide))).trans (W3_main_arg1 m g c),
        (h c _ (mem_uc main_arg2 (by decide))).trans (W3_main_arg2 m g c),
        (h c _ (mem_uc main_arg3 (by decide))).trans (W3_main_arg3 m g c),
        (h c _ (mem_uc main_arg4 (by decide))).trans (W3_main_arg4 m g c),
        (h c _ (mem_uc main_arg5 (by decide))).trans (W3_main_arg5 m g c),
        (h c _ (mem_uc main_arg6 (by decide))).trans (W3_main_arg6 m g c),
        (h c _ (mem_uc main_arg7 (by decide))).trans (W3_main_arg7 m g c),
        (h c _ (mem_uc main_arg8 (by decide))).trans (W3_main_arg8 m g c),
        (h c _ (mem_uc main_arg9 (by decide))).trans (W3_main_arg9 m g c),
        (h c _ (mem_uc main_arg10 (by decide))).trans (W3_main_arg10 m g c),
        (h c _ (mem_uc main_arg11 (by decide))).trans (W3_main_arg11 m g c),
        (h c _ (mem_uc main_arg12 (by decide))).trans (W3_main_arg12 m g c),
        (h c _ (mem_uc main_arg13 (by decide))).trans (W3_main_arg13 m g c)⟩)
      (run_all m g),
    (θ_run _ _ _).mono (fun r h c => ⟨(h c).1.trans ?_, (h c).2.1.trans ?_, (h c).2.2.1.trans ?_, (h c).2.2.2⟩)
      (Cert.Reference3Ideal.Value.run m' g')⟩
  · obtain ⟨h0, h1, h2, h3, h4, h5, h6, h7, h8, h9, h10, h11, h12, h13⟩ := hagree c
    rw [← h0, ← h4, ← h5, ← h6]
    exact (Cert.Reference3Ideal.Read.val_main_v126_eq _).trans (Cert.Reference3Ideal.Layer.ref_p _ _ _ _)
  · obtain ⟨h0, h1, h2, h3, h4, h5, h6, h7, h8, h9, h10, h11, h12, h13⟩ := hagree c
    rw [← h0, ← h4, ← h5, ← h6]
    exact (Cert.Reference3Ideal.Read.val_main_v127_eq _).trans (Cert.Reference3Ideal.Layer.ref_ba _ _ _ _)
  · obtain ⟨h0, h1, h2, h3, h4, h5, h6, h7, h8, h9, h10, h11, h12, h13⟩ := hagree c
    rw [← h0, ← h1, ← h2, ← h3, ← h4, ← h5, ← h6, ← h7, ← h8, ← h9, ← h10, ← h11, ← h12, ← h13]
    exact (Cert.Reference3Ideal.Read.val_main_v128_eq _).trans (Cert.Reference3Ideal.Layer.ref_y _ _ _ _ _ _ _ _ _ _ _ _ _ _)

end

theorem frame_reference4 : Cert.quiescent_Reference4Ideal (hReference4Ideal := Cert.Reference4Ideal.Gen.facts) := fun m ρ _ =>
  (θ_run _ _ _).mono (fun r h => ⟨fun c => (h c).2.2, sem_eq_zero_of_no_sems (by decide) r.2⟩)
    (Cert.Reference4Ideal.Value.run m ρ)

section

open Cert.Kernel4Ideal Cert.Kernel4Ideal.Gen Cert.Kernel4Ideal.Layer

/-- The convolution kernel and its reference leave the same two arrays: on both sides each row is the one `ConvTok` names. -/
theorem same4 : Cert.algebraic_Kernel4Ideal_Reference4Ideal (hKernel4Ideal := Cert.Kernel4Ideal.Gen.facts)
    (hReference4Ideal := Cert.Reference4Ideal.Gen.facts) := by
  intro m g m' g' _ hagree
  refine ⟨_, _, (θ_run _ _ _).mono (fun r h c =>
      ⟨((h.2 c).1 5).trans (out_qkv m c), ((h.2 c).1 6).trans (out_kt m c), h.1 c⟩)
      (θ_run_and (unchanged m g) (run_main m g)),
    (θ_run _ _ _).mono (fun r h c => ⟨(h c).1.trans ?_, (h c).2.1.trans ?_, (h c).2.2⟩)
      (Cert.Reference4Ideal.Value.run m' g')⟩
  · obtain ⟨h0, h1, h2, h3, h4, h5⟩ := hagree c
    refine (Cert.Reference4Ideal.Read.val_main_v78_eq _ c).trans ((Cert.Reference4Ideal.Layer.ref_qkv _ _ _).trans ?_)
    rw [h0, h1, h3]
  · obtain ⟨h0, h1, h2, h3, h4, h5⟩ := hagree c
    refine (Cert.Reference4Ideal.Read.val_main_v80_eq _ c).trans ((Cert.Reference4Ideal.Layer.ref_kt _ _ _).trans ?_)
    rw [h0, h1, h3]

end

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_meta_finite.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ,
  fun m ρ _ => Cert.Kernel2Ideal.Gen.frame m ρ, frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  trivial, same,
  IdealRules.named_const.statement Cert.Kernel2Ideal.κ "ortho" .f32 0x3AB450FC#32 (((Real.sqrt 528384)⁻¹ : ℝ) : EReal) rfl,
  same2, trivial, same3, trivial, same4⟩

end Cert.Proof

end
